-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6)
      ∧ r.2.mem ((c.tc : Thread Cert.BackRefIdeal.nD Cert.BackRefIdeal.τ).loc Cert.BackRefIdeal.main_arg7) = m ((c.tc : Thread Cert.BackRefIdeal.nD Cert.BackRefIdeal.τ).loc Cert.BackRefIdeal.main_arg7))
      ∧ r.2.sem = fun _ => 0)

def preserves_Kernel_KernelIdeal : Prop :=
  IdealRules.named_const.Statement Cert.KernelIdeal.κ "scale_log2" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_v20) = v1 c
          ∧ r.2.mem ((c.tc : Thread Cert.MlpRefIdeal.nD Cert.MlpRefIdeal.τ).loc Cert.MlpRefIdeal.main_v18) = v2 c
          ∧ r.2.mem ((c.tc : Thread Cert.MlpRefIdeal.nD Cert.MlpRefIdeal.τ).loc Cert.MlpRefIdeal.main_v33) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Att_AttIdeal : Prop :=
  True

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v0)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v5) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)) →
    ∃ (v0 : (c : Dev Cert.SsdIdeal.nD) → Buf (Elt Ideal) ((c.tc : Thread Cert.SsdIdeal.nD Cert.SsdIdeal.τ).loc Cert.SsdIdeal.main_v0)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v0) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v5) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v5) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)
      ∧ m' ((c.tc : Thread Cert.BackRefIdeal.nD Cert.BackRefIdeal.τ).loc Cert.BackRefIdeal.main_arg7) = m ((c.tc : Thread Cert.BackIdeal.nD Cert.BackIdeal.τ).loc Cert.BackIdeal.main_arg7)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)) (v2 : (c : Dev Cert.BackIdeal.nD) → Buf (Elt Ideal) ((c.tc : Thread Cert.BackIdeal.nD Cert.BackIdeal.τ).loc Cert.BackIdeal.main_v0_2)) (v3 : (c : Dev Cert.BackIdeal.nD) → Buf (Elt Ideal) ((c.tc : Thread Cert.BackIdeal.nD Cert.BackIdeal.τ).loc Cert.BackIdeal.main_v0_3)) (v4 : (c : Dev Cert.BackIdeal.nD) → Buf (Elt Ideal) ((c.tc : Thread Cert.BackIdeal.nD Cert.BackIdeal.τ).loc Cert.BackIdeal.main_v0_4)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_v0_2) = v2 c
          ∧ r.2.mem ((c.tc : Thread Cert.BackIdeal.nD Cert.BackIdeal.τ).loc Cert.BackIdeal.main_v0_3) = v3 c
          ∧ r.2.mem ((c.tc : Thread Cert.BackIdeal.nD Cert.BackIdeal.τ).loc Cert.BackIdeal.main_v0_4) = v4 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v89) = v0 c
          ∧ r.2.mem ((c.tc : Thread Cert.BackRefIdeal.nD Cert.BackRefIdeal.τ).loc Cert.BackRefIdeal.main_v90) = v1 c
          ∧ r.2.mem ((c.tc : Thread Cert.BackRefIdeal.nD Cert.BackRefIdeal.τ).loc Cert.BackRefIdeal.main_v91) = v2 c
          ∧ r.2.mem ((c.tc : Thread Cert.BackRefIdeal.nD Cert.BackRefIdeal.τ).loc Cert.BackRefIdeal.main_v14) = v3 c
          ∧ r.2.mem ((c.tc : Thread Cert.BackRefIdeal.nD Cert.BackRefIdeal.τ).loc Cert.BackRefIdeal.main_v66) = v4 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6)
          ∧ r.2.mem ((c.tc : Thread Cert.BackRefIdeal.nD Cert.BackRefIdeal.τ).loc Cert.BackRefIdeal.main_arg7) = m' ((c.tc : Thread Cert.BackRefIdeal.nD Cert.BackRefIdeal.τ).loc Cert.BackRefIdeal.main_arg7))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMlp : Cert.Mlp.Facts) (hMlpIdeal : Cert.MlpIdeal.Facts) (hMlpRefIdeal : Cert.MlpRefIdeal.Facts) (hIn : Cert.In.Facts) (hInIdeal : Cert.InIdeal.Facts) (hInRefIdeal : Cert.InRefIdeal.Facts) (hAtt : Cert.Att.Facts) (hAttIdeal : Cert.AttIdeal.Facts) (hAttRefIdeal : Cert.AttRefIdeal.Facts) (hSsd : Cert.Ssd.Facts) (hSsdIdeal : Cert.SsdIdeal.Facts) (hSsdRefIdeal : Cert.SsdRefIdeal.Facts) (hUq : Cert.Uq.Facts) (hUqIdeal : Cert.UqIdeal.Facts) (hUqRefIdeal : Cert.UqRefIdeal.Facts) (hKv : Cert.Kv.Facts) (hKvIdeal : Cert.KvIdeal.Facts) (hKvRefIdeal : Cert.KvRefIdeal.Facts) (hBack : Cert.Back.Facts) (hBackIdeal : Cert.BackIdeal.Facts) (hBackRefIdeal : Cert.BackRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Mlp (hMlp := hMlp)
    ∧ quiescent_MlpIdeal (hMlpIdeal := hMlpIdeal)
    ∧ quiescent_MlpRefIdeal (hMlpRefIdeal := hMlpRefIdeal)
    ∧ quiescent_In (hIn := hIn)
    ∧ quiescent_InIdeal (hInIdeal := hInIdeal)
    ∧ quiescent_InRefIdeal (hInRefIdeal := hInRefIdeal)
    ∧ quiescent_Att (hAtt := hAtt)
    ∧ quiescent_AttIdeal (hAttIdeal := hAttIdeal)
    ∧ quiescent_AttRefIdeal (hAttRefIdeal := hAttRefIdeal)
    ∧ quiescent_Ssd (hSsd := hSsd)
    ∧ quiescent_SsdIdeal (hSsdIdeal := hSsdIdeal)
    ∧ quiescent_SsdRefIdeal (hSsdRefIdeal := hSsdRefIdeal)
    ∧ quiescent_Uq (hUq := hUq)
    ∧ quiescent_UqIdeal (hUqIdeal := hUqIdeal)
    ∧ quiescent_UqRefIdeal (hUqRefIdeal := hUqRefIdeal)
    ∧ quiescent_Kv (hKv := hKv)
    ∧ quiescent_KvIdeal (hKvIdeal := hKvIdeal)
    ∧ quiescent_KvRefIdeal (hKvRefIdeal := hKvRefIdeal)
    ∧ quiescent_Back (hBack := hBack)
    ∧ quiescent_BackIdeal (hBackIdeal := hBackIdeal)
    ∧ quiescent_BackRefIdeal (hBackRefIdeal := hBackRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Mlp_MlpIdeal
    ∧ algebraic_MlpIdeal_MlpRefIdeal (hMlpIdeal := hMlpIdeal) (hMlpRefIdeal := hMlpRefIdeal)
    ∧ preserves_In_InIdeal
    ∧ algebraic_InIdeal_InRefIdeal (hInIdeal := hInIdeal) (hInRefIdeal := hInRefIdeal)
    ∧ preserves_Att_AttIdeal
    ∧ algebraic_AttIdeal_AttRefIdeal (hAttIdeal := hAttIdeal) (hAttRefIdeal := hAttRefIdeal)
    ∧ preserves_Ssd_SsdIdeal
    ∧ algebraic_SsdIdeal_SsdRefIdeal (hSsdIdeal := hSsdIdeal) (hSsdRefIdeal := hSsdRefIdeal)
    ∧ preserves_Uq_UqIdeal
    ∧ algebraic_UqIdeal_UqRefIdeal (hUqIdeal := hUqIdeal) (hUqRefIdeal := hUqRefIdeal)
    ∧ preserves_Kv_KvIdeal
    ∧ algebraic_KvIdeal_KvRefIdeal (hKvIdeal := hKvIdeal) (hKvRefIdeal := hKvRefIdeal)
    ∧ preserves_Back_BackIdeal
    ∧ algebraic_BackIdeal_BackRefIdeal (hBackIdeal := hBackIdeal) (hBackRefIdeal := hBackRefIdeal)
-- ==== Pre_finite.lean ====
abbrev S8192x1024 : Shape := ⟨2, ![8192, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn_part1 {F : FTy → Type} [FloatOps F] (main_arg3 : FVec F S8192x1024 .bf16) (main_v12 : IVec S8192x1024 1) (main_v15 : IVec S8192x1024 1) (main_v17 : IVec S8192x1024 1) : IVec S8192x1024 1 :=
  let main_v18 : IVec S8192x1024 1 := andi main_v15 main_v17
  let main_v19 : IVec S8192x1024 1 := andi main_v12 main_v18
  let main_v20 : FVec F S8192x1024 .f32 := (extf .f32 · bitsLt_bf16_f32) main_arg3
  let main_cst_5 : FVec F S_ .f32 := constant S_ .f32 0x7F800000#32
  let main_v21 : FVec F S8192x1024 .f32 := broadcastInDim S8192x1024 ![] bcast_S_S8192x1024 main_cst_5
  let main_v22 : IVec S8192x1024 1 := cmpf .olt main_v20 main_v21
  let main_cst_6 : FVec F S_ .f32 := constant S_ .f32 0xFF800000#32
  let main_v23 : FVec F S8192x1024 .f32 := broadcastInDim S8192x1024 ![] bcast_S_S8192x1024 main_cst_6
  let main_v24 : IVec S8192x1024 1 := cmpf .ogt main_v20 main_v23
  let main_v25 : IVec S8192x1024 1 := andi main_v22 main_v24
  let main_v26 : IVec S8192x1024 1 := andi main_v19 main_v25
  main_v26

def fn {F : FTy → Type} [FloatOps F] (main_arg0 : FVec F S8192x1024 .bf16) (main_arg1 : FVec F S8192x1024 .bf16) (main_arg2 : FVec F S8192x1024 .bf16) (main_arg3 : FVec F S8192x1024 .bf16) : IVec S8192x1024 1 :=
  let main_v0 : FVec F S8192x1024 .f32 := (extf .f32 · bitsLt_bf16_f32) main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_cst_0 : FVec F S_ .f32 := constant S_ .f32 0xFF800000#32
  let main_v3 : FVec F S8192x1024 .f32 := broadcastInDim S8192x1024 ![] bcast_S_S8192x1024 main_cst_0
  let main_v4 : IVec S8192x1024 1 := cmpf .ogt main_v0 main_v3
  let main_v5 : IVec S8192x1024 1 := andi main_v2 main_v4
  let main_v6 : FVec F S8192x1024 .f32 := (extf .f32 · bitsLt_bf16_f32) main_arg1
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_cst_2 : FVec F S_ .f32 := constant S_ .f32 0xFF800000#32
  let main_v9 : FVec F S8192x1024 .f32 := broadcastInDim S8192x1024 ![] bcast_S_S8192x1024 main_cst_2
  let main_v10 : IVec S8192x1024 1 := cmpf .ogt main_v6 main_v9
  let main_v11 : IVec S8192x1024 1 := andi main_v8 main_v10
  let main_v12 : IVec S8192x1024 1 := andi main_v5 main_v11
  let main_v13 : FVec F S8192x1024 .f32 := (extf .f32 · bitsLt_bf16_f32) main_arg2
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  let main_cst_4 : FVec F S_ .f32 := constant S_ .f32 0xFF800000#32
  let main_v16 : FVec F S8192x1024 .f32 := broadcastInDim S8192x1024 ![] bcast_S_S8192x1024 main_cst_4
  let main_v17 : IVec S8192x1024 1 := cmpf .ogt main_v13 main_v16
  fn_part1 (F := F) main_arg3 main_v12 main_v15 main_v17
-- ==== Kernel.lean ====
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8x1x8192 : Shape := ⟨3, ![8, 1, 8192]⟩
abbrev S8x8x8192 : Shape := ⟨3, ![8, 8, 8192]⟩
abbrev S8192x256 : Shape := ⟨2, ![8192, 256]⟩
abbrev S512x256 : Shape := ⟨2, ![512, 256]⟩
abbrev S2x8x8192 : Shape := ⟨3, ![2, 8, 8192]⟩
abbrev S512x512 : Shape := ⟨2, ![512, 512]⟩
abbrev S512x1 : Shape := ⟨2, ![512, 1]⟩
abbrev S1x512 : Shape := ⟨2, ![1, 512]⟩
abbrev S512x128 : Shape := ⟨2, ![512, 128]⟩
abbrev S1x1x512 : Shape := ⟨3, ![1, 1, 512]⟩

abbrev nBuf : Space → Nat
  | .hbm => 78
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S1x8192x8192, .i1⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S8x8192, .f32⟩
  | .hbm, ⟨52, _⟩ => ⟨S8x8192, .f32⟩
  | .hbm, ⟨53, _⟩ => ⟨S8x8192, .f32⟩
  | .hbm, ⟨54, _⟩ => ⟨S8x8192, .f32⟩
  | .hbm, ⟨55, _⟩ => ⟨S_, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192x8192, .f32⟩
  | .hbm, ⟨60, _⟩ => ⟨S8x8192x8192, .f32⟩
  | .hbm, ⟨61, _⟩ => ⟨S8192x1024, .f32⟩
  | .hbm, ⟨62, _⟩ => ⟨S8192x8x128, .f32⟩
  | .hbm, ⟨63, _⟩ => ⟨S8x128x8192, .f32⟩
  | .hbm, ⟨64, _⟩ => ⟨S8192x8x128, .f32⟩
  | .hbm, ⟨65, _⟩ => ⟨S8192x1024, .f32⟩
  | .hbm, ⟨66, _⟩ => ⟨S8192x8x128, .f32⟩
  | .hbm, ⟨67, _⟩ => ⟨S8192x8x128, .f32⟩
  | .hbm, ⟨68, _⟩ => ⟨S_, .f32⟩
  | .hbm, ⟨69, _⟩ => ⟨S8192x8, .f32⟩
  | .hbm, ⟨70, _⟩ => ⟨S8x8192, .f32⟩
  | .hbm, ⟨71, _⟩ => ⟨S8x1x8192, .f32⟩
  | .hbm, ⟨72, _⟩ => ⟨S8x8x8192, .f32⟩
  | .hbm, ⟨73, _⟩ => ⟨S8x1x8192, .f32⟩
  | .hbm, ⟨74, _⟩ => ⟨S8x8x8192, .f32⟩
  | .hbm, ⟨75, _⟩ => ⟨S8192x1024, .f32⟩
  | .hbm, ⟨76, _⟩ => ⟨S8192x1024, .bf16⟩
  | .hbm, ⟨77, _⟩ => ⟨S8192x1024, .bf16⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x256, .bf16⟩
  | .local _ .vmem, ⟨7, _⟩ => ⟨S8192x256, .bf16⟩
  | .local _ .vmem, ⟨8, _⟩ => ⟨S2x8x8192, .f32⟩
  | .local _ .vmem, ⟨9, _⟩ => ⟨S2x8x8192, .f32⟩
  | .local _ .vmem, ⟨10, _⟩ => ⟨S2x8x8192, .f32⟩
  | .local _ .vmem, ⟨11, _⟩ => ⟨S2x8x8192, .f32⟩
  | .local _ .vmem, ⟨12, _⟩ => ⟨S8192x256, .f32⟩
  | .local _ .vmem, ⟨13, _⟩ => ⟨S8192x256, .f32⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .f32⟩
  | .local _ .vmem, ⟨19, _⟩ => ⟨S512x256, .f32⟩
  | .local _ .vmem, ⟨20, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45_0 : Ref sig .tc := ⟨.hbm, 75, rfl⟩
abbrev main_v45_1 : Ref sig .tc := ⟨.hbm, 76, rfl⟩
abbrev main_v45_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v11 : Index := Scalar.indexCast v9
  let c0_5 : Index := 0#32
  ![v11.toNat, 0]
def k0_off2 (i : grid0.Coords) : Fin 3 → Nat :=
  let c0_10 : Index := 0#32
  let c0_11 : Index := 0#32
  let arg1 : BitVec 32 := BitVec.ofNat 32 (i 1).val
  let c512_i32 : BitVec 32 := 512#32
  let v8 : BitVec 32 := Scalar.muli arg1 c512_i32
  let v9 : BitVec 32 := v8
  let v20 : Index := Scalar.indexCast v9
  ![0, 0, v20.toNat]
def k0_off3 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v54 : Index := Scalar.indexCast v9
  let c128_28 : Index := 128#32
  ![v54.toNat, 128]
def k0_off4 (i : grid0.Coords) : Fin 3 → Nat :=
  let c1 : Index := 1#32
  let c0_34 : Index := 0#32
  let arg1 : BitVec 32 := BitVec.ofNat 32 (i 1).val
  let c512_i32 : BitVec 32 := 512#32
  let v8 : BitVec 32 := Scalar.muli arg1 c512_i32
  let v9 : BitVec 32 := v8
  let v63 : Index := Scalar.indexCast v9
  ![1, 0, v63.toNat]
@[reducible] def k0_t1_loop (i : grid0.Coords) : Scf.Loop 32 :=
  let c0_i32_56 : BitVec 32 := 0#32
  let c15_i32 : BitVec 32 := 15#32
  let arg1 : BitVec 32 := BitVec.ofNat 32 (i 1).val
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_58 : BitVec 32 := 1#32
  ⟨c0_i32_56, v118, c1_i32_58⟩
def k0_mult2 (i : grid0.Coords) (k0_t1 : Fin (k0_t1_loop i).trips) : BitVec 32 :=
  let arg1 : BitVec 32 := BitVec.ofNat 32 (i 1).val
  let c1_i32_79 : BitVec 32 := 1#32
  let v144 : BitVec 32 := Scalar.addi arg1 c1_i32_79
  let c0_i32_80 : BitVec 32 := 0#32
  let v145 : BitVec 32 := Scalar.addi v144 c0_i32_80
  let c4_i32_81 : BitVec 32 := 4#32
  let c0_i32_56 : BitVec 32 := 0#32
  let c1_i32_58 : BitVec 32 := 1#32
  let arg14 : BitVec 32 := Scf.iv c0_i32_56 c1_i32_58 k0_t1
  let v146 : BitVec 32 := Scalar.muli c4_i32_81 arg14
  let v147 : BitVec 32 := Scalar.addi v145 v146
  let c512_i32_82 : BitVec 32 := 512#32
  let v148 : BitVec 32 := Scalar.muli v147 c512_i32_82
  v148
def k0_off5 (i : grid0.Coords) (k0_t1 : Fin (k0_t1_loop i).trips) (c0_i32_80 : BitVec 32) : Fin 2 → Nat :=
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c1_i32_58 : BitVec 32 := 1#32
  let arg14 : BitVec 32 := Scf.iv c0_i32_56 c1_i32_58 k0_t1
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v151 : Index := Scalar.indexCast v149
  let c0_85 : Index := 0#32
  ![v151.toNat, 0]
def k0_off6 (i : grid0.Coords) (k0_t1 : Fin (k0_t1_loop i).trips) (c0_i32_80 : BitVec 32) : Fin 3 → Nat :=
  let c0_89 : Index := 0#32
  let c0_90 : Index := 0#32
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c1_i32_58 : BitVec 32 := 1#32
  let arg14 : BitVec 32 := Scf.iv c0_i32_56 c1_i32_58 k0_t1
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v158 : Index := Scalar.indexCast v149
  ![0, 0, v158.toNat]
def k0_off7 (i : grid0.Coords) (k0_t1 : Fin (k0_t1_loop i).trips) (c0_i32_80 : BitVec 32) : Fin 2 → Nat :=
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c1_i32_58 : BitVec 32 := 1#32
  let arg14 : BitVec 32 := Scf.iv c0_i32_56 c1_i32_58 k0_t1
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v196 : Index := Scalar.indexCast v149
  let c128_112 : Index := 128#32
  ![v196.toNat, 128]
def k0_off8 (i : grid0.Coords) (k0_t1 : Fin (k0_t1_loop i).trips) (c0_i32_80 : BitVec 32) : Fin 3 → Nat :=
  let c1_116 : Index := 1#32
  let c0_117 : Index := 0#32
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c1_i32_58 : BitVec 32 := 1#32
  let arg14 : BitVec 32 := Scf.iv c0_i32_56 c1_i32_58 k0_t1
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v203 : Index := Scalar.indexCast v149
  ![1, 0, v203.toNat]
def k0_mult3 (i : grid0.Coords) (k0_t1 : Fin (k0_t1_loop i).trips) : BitVec 32 :=
  let arg1 : BitVec 32 := BitVec.ofNat 32 (i 1).val
  let c1_i32_137 : BitVec 32 := 1#32
  let v240 : BitVec 32 := Scalar.addi arg1 c1_i32_137
  let c1_i32_138 : BitVec 32 := 1#32
  let v241 : BitVec 32 := Scalar.addi v240 c1_i32_138
  let c4_i32_139 : BitVec 32 := 4#32
  let c0_i32_56 : BitVec 32 := 0#32
  let c1_i32_58 : BitVec 32 := 1#32
  let arg14 : BitVec 32 := Scf.iv c0_i32_56 c1_i32_58 k0_t1
  let v242 : BitVec 32 := Scalar.muli c4_i32_139 arg14
  let v243 : BitVec 32 := Scalar.addi v241 v242
  let c512_i32_140 : BitVec 32 := 512#32
  let v244 : BitVec 32 := Scalar.muli v243 c512_i32_140
  v244
def k0_mult4 (i : grid0.Coords) (k0_t1 : Fin (k0_t1_loop i).trips) : BitVec 32 :=
  let arg1 : BitVec 32 := BitVec.ofNat 32 (i 1).val
  let c1_i32_195 : BitVec 32 := 1#32
  let v336 : BitVec 32 := Scalar.addi arg1 c1_i32_195
  let c2_i32_196 : BitVec 32 := 2#32
  let v337 : BitVec 32 := Scalar.addi v336 c2_i32_196
  let c4_i32_197 : BitVec 32 := 4#32
  let c0_i32_56 : BitVec 32 := 0#32
  let c1_i32_58 : BitVec 32 := 1#32
  let arg14 : BitVec 32 := Scf.iv c0_i32_56 c1_i32_58 k0_t1
  let v338 : BitVec 32 := Scalar.muli c4_i32_197 arg14
  let v339 : BitVec 32 := Scalar.addi v337 v338
  let c512_i32_198 : BitVec 32 := 512#32
  let v340 : BitVec 32 := Scalar.muli v339 c512_i32_198
  v340
def k0_mult5 (i : grid0.Coords) (k0_t1 : Fin (k0_t1_loop i).trips) : BitVec 32 :=
  let arg1 : BitVec 32 := BitVec.ofNat 32 (i 1).val
  let c1_i32_253 : BitVec 32 := 1#32
  let v432 : BitVec 32 := Scalar.addi arg1 c1_i32_253
  let c3_i32 : BitVec 32 := 3#32
  let v433 : BitVec 32 := Scalar.addi v432 c3_i32
  let c4_i32_254 : BitVec 32 := 4#32
  let c0_i32_56 : BitVec 32 := 0#32
  let c1_i32_58 : BitVec 32 := 1#32
  let arg14 : BitVec 32 := Scf.iv c0_i32_56 c1_i32_58 k0_t1
  let v434 : BitVec 32 := Scalar.muli c4_i32_254 arg14
  let v435 : BitVec 32 := Scalar.addi v433 v434
  let c512_i32_255 : BitVec 32 := 512#32
  let v436 : BitVec 32 := Scalar.muli v435 c512_i32_255
  v436
@[reducible] def k0_t2_loop (i : grid0.Coords) : Scf.Loop 32 :=
  let c0_i32_56 : BitVec 32 := 0#32
  let c15_i32 : BitVec 32 := 15#32
  let arg1 : BitVec 32 := BitVec.ofNat 32 (i 1).val
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let v115 : BitVec 32 := Scalar.addi c0_i32_56 v114
  let c1_i32_59 : BitVec 32 := 1#32
  ⟨v118, v115, c1_i32_59⟩
def k0_mult6 (i : grid0.Coords) (k0_t2 : Fin (k0_t2_loop i).trips) : BitVec 32 :=
  let arg1 : BitVec 32 := BitVec.ofNat 32 (i 1).val
  let c1_i32_79 : BitVec 32 := 1#32
  let v144 : BitVec 32 := Scalar.addi arg1 c1_i32_79
  let c0_i32_80 : BitVec 32 := 0#32
  let v145 : BitVec 32 := Scalar.addi v144 c0_i32_80
  let c4_i32_81 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v146 : BitVec 32 := Scalar.muli c4_i32_81 arg14
  let v147 : BitVec 32 := Scalar.addi v145 v146
  let c512_i32_82 : BitVec 32 := 512#32
  let v148 : BitVec 32 := Scalar.muli v147 c512_i32_82
  v148
def k0_off9 (i : grid0.Coords) (k0_t2 : Fin (k0_t2_loop i).trips) (c0_i32_80 : BitVec 32) : Fin 2 → Nat :=
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v151 : Index := Scalar.indexCast v149
  let c0_85 : Index := 0#32
  ![v151.toNat, 0]
def k0_off10 (i : grid0.Coords) (k0_t2 : Fin (k0_t2_loop i).trips) (c0_i32_80 : BitVec 32) : Fin 3 → Nat :=
  let c0_89 : Index := 0#32
  let c0_90 : Index := 0#32
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v158 : Index := Scalar.indexCast v149
  ![0, 0, v158.toNat]
def k0_off11 (i : grid0.Coords) (k0_t2 : Fin (k0_t2_loop i).trips) (c0_i32_80 : BitVec 32) : Fin 2 → Nat :=
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v196 : Index := Scalar.indexCast v149
  let c128_112 : Index := 128#32
  ![v196.toNat, 128]
def k0_off12 (i : grid0.Coords) (k0_t2 : Fin (k0_t2_loop i).trips) (c0_i32_80 : BitVec 32) : Fin 3 → Nat :=
  let c1_116 : Index := 1#32
  let c0_117 : Index := 0#32
  let arg1 : BitVec 32 := BitVec.ofNat 32 (i 1).val
  let c1_i32_79 : BitVec 32 := 1#32
  let v144 : BitVec 32 := Scalar.addi arg1 c1_i32_79
  let v145 : BitVec 32 := Scalar.addi v144 c0_i32_80
  let c4_i32_81 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v146 : BitVec 32 := Scalar.muli c4_i32_81 arg14
  let v147 : BitVec 32 := Scalar.addi v145 v146
  let c512_i32_82 : BitVec 32 := 512#32
  let v148 : BitVec 32 := Scalar.muli v147 c512_i32_82
  let v149 : BitVec 32 := v148
  let v203 : Index := Scalar.indexCast v149
  ![1, 0, v203.toNat]
def k0_mult7 (i : grid0.Coords) (k0_t2 : Fin (k0_t2_loop i).trips) : BitVec 32 :=
  let arg1 : BitVec 32 := BitVec.ofNat 32 (i 1).val
  let c1_i32_137 : BitVec 32 := 1#32
  let v240 : BitVec 32 := Scalar.addi arg1 c1_i32_137
  let c1_i32_138 : BitVec 32 := 1#32
  let v241 : BitVec 32 := Scalar.addi v240 c1_i32_138
  let c4_i32_139 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v242 : BitVec 32 := Scalar.muli c4_i32_139 arg14
  let v243 : BitVec 32 := Scalar.addi v241 v242
  let c512_i32_140 : BitVec 32 := 512#32
  let v244 : BitVec 32 := Scalar.muli v243 c512_i32_140
  v244
def k0_mult8 (i : grid0.Coords) (k0_t2 : Fin (k0_t2_loop i).trips) : BitVec 32 :=
  let arg1 : BitVec 32 := BitVec.ofNat 32 (i 1).val
  let c1_i32_195 : BitVec 32 := 1#32
  let v336 : BitVec 32 := Scalar.addi arg1 c1_i32_195
  let c2_i32_196 : BitVec 32 := 2#32
  let v337 : BitVec 32 := Scalar.addi v336 c2_i32_196
  let c4_i32_197 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v338 : BitVec 32 := Scalar.muli c4_i32_197 arg14
  let v339 : BitVec 32 := Scalar.addi v337 v338
  let c512_i32_198 : BitVec 32 := 512#32
  let v340 : BitVec 32 := Scalar.muli v339 c512_i32_198
  v340
def k0_mult9 (i : grid0.Coords) (k0_t2 : Fin (k0_t2_loop i).trips) : BitVec 32 :=
  let arg1 : BitVec 32 := BitVec.ofNat 32 (i 1).val
  let c1_i32_253 : BitVec 32 := 1#32
  let v432 : BitVec 32 := Scalar.addi arg1 c1_i32_253
  let c3_i32 : BitVec 32 := 3#32
  let v433 : BitVec 32 := Scalar.addi v432 c3_i32
  let c4_i32_254 : BitVec 32 := 4#32
  let c0_i32_56 : BitVec 32 := 0#32
  let c15_i32 : BitVec 32 := 15#32
  let v96 : BitVec 32 := Scalar.subi c15_i32 arg1
  let c0_i32_50 : BitVec 32 := 0#32
  let v98 : BitVec 1 := Scalar.cmpi .sgt v96 c0_i32_50
  let v99 : BitVec 32 := Scalar.extui v98
  let c0_i32_51 : BitVec 32 := 0#32
  let v100 : BitVec 1 := Scalar.cmpi .slt v96 c0_i32_51
  let v101 : BitVec 32 := Scalar.extui v100
  let v102 : BitVec 32 := Scalar.subi v99 v101
  let c4_i32 : BitVec 32 := 4#32
  let c0_i32_52 : BitVec 32 := 0#32
  let v103 : BitVec 1 := Scalar.cmpi .sgt c4_i32 c0_i32_52
  let v104 : BitVec 32 := Scalar.extui v103
  let c0_i32_53 : BitVec 32 := 0#32
  let v105 : BitVec 1 := Scalar.cmpi .slt c4_i32 c0_i32_53
  let v106 : BitVec 32 := Scalar.extui v105
  let v107 : BitVec 32 := Scalar.subi v104 v106
  let v108 : BitVec 1 := Scalar.cmpi .ne v102 v107
  let v109 : BitVec 32 := Scalar.remsi v96 c4_i32
  let c0_i32_54 : BitVec 32 := 0#32
  let v110 : BitVec 1 := Scalar.cmpi .ne v109 c0_i32_54
  let v111 : BitVec 1 := Scalar.andi v108 v110
  let v97 : BitVec 32 := Scalar.divsi v96 c4_i32
  let c1_i32 : BitVec 32 := 1#32
  let v112 : BitVec 32 := Scalar.subi v97 c1_i32
  let v113 : BitVec 32 := Scalar.select v111 v112 v97
  let v114 : BitVec 32 := Scalar.subi v113 c0_i32_56
  let c1_i32_57 : BitVec 32 := 1#32
  let v116 : BitVec 32 := Scalar.divsi v114 c1_i32_57
  let v117 : BitVec 32 := Scalar.muli v116 c1_i32_57
  let v118 : BitVec 32 := Scalar.addi c0_i32_56 v117
  let c1_i32_59 : BitVec 32 := 1#32
  let arg14 : BitVec 32 := Scf.iv v118 c1_i32_59 k0_t2
  let v434 : BitVec 32 := Scalar.muli c4_i32_254 arg14
  let v435 : BitVec 32 := Scalar.addi v433 v434
  let c512_i32_255 : BitVec 32 := 512#32
  let v436 : BitVec 32 := Scalar.muli v435 c512_i32_255
  v436
def k0_cond3 (i : grid0.Coords) : BitVec 1 :=
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let c0_i32_66 : BitVec 32 := 0#32
  let v129 : BitVec 1 := Scalar.cmpi .sgt v128 c0_i32_66
  let v130 : BitVec 32 := Scalar.extui v129
  let c0_i32_67 : BitVec 32 := 0#32
  let v131 : BitVec 1 := Scalar.cmpi .ne v130 c0_i32_67
  v131

def k0_mult10 (i : grid0.Coords) : BitVec 32 :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c0_i32_79 : BitVec 32 := 0#32
  let v145 : BitVec 32 := Scalar.addi v144 c0_i32_79
  let c512_i32_80 : BitVec 32 := 512#32
  let v146 : BitVec 32 := Scalar.muli v145 c512_i32_80
  v146
def k0_off13 (i : grid0.Coords) : Fin 2 → Nat :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c0_i32_79 : BitVec 32 := 0#32
  let v145 : BitVec 32 := Scalar.addi v144 c0_i32_79
  let c512_i32_80 : BitVec 32 := 512#32
  let v146 : BitVec 32 := Scalar.muli v145 c512_i32_80
  let v147 : BitVec 32 := v146
  let v149 : Index := Scalar.indexCast v147
  let c0_83 : Index := 0#32
  ![v149.toNat, 0]
def k0_off14 (i : grid0.Coords) : Fin 3 → Nat :=
  let c0_87 : Index := 0#32
  let c0_88 : Index := 0#32
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c0_i32_79 : BitVec 32 := 0#32
  let v145 : BitVec 32 := Scalar.addi v144 c0_i32_79
  let c512_i32_80 : BitVec 32 := 512#32
  let v146 : BitVec 32 := Scalar.muli v145 c512_i32_80
  let v147 : BitVec 32 := v146
  let v156 : Index := Scalar.indexCast v147
  ![0, 0, v156.toNat]
def k0_off15 (i : grid0.Coords) : Fin 2 → Nat :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c0_i32_79 : BitVec 32 := 0#32
  let v145 : BitVec 32 := Scalar.addi v144 c0_i32_79
  let c512_i32_80 : BitVec 32 := 512#32
  let v146 : BitVec 32 := Scalar.muli v145 c512_i32_80
  let v147 : BitVec 32 := v146
  let v194 : Index := Scalar.indexCast v147
  let c128_110 : Index := 128#32
  ![v194.toNat, 128]
def k0_off16 (i : grid0.Coords) : Fin 3 → Nat :=
  let c1_114 : Index := 1#32
  let c0_115 : Index := 0#32
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c0_i32_79 : BitVec 32 := 0#32
  let v145 : BitVec 32 := Scalar.addi v144 c0_i32_79
  let c512_i32_80 : BitVec 32 := 512#32
  let v146 : BitVec 32 := Scalar.muli v145 c512_i32_80
  let v147 : BitVec 32 := v146
  let v201 : Index := Scalar.indexCast v147
  ![1, 0, v201.toNat]
def k0_cond4 (i : grid0.Coords) : BitVec 1 :=
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let c1_i32_68 : BitVec 32 := 1#32
  let v132 : BitVec 1 := Scalar.cmpi .sgt v128 c1_i32_68
  let v133 : BitVec 32 := Scalar.extui v132
  let c0_i32_69 : BitVec 32 := 0#32
  let v134 : BitVec 1 := Scalar.cmpi .ne v133 c0_i32_69
  v134

def k0_mult11 (i : grid0.Coords) : BitVec 32 :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c1_i32_79 : BitVec 32 := 1#32
  let v145 : BitVec 32 := Scalar.addi v144 c1_i32_79
  let c512_i32_80 : BitVec 32 := 512#32
  let v146 : BitVec 32 := Scalar.muli v145 c512_i32_80
  v146
def k0_off17 (i : grid0.Coords) : Fin 2 → Nat :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c1_i32_79 : BitVec 32 := 1#32
  let v145 : BitVec 32 := Scalar.addi v144 c1_i32_79
  let c512_i32_80 : BitVec 32 := 512#32
  let v146 : BitVec 32 := Scalar.muli v145 c512_i32_80
  let v147 : BitVec 32 := v146
  let v149 : Index := Scalar.indexCast v147
  let c0_83 : Index := 0#32
  ![v149.toNat, 0]
def k0_off18 (i : grid0.Coords) : Fin 3 → Nat :=
  let c0_87 : Index := 0#32
  let c0_88 : Index := 0#32
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c1_i32_79 : BitVec 32 := 1#32
  let v145 : BitVec 32 := Scalar.addi v144 c1_i32_79
  let c512_i32_80 : BitVec 32 := 512#32
  let v146 : BitVec 32 := Scalar.muli v145 c512_i32_80
  let v147 : BitVec 32 := v146
  let v156 : Index := Scalar.indexCast v147
  ![0, 0, v156.toNat]
def k0_off19 (i : grid0.Coords) : Fin 2 → Nat :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c1_i32_79 : BitVec 32 := 1#32
  let v145 : BitVec 32 := Scalar.addi v144 c1_i32_79
  let c512_i32_80 : BitVec 32 := 512#32
  let v146 : BitVec 32 := Scalar.muli v145 c512_i32_80
  let v147 : BitVec 32 := v146
  let v194 : Index := Scalar.indexCast v147
  let c128_110 : Index := 128#32
  ![v194.toNat, 128]
def k0_off20 (i : grid0.Coords) : Fin 3 → Nat :=
  let c1_114 : Index := 1#32
  let c0_115 : Index := 0#32
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c1_i32_79 : BitVec 32 := 1#32
  let v145 : BitVec 32 := Scalar.addi v144 c1_i32_79
  let c512_i32_80 : BitVec 32 := 512#32
  let v146 : BitVec 32 := Scalar.muli v145 c512_i32_80
  let v147 : BitVec 32 := v146
  let v201 : Index := Scalar.indexCast v147
  ![1, 0, v201.toNat]
def k0_cond5 (i : grid0.Coords) : BitVec 1 :=
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let c2_i32 : BitVec 32 := 2#32
  let v135 : BitVec 1 := Scalar.cmpi .sgt v128 c2_i32
  let v136 : BitVec 32 := Scalar.extui v135
  let c0_i32_70 : BitVec 32 := 0#32
  let v137 : BitVec 1 := Scalar.cmpi .ne v136 c0_i32_70
  v137

def k0_mult12 (i : grid0.Coords) : BitVec 32 :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c2_i32_79 : BitVec 32 := 2#32
  let v145 : BitVec 32 := Scalar.addi v144 c2_i32_79
  let c512_i32_80 : BitVec 32 := 512#32
  let v146 : BitVec 32 := Scalar.muli v145 c512_i32_80
  v146
def k0_off21 (i : grid0.Coords) : Fin 2 → Nat :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c2_i32_79 : BitVec 32 := 2#32
  let v145 : BitVec 32 := Scalar.addi v144 c2_i32_79
  let c512_i32_80 : BitVec 32 := 512#32
  let v146 : BitVec 32 := Scalar.muli v145 c512_i32_80
  let v147 : BitVec 32 := v146
  let v149 : Index := Scalar.indexCast v147
  let c0_83 : Index := 0#32
  ![v149.toNat, 0]
def k0_off22 (i : grid0.Coords) : Fin 3 → Nat :=
  let c0_87 : Index := 0#32
  let c0_88 : Index := 0#32
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c2_i32_79 : BitVec 32 := 2#32
  let v145 : BitVec 32 := Scalar.addi v144 c2_i32_79
  let c512_i32_80 : BitVec 32 := 512#32
  let v146 : BitVec 32 := Scalar.muli v145 c512_i32_80
  let v147 : BitVec 32 := v146
  let v156 : Index := Scalar.indexCast v147
  ![0, 0, v156.toNat]
def k0_off23 (i : grid0.Coords) : Fin 2 → Nat :=
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c2_i32_79 : BitVec 32 := 2#32
  let v145 : BitVec 32 := Scalar.addi v144 c2_i32_79
  let c512_i32_80 : BitVec 32 := 512#32
  let v146 : BitVec 32 := Scalar.muli v145 c512_i32_80
  let v147 : BitVec 32 := v146
  let v194 : Index := Scalar.indexCast v147
  let c128_110 : Index := 128#32
  ![v194.toNat, 128]
def k0_off24 (i : grid0.Coords) : Fin 3 → Nat :=
  let c1_114 : Index := 1#32
  let c0_115 : Index := 0#32
  let c16_i32 : BitVec 32 := 16#32
  let c15_i32 : BitVec 32 := 15#32
  let arg1 : BitVec 32 := BitVec.ofNat 32 (i 1).val
  let v96 : BitVec 32 := Scalar.subi c15_i32 arg1
  let c4_i32_60 : BitVec 32 := 4#32
  let c0_i32_61 : BitVec 32 := 0#32
  let v119 : BitVec 1 := Scalar.cmpi .eq c4_i32_60 c0_i32_61
  let c1_i32_62 : BitVec 32 := 1#32
  let v120 : BitVec 32 := Scalar.select v119 c1_i32_62 c4_i32_60
  let v121 : BitVec 32 := Scalar.remsi v96 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let v144 : BitVec 32 := Scalar.subi c16_i32 v128
  let c2_i32_79 : BitVec 32 := 2#32
  let v145 : BitVec 32 := Scalar.addi v144 c2_i32_79
  let c512_i32_80 : BitVec 32 := 512#32
  let v146 : BitVec 32 := Scalar.muli v145 c512_i32_80
  let v147 : BitVec 32 := v146
  let v201 : Index := Scalar.indexCast v147
  ![1, 0, v201.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2" => some (((3424635 / 33554432) * (Real.log 2)⁻¹ : ℝ) : EReal)
  | _ => none
-- ==== ReferenceIdeal.lean ====
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x8x128, .f32⟩
  | .hbm, ⟨8, _⟩ => ⟨S8192x8x128, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x8192x8192, .i1⟩
  | .hbm, ⟨38, _⟩ => ⟨S_, .f32⟩
  | .hbm, ⟨39, _⟩ => ⟨S_, .f32⟩
  | .hbm, ⟨40, _⟩ => ⟨S8x8192x8192, .i1⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .i1⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S_, .f32⟩
  | .hbm, ⟨57, _⟩ => ⟨S8x8192, .f32⟩
  | .hbm, ⟨58, _⟩ => ⟨S8x8192, .i1⟩
  | .hbm, ⟨59, _⟩ => ⟨S_, .f32⟩
  | .hbm, ⟨60, _⟩ => ⟨S8x8192, .f32⟩
  | .hbm, ⟨61, _⟩ => ⟨S8x8192, .i1⟩
  | .hbm, ⟨62, _⟩ => ⟨S_, .f32⟩
  | .hbm, ⟨63, _⟩ => ⟨S8x8192, .f32⟩
  | .hbm, ⟨64, _⟩ => ⟨S_, .f32⟩
  | .hbm, ⟨65, _⟩ => ⟨S8x8192, .f32⟩
  | .hbm, ⟨66, _⟩ => ⟨S_, .f32⟩
  | .hbm, ⟨67, _⟩ => ⟨S8x8192, .f32⟩
  | .hbm, ⟨68, _⟩ => ⟨S8x8192, .f32⟩
  | .hbm, ⟨69, _⟩ => ⟨S8x8192, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S8x8192x1, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S8192x8x128, .f32⟩
  | .hbm, ⟨84, _⟩ => ⟨S8x128x8192, .f32⟩
  | .hbm, ⟨85, _⟩ => ⟨S8192x8x128, .f32⟩
  | .hbm, ⟨86, _⟩ => ⟨S8192x1024, .f32⟩
  | .hbm, ⟨87, _⟩ => ⟨S8192x8x128, .f32⟩
  | .hbm, ⟨88, _⟩ => ⟨S8x128x8192, .f32⟩
  | .hbm, ⟨89, _⟩ => ⟨S8x8192x8192, .f32⟩
  | .hbm, ⟨90, _⟩ => ⟨S8x128x8192, .f32⟩
  | .hbm, ⟨91, _⟩ => ⟨S8192x8x128, .f32⟩
  | .hbm, ⟨92, _⟩ => ⟨S8192x1024, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192, .f32⟩
  | .hbm, ⟨98, _⟩ => ⟨S8x8192x1, .f32⟩
  | .hbm, ⟨99, _⟩ => ⟨S8x8192x1, .f32⟩
  | .hbm, ⟨100, _⟩ => ⟨S8x8192x8192, .f32⟩
  | .hbm, ⟨101, _⟩ => ⟨S8x8192x8192, .f32⟩
  | .hbm, ⟨102, _⟩ => ⟨S_, .f32⟩
  | .hbm, ⟨103, _⟩ => ⟨S8x8192, .f32⟩
  | .hbm, ⟨104, _⟩ => ⟨S8x8192x8192, .f32⟩
  | .hbm, ⟨105, _⟩ => ⟨S8x8192x8192, .f32⟩
  | .hbm, ⟨106, _⟩ => ⟨S8x8192x8192, .f32⟩
  | .hbm, ⟨107, _⟩ => ⟨S_, .f32⟩
  | .hbm, ⟨108, _⟩ => ⟨S8x8192x8192, .f32⟩
  | .hbm, ⟨109, _⟩ => ⟨S8x8192x8192, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S8x8192x128, .f32⟩
  | .hbm, ⟨114, _⟩ => ⟨S8192x8x128, .f32⟩
  | .hbm, ⟨115, _⟩ => ⟨S8x8192x128, .f32⟩
  | .hbm, ⟨116, _⟩ => ⟨S8192x8x128, .f32⟩
  | .hbm, ⟨117, _⟩ => ⟨S8192x1024, .f32⟩
  | .hbm, ⟨118, _⟩ => ⟨S8192x1024, .f32⟩
  | .hbm, ⟨119, _⟩ => ⟨S8192x1024, .bf16⟩
  | .hbm, ⟨120, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_call1_v0 : Ref sig .tc := ⟨.hbm, 39, rfl⟩
abbrev main_v16_1 : Ref sig .tc := ⟨.hbm, 40, rfl⟩
abbrev main_call1_v2 : Ref sig .tc := ⟨.hbm, 41, rfl⟩
abbrev main_v16_0 : Ref sig .tc := ⟨.hbm, 42, rfl⟩
abbrev main_call1_cst : Ref sig .tc := ⟨.hbm, 43, rfl⟩
abbrev main_v16_2 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_cst_6 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call2_cst : Ref sig .tc := ⟨.hbm, 107, rfl⟩
abbrev main_call2_v0 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩

abbrev nD : Nat := 1
abbrev τ : Topo := Topo.v7x

variable {F : FTy → Type} [FloatOps F]
-- ==== Up.lean ====
abbrev S8192x1024 : Shape := ⟨2, ![8192, 1024]⟩
abbrev S8x8192x512 : Shape := ⟨3, ![8, 8192, 512]⟩
abbrev S8x1024x512 : Shape := ⟨3, ![8, 1024, 512]⟩
abbrev S4096x1024 : Shape := ⟨2, ![4096, 1024]⟩
abbrev S1x4096x512 : Shape := ⟨3, ![1, 4096, 512]⟩
abbrev S1x1024x512 : Shape := ⟨3, ![1, 1024, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x8192x512, .bf16⟩
  | .hbm, ⟨2, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_7 : BitVec 32 := 1#32
  let v12 : BitVec 1 := Scalar.cmpi .eq arg1 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpRefIdeal.lean ====
abbrev S8192x1024 : Shape := ⟨2, ![8192, 1024]⟩
abbrev S8x8192x512 : Shape := ⟨3, ![8, 8192, 512]⟩
abbrev S_ : Shape := ⟨0, ![]⟩
abbrev S8x1024x512 : Shape := ⟨3, ![8, 1024, 512]⟩
abbrev S8x512x8192 : Shape := ⟨3, ![8, 512, 8192]⟩
abbrev S8x512x1024 : Shape := ⟨3, ![8, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x512, .bf16⟩
  | .hbm, ⟨2, _⟩ => ⟨S_, .f32⟩
  | .hbm, ⟨3, _⟩ => ⟨S8x1024x512, .f32⟩
  | .hbm, ⟨4, _⟩ => ⟨S8192x1024, .f32⟩
  | .hbm, ⟨5, _⟩ => ⟨S8x512x8192, .f32⟩
  | .hbm, ⟨6, _⟩ => ⟨S8x8192x512, .f32⟩
  | .hbm, ⟨7, _⟩ => ⟨S8x8192x512, .f32⟩
  | .hbm, ⟨8, _⟩ => ⟨S8x512x8192, .f32⟩
  | .hbm, ⟨9, _⟩ => ⟨S8x512x1024, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S8x8192x512 : Shape := ⟨3, ![8, 8192, 512]⟩
abbrev S8192x1024 : Shape := ⟨2, ![8192, 1024]⟩
abbrev S8x512x1024 : Shape := ⟨3, ![8, 512, 1024]⟩
abbrev S1x4096x512 : Shape := ⟨3, ![1, 4096, 512]⟩
abbrev S4096x1024 : Shape := ⟨2, ![4096, 1024]⟩
abbrev S1x512x1024 : Shape := ⟨3, ![1, 512, 1024]⟩
abbrev S512x1024 : Shape := ⟨2, ![512, 1024]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x512, .bf16⟩
  | .hbm, ⟨1, _⟩ => ⟨S8192x1024, .bf16⟩
  | .hbm, ⟨2, _⟩ => ⟨S8x512x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_7 : BitVec 32 := 1#32
  let v15 : BitVec 1 := Scalar.cmpi .eq arg1 c1_i32_7
  let v16 : BitVec 32 := Scalar.extui v15
  let c0_i32_8 : BitVec 32 := 0#32
  let v17 : BitVec 1 := Scalar.cmpi .ne v16 c0_i32_8
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S8x8192x512 : Shape := ⟨3, ![8, 8192, 512]⟩
abbrev S8192x1024 : Shape := ⟨2, ![8192, 1024]⟩
abbrev S_ : Shape := ⟨0, ![]⟩
abbrev S8x512x1024 : Shape := ⟨3, ![8, 512, 1024]⟩
abbrev S1024x8x512 : Shape := ⟨3, ![1024, 8, 512]⟩

abbrev nBuf : Space → Nat
  | .hbm => 11
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8192x1024, .bf16⟩
  | .hbm, ⟨2, _⟩ => ⟨S_, .f32⟩
  | .hbm, ⟨3, _⟩ => ⟨S8x512x1024, .f32⟩
  | .hbm, ⟨4, _⟩ => ⟨S8x8192x512, .f32⟩
  | .hbm, ⟨5, _⟩ => ⟨S8x8192x512, .f32⟩
  | .hbm, ⟨6, _⟩ => ⟨S8192x1024, .f32⟩
  | .hbm, ⟨7, _⟩ => ⟨S8192x1024, .f32⟩
  | .hbm, ⟨8, _⟩ => ⟨S1024x8x512, .f32⟩
  | .hbm, ⟨9, _⟩ => ⟨S8x512x1024, .f32⟩
  | .hbm, ⟨10, _⟩ => ⟨S8x512x1024, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mlp.lean ====
abbrev S8192x1024 : Shape := ⟨2, ![8192, 1024]⟩
abbrev S1x1024 : Shape := ⟨2, ![1, 1024]⟩
abbrev S8x1024x512 : Shape := ⟨3, ![8, 1024, 512]⟩
abbrev S8x512x1024 : Shape := ⟨3, ![8, 512, 1024]⟩
abbrev S8x8192x512 : Shape := ⟨3, ![8, 8192, 512]⟩
abbrev S512x1024 : Shape := ⟨2, ![512, 1024]⟩
abbrev S8x512x512 : Shape := ⟨3, ![8, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S1x512x1024 : Shape := ⟨3, ![1, 512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8x512x1024, .bf16⟩
  | .hbm, ⟨4, _⟩ => ⟨S1x1024, .f32⟩
  | .hbm, ⟨5, _⟩ => ⟨S8192x1024, .bf16⟩
  | .hbm, ⟨6, _⟩ => ⟨S8x8192x512, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S8x512x512, .bf16⟩
  | .local _ .vmem, ⟨9, _⟩ => ⟨S8x512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpRefIdeal.lean ====
abbrev S8192x1024 : Shape := ⟨2, ![8192, 1024]⟩
abbrev S1x1024 : Shape := ⟨2, ![1, 1024]⟩
abbrev S8x1024x512 : Shape := ⟨3, ![8, 1024, 512]⟩
abbrev S8x512x1024 : Shape := ⟨3, ![8, 512, 1024]⟩
abbrev S_ : Shape := ⟨0, ![]⟩
abbrev S8192 : Shape := ⟨1, ![8192]⟩
abbrev S8192x1 : Shape := ⟨2, ![8192, 1]⟩
abbrev S8x512x8192 : Shape := ⟨3, ![8, 512, 8192]⟩
abbrev S8x8192x512 : Shape := ⟨3, ![8, 8192, 512]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8x512x1024, .bf16⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8x1024x512, .f32⟩
  | .hbm, ⟨21, _⟩ => ⟨S8x512x8192, .f32⟩
  | .hbm, ⟨22, _⟩ => ⟨S8x8192x512, .f32⟩
  | .hbm, ⟨23, _⟩ => ⟨S_, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x512x1024, .f32⟩
  | .hbm, ⟨28, _⟩ => ⟨S8192x1024, .f32⟩
  | .hbm, ⟨29, _⟩ => ⟨S8192x1024, .bf16⟩
  | .hbm, ⟨30, _⟩ => ⟨S8x8192x512, .bf16⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== In.lean ====
abbrev S8192x1024 : Shape := ⟨2, ![8192, 1024]⟩
abbrev S8192x2688 : Shape := ⟨2, ![8192, 2688]⟩
abbrev S1024x2688 : Shape := ⟨2, ![1024, 2688]⟩
abbrev S4096x1024 : Shape := ⟨2, ![4096, 1024]⟩
abbrev S4096x896 : Shape := ⟨2, ![4096, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S1024x2688, .f32⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InIdeal.lean ====
abbrev S8192x1024 : Shape := ⟨2, ![8192, 1024]⟩
abbrev S8192x2688 : Shape := ⟨2, ![8192, 2688]⟩
abbrev S1024x2688 : Shape := ⟨2, ![1024, 2688]⟩
abbrev S4096x1024 : Shape := ⟨2, ![4096, 1024]⟩
abbrev S4096x896 : Shape := ⟨2, ![4096, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S1024x2688, .f32⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InRefIdeal.lean ====
abbrev S8192x1024 : Shape := ⟨2, ![8192, 1024]⟩
abbrev S8192x2688 : Shape := ⟨2, ![8192, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2688, .bf16⟩
  | .hbm, ⟨2, _⟩ => ⟨S_, .f32⟩
  | .hbm, ⟨3, _⟩ => ⟨S1024x2688, .f32⟩
  | .hbm, ⟨4, _⟩ => ⟨S8192x1024, .f32⟩
  | .hbm, ⟨5, _⟩ => ⟨S8192x2688, .f32⟩
  | .hbm, ⟨6, _⟩ => ⟨S8192x2688, .f32⟩
  | .hbm, ⟨7, _⟩ => ⟨S2688x1024, .f32⟩
  | .hbm, ⟨8, _⟩ => ⟨S1024x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Att.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AttIdeal.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AttRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ssd.lean ====
abbrev S8192x512 : Shape := ⟨2, ![8192, 512]⟩
abbrev S8192x1024 : Shape := ⟨2, ![8192, 1024]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsdIdeal.lean ====
abbrev S8192x512 : Shape := ⟨2, ![8192, 512]⟩
abbrev S8192x1024 : Shape := ⟨2, ![8192, 1024]⟩
abbrev S512x1024 : Shape := ⟨2, ![512, 1024]⟩
abbrev S4096x512 : Shape := ⟨2, ![4096, 512]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsdRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Uq.lean ====
abbrev S8192x768 : Shape := ⟨2, ![8192, 768]⟩
abbrev S8192x1024 : Shape := ⟨2, ![8192, 1024]⟩
abbrev S768x1024 : Shape := ⟨2, ![768, 1024]⟩
abbrev S4096x768 : Shape := ⟨2, ![4096, 768]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .f32⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== UqIdeal.lean ====
abbrev S8192x768 : Shape := ⟨2, ![8192, 768]⟩
abbrev S8192x1024 : Shape := ⟨2, ![8192, 1024]⟩
abbrev S768x1024 : Shape := ⟨2, ![768, 1024]⟩
abbrev S4096x768 : Shape := ⟨2, ![4096, 768]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .f32⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== UqRefIdeal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S_, .f32⟩
  | .hbm, ⟨3, _⟩ => ⟨S768x1024, .f32⟩
  | .hbm, ⟨4, _⟩ => ⟨S8192x768, .f32⟩
  | .hbm, ⟨5, _⟩ => ⟨S8192x1024, .f32⟩
  | .hbm, ⟨6, _⟩ => ⟨S8192x1024, .f32⟩
  | .hbm, ⟨7, _⟩ => ⟨S1024x768, .f32⟩
  | .hbm, ⟨8, _⟩ => ⟨S768x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kv.lean ====
abbrev S8192x256 : Shape := ⟨2, ![8192, 256]⟩
abbrev S8192x2048 : Shape := ⟨2, ![8192, 2048]⟩
abbrev S256x2048 : Shape := ⟨2, ![256, 2048]⟩
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KvRefIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x256, .f32⟩
  | .hbm, ⟨5, _⟩ => ⟨S8192x2048, .f32⟩
  | .hbm, ⟨6, _⟩ => ⟨S8192x2048, .f32⟩
  | .hbm, ⟨7, _⟩ => ⟨S2048x256, .f32⟩
  | .hbm, ⟨8, _⟩ => ⟨S256x2048, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Back.lean ====
abbrev S8192x1024 : Shape := ⟨2, ![8192, 1024]⟩
abbrev S8x8192x512 : Shape := ⟨3, ![8, 8192, 512]⟩
abbrev S1x1024 : Shape := ⟨2, ![1, 1024]⟩
abbrev S8x1024x512 : Shape := ⟨3, ![8, 1024, 512]⟩
abbrev S8x512x1024 : Shape := ⟨3, ![8, 512, 1024]⟩
abbrev S256x1024 : Shape := ⟨2, ![256, 1024]⟩
abbrev S8x256x512 : Shape := ⟨3, ![8, 256, 512]⟩
abbrev S256 : Shape := ⟨1, ![256]⟩
abbrev S256x1 : Shape := ⟨2, ![256, 1]⟩
abbrev S1024 : Shape := ⟨1, ![1024]⟩
abbrev S1x512x1024 : Shape := ⟨3, ![1, 512, 1024]⟩
abbrev S512x1024 : Shape := ⟨2, ![512, 1024]⟩
abbrev S256x512 : Shape := ⟨2, ![256, 512]⟩
abbrev S1x256x512 : Shape := ⟨3, ![1, 256, 512]⟩
abbrev S1x1024x512 : Shape := ⟨3, ![1, 1024, 512]⟩
abbrev S1024x512 : Shape := ⟨2, ![1024, 512]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192x512, .bf16⟩
  | .hbm, ⟨4, _⟩ => ⟨S1x1024, .f32⟩
  | .hbm, ⟨5, _⟩ => ⟨S8x1024x512, .bf16⟩
  | .hbm, ⟨6, _⟩ => ⟨S8x512x1024, .bf16⟩
  | .hbm, ⟨7, _⟩ => ⟨S1x1024, .f32⟩
  | .hbm, ⟨8, _⟩ => ⟨S8192x1024, .f32⟩
  | .hbm, ⟨9, _⟩ => ⟨S8x8192x512, .bf16⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x512, .bf16⟩
  | .local _ .vmem, ⟨7, _⟩ => ⟨S8x256x512, .bf16⟩
  | .local _ .vmem, ⟨8, _⟩ => ⟨S1x1024, .f32⟩
  | .local _ .vmem, ⟨9, _⟩ => ⟨S8x1024x512, .bf16⟩
  | .local _ .vmem, ⟨10, _⟩ => ⟨S8x512x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S8x256x512, .bf16⟩
  | .local _ .vmem, ⟨15, _⟩ => ⟨S8x256x512, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v29 : BitVec 32 := Scalar.extui v0
  let c0_i32_10 : BitVec 32 := 0#32
  let v30 : BitVec 1 := Scalar.cmpi .ne v29 c0_i32_10
  v30

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v31 : BitVec 1 := Scalar.xori v0 v_true
  let v32 : BitVec 32 := Scalar.extui v31
  let c0_i32_11 : BitVec 32 := 0#32
  let v33 : BitVec 1 := Scalar.cmpi .ne v32 c0_i32_11
  v33

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v200 : BitVec 32 := Scalar.extui v0
  let c0_i32_138 : BitVec 32 := 0#32
  let v201 : BitVec 1 := Scalar.cmpi .ne v200 c0_i32_138
  v201

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_139 : BitVec 1 := 1#1
  let v202 : BitVec 1 := Scalar.xori v0 true_139
  let v203 : BitVec 32 := Scalar.extui v202
  let c0_i32_140 : BitVec 32 := 0#32
  let v204 : BitVec 1 := Scalar.cmpi .ne v203 c0_i32_140
  v204

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BackRefIdeal.lean ====
abbrev S8192x1024 : Shape := ⟨2, ![8192, 1024]⟩
abbrev S8x8192x512 : Shape := ⟨3, ![8, 8192, 512]⟩
abbrev S1x1024 : Shape := ⟨2, ![1, 1024]⟩
abbrev S8x1024x512 : Shape := ⟨3, ![8, 1024, 512]⟩
abbrev S8x512x1024 : Shape := ⟨3, ![8, 512, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x8x512 : Shape := ⟨3, ![8192, 8, 512]⟩
abbrev S8x512x8192 : Shape := ⟨3, ![8, 512, 8192]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192x512, .bf16⟩
  | .hbm, ⟨4, _⟩ => ⟨S1x1024, .f32⟩
  | .hbm, ⟨5, _⟩ => ⟨S8x1024x512, .bf16⟩
  | .hbm, ⟨6, _⟩ => ⟨S8x512x1024, .bf16⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8x8192x512, .f32⟩
  | .hbm, ⟨55, _⟩ => ⟨S8x8192x512, .f32⟩
  | .hbm, ⟨56, _⟩ => ⟨S_, .f32⟩
  | .hbm, ⟨57, _⟩ => ⟨S8x8192x512, .f32⟩
  | .hbm, ⟨58, _⟩ => ⟨S8x8192x512, .f32⟩
  | .hbm, ⟨59, _⟩ => ⟨S8x512x1024, .f32⟩
  | .hbm, ⟨60, _⟩ => ⟨S8192x1024, .f32⟩
  | .hbm, ⟨61, _⟩ => ⟨S8192x8x512, .f32⟩
  | .hbm, ⟨62, _⟩ => ⟨S8x8192x512, .f32⟩
  | .hbm, ⟨63, _⟩ => ⟨S8x8192x512, .f32⟩
  | .hbm, ⟨64, _⟩ => ⟨S_, .f32⟩
  | .hbm, ⟨65, _⟩ => ⟨S8192x1024, .f32⟩
  | .hbm, ⟨66, _⟩ => ⟨S8x1024x512, .f32⟩
  | .hbm, ⟨67, _⟩ => ⟨S8x512x8192, .f32⟩
  | .hbm, ⟨68, _⟩ => ⟨S8x8192x512, .f32⟩
  | .hbm, ⟨69, _⟩ => ⟨S8x512x8192, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S8192x1, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8x8192x512, .bf16⟩
  | .hbm, ⟨119, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_17 : Ref sig .tc := ⟨.hbm, 106, rfl⟩
abbrev main_v80 : Ref sig .tc := ⟨.hbm, 107, rfl⟩
abbrev main_v81 : Ref sig .tc := ⟨.hbm, 108, rfl⟩
abbrev main_cst_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Proof.KI.Tile.lean ====
module

public import proofs.«01_k».proof.Proof.Gen.KernelIdeal.Skeleton
public import Idealize.ShloMosaic.Lib.VecWindow
public import Idealize.ShloMosaic.Lib.Pipeline.Value

/-!
The kernel's work on one tile of 512 queries, as plain functions of vectors: the products of a tile, the slices a
step reads, and the step itself on the three arrays it updates (the gradients of the queries, the keys and the values).
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- `a bᵀ` of two tiles of rows. -/
def mmNT (a b : FVec F S512x128 .bf16) : FVec F S512x512 .f32 :=
  matmul dot_S512x128_S512x128_S512x512_1_1_0_0_n_n none a b (constant S512x512 .f32 0x00000000#32)

/-- `a b`. -/
def mmNN (a : FVec F S512x512 .bf16) (b : FVec F S512x128 .bf16) : FVec F S512x128 .f32 :=
  matmul dot_S512x512_S512x128_S512x128_1_0_0_1_n_n none a b (constant S512x128 .f32 0x00000000#32)

/-- `aᵀ b`. -/
def mmTN (a : FVec F S512x512 .bf16) (b : FVec F S512x128 .bf16) : FVec F S512x128 .f32 :=
  matmul dot_S512x512_S512x128_S512x128_0_0_1_1_n_n none a b (constant S512x128 .f32 0x00000000#32)

/-- A row of numbers, one per query, laid over the keys. -/
def rowB (l : Vec F S1x1x512 .f32) : FVec F S512x512 .f32 :=
  broadcastTo S512x512 (shapeCast S1x512 l shapeCasts_S1x1x512_S1x512) broadcasts_S1x512_S512x512

/-- Times the scale of the scores in base two. -/
def sc2 (x : FVec F S512x512 .f32) : FVec F S512x512 .f32 := mulf x (broadcast S512x512 (Named.named κ "scale_log2" 0x3E16C740#32))

/-- Times the scale of the scores. -/
def sc1 (x : FVec F S512x512 .f32) : FVec F S512x512 .f32 := mulf x (broadcast S512x512 (Scalar.ofBits .f32 0x3DD105EC#32))

/-- Rounded to the short format. -/
def tr {s : Shape} (x : FVec F s .f32) : FVec F s .bf16 := truncf .bf16 x bitsLt_bf16_f32

section Slices
variable {α : Type}

/-- The rectangle of sizes `size` at offsets `off` of an array, its indices taken modulo the array's own sizes. -/
def cut {s : Shape} (hs : ∀ a, 0 < s.size a) (x : s.Idx → α) (off size : Fin s.rank → ℕ) : ((a : Fin s.rank) → Fin (size a)) → α :=
  fun y => x fun a => ⟨(off a + (y a).val) % s.size a, Nat.mod_lt _ (hs a)⟩

/-- Where the rectangle lies inside, the slice is the window. -/
theorem cut_eq_window {s : Shape} (hs : ∀ a, 0 < s.size a) (x : s.Idx → α) (off size : Fin s.rank → ℕ) (inb : ∀ a, off a + size a ≤ s.size a) :
    cut hs x off size = VecWindow.window x off size inb := by
  funext y
  refine congrArg x (funext fun a => Fin.ext ?_)
  have h1 := inb a
  have h2 := (y a).isLt
  show (off a + (y a).val) % s.size a = off a + 1 * (y a).val
  rw [Nat.mod_eq_of_lt (by omega), Nat.one_mul]

end Slices

/-- No side of the shape is empty. -/
theorem posA : ∀ a, 0 < S8192x256.size a := by decide
/-- No side of the shape is empty. -/
theorem posB : ∀ a, 0 < S512x256.size a := by decide
/-- No side of the shape is empty. -/
theorem posC : ∀ a, 0 < S2x8x8192.size a := by decide

/-- Tile `n` of the rows, of the head's columns from `c` on. -/
def sl {e : EltTy} (x : Vec F S8192x256 e) (n c : ℕ) : Vec F S512x128 e := cut posA x ![512 * n, c] S512x128.size
/-- The head's columns from `c` on. -/
def co {e : EltTy} (x : Vec F S512x256 e) (c : ℕ) : Vec F S512x128 e := cut posB x ![0, c] S512x128.size
/-- Head `h`'s numbers for the queries of tile `n`. -/
def ro (x : Vec F S2x8x8192 .f32) (h n : ℕ) : Vec F S1x1x512 .f32 := cut posC x ![h, 0, 512 * n] S1x1x512.size
/-- The array with a tile of rows and the head's columns replaced. -/
def upd (x : Vec F S8192x256 .f32) (n c : ℕ) (w : Vec F S512x128 .f32) : Vec F S8192x256 .f32 := VecWindow.put x ![512 * n, c] S512x128.size w
/-- The array with the head's columns replaced. -/
def updc (x : Vec F S512x256 .f32) (c : ℕ) (w : Vec F S512x128 .f32) : Vec F S512x256 .f32 := VecWindow.put x ![0, c] S512x128.size w

/-- Columns just stored are read back. -/
theorem co_updc_same (x : Vec F S512x256 .f32) (c : ℕ) (h : c + 128 ≤ 256) (w : Vec F S512x128 .f32) : co (updc x c w) c = w := by
  unfold co updc
  rw [cut_eq_window posB _ ![0, c] S512x128.size (by
    intro a
    match a with
    | 0 => show 0 + 512 ≤ 512; omega
    | 1 => exact h)]
  exact VecWindow.window_put_same _ _ _ _ _
/-- A store of the first head's columns leaves the second's. -/
theorem co_updc_01 (x : Vec F S512x256 .f32) (w : Vec F S512x128 .f32) : co (updc x 0 w) 128 = co x 128 := by
  unfold co updc
  rw [cut_eq_window posB _ ![0, 128] S512x128.size (by decide), cut_eq_window posB _ ![0, 128] S512x128.size (by decide)]
  exact VecWindow.window_put_of_disjoint _ _ _ _ _ _ _ 1 (by decide)
/-- A store of the second head's columns leaves the first's. -/
theorem co_updc_10 (x : Vec F S512x256 .f32) (w : Vec F S512x128 .f32) : co (updc x 128 w) 0 = co x 0 := by
  unfold co updc
  rw [cut_eq_window posB _ ![0, 0] S512x128.size (by decide), cut_eq_window posB _ ![0, 0] S512x128.size (by decide)]
  exact VecWindow.window_put_of_disjoint _ _ _ _ _ _ _ 1 (by decide)
/-- The first head's columns just stored are read back. -/
theorem co_updc_00 (x : Vec F S512x256 .f32) (w : Vec F S512x128 .f32) : co (updc x 0 w) 0 = w := co_updc_same x 0 (by decide) w
/-- The second head's columns just stored are read back. -/
theorem co_updc_11 (x : Vec F S512x256 .f32) (w : Vec F S512x128 .f32) : co (updc x 128 w) 128 = w := co_updc_same x 128 (by decide) w
/-- The two heads' columns are the whole array. -/
theorem updc_updc (x x' : Vec F S512x256 .f32) (w w' : Vec F S512x128 .f32) : updc (updc x 0 w) 128 w' = updc (updc x' 0 w) 128 w' := by
  funext y
  unfold updc VecWindow.put
  by_cases h : ∀ a, ![0, 128] a ≤ (y a).val ∧ (y a).val < ![0, 128] a + S512x128.size a
  · rw [dif_pos h, dif_pos h]
  · have h' : ∀ a, ![0, 0] a ≤ (y a).val ∧ (y a).val < ![0, 0] a + S512x128.size a := by
      intro a
      have h0 : (y 0).val < 512 := (y 0).isLt
      have h1 : (y 1).val < 256 := (y 1).isLt
      match a with
      | 0 => exact ⟨Nat.zero_le _, by show (y 0).val < 0 + 512; omega⟩
      | 1 =>
        refine ⟨Nat.zero_le _, ?_⟩
        show (y 1).val < 0 + 128
        by_contra hc
        refine h fun a => ?_
        match a with
        | 0 => exact ⟨Nat.zero_le _, by show (y 0).val < 0 + 512; omega⟩
        | 1 => exact ⟨by show 128 ≤ (y 1).val; omega, by show (y 1).val < 128 + 128; omega⟩
    rw [dif_neg h, dif_neg h, dif_pos h', dif_pos h']

/-- A tile of one head's columns lies in the array. -/
theorem inbA {n c : ℕ} (hn : n < 16) (hc : c ≤ 128) : ∀ a : Fin S8192x256.rank, (![512 * n, c] : Fin 2 → ℕ) a + S512x128.size a ≤ S8192x256.size a := by
  intro a
  match a with
  | 0 => show 512 * n + 512 ≤ 8192; omega
  | 1 => show c + 128 ≤ 256; omega
/-- Another tile of rows is untouched. -/
theorem sl_upd_ne (x : Vec F S8192x256 .f32) (n c n' c' : ℕ) (w : Vec F S512x128 .f32) (h : n ≠ n') (hn : n' < 16) (hc : c' ≤ 128) :
    sl (upd x n c w) n' c' = sl x n' c' := by
  unfold sl upd
  rw [cut_eq_window posA _ ![512 * n', c'] S512x128.size (inbA hn hc), cut_eq_window posA _ ![512 * n', c'] S512x128.size (inbA hn hc)]
  refine VecWindow.window_put_of_disjoint _ _ _ _ _ _ _ 0 ?_
  show 512 * n' + 512 ≤ 512 * n ∨ 512 * n + 512 ≤ 512 * n'
  omega
/-- The other head's columns are untouched. -/
theorem sl_upd_01 (x : Vec F S8192x256 .f32) (n n' : ℕ) (w : Vec F S512x128 .f32) (hn : n' < 16) : sl (upd x n 0 w) n' 128 = sl x n' 128 := by
  unfold sl upd
  rw [cut_eq_window posA _ ![512 * n', 128] S512x128.size (inbA hn (by decide)), cut_eq_window posA _ ![512 * n', 128] S512x128.size (inbA hn (by decide))]
  exact VecWindow.window_put_of_disjoint _ _ _ _ _ _ _ 1 (by right; show 0 + 128 ≤ 128; omega)
/-- The other head's columns are untouched. -/
theorem sl_upd_10 (x : Vec F S8192x256 .f32) (n n' : ℕ) (w : Vec F S512x128 .f32) (hn : n' < 16) : sl (upd x n 128 w) n' 0 = sl x n' 0 := by
  unfold sl upd
  rw [cut_eq_window posA _ ![512 * n', 0] S512x128.size (inbA hn (by decide)), cut_eq_window posA _ ![512 * n', 0] S512x128.size (inbA hn (by decide))]
  exact VecWindow.window_put_of_disjoint _ _ _ _ _ _ _ 1 (by left; show 0 + 128 ≤ 128; omega)

/-- An array made of the two heads' columns. -/
def both (w w' : Vec F S512x128 .f32) : Vec F S512x256 .f32 := updc (updc (broadcast S512x256 (Scalar.ofBits .f32 0x00000000#32)) 0 w) 128 w'

/-- Storing both heads' columns makes the array of the two. -/
theorem updc_both (x : Vec F S512x256 .f32) (w w' : Vec F S512x128 .f32) : updc (updc x 0 w) 128 w' = both w w' := updc_updc _ _ _ _
/-- The first head's columns of an array of two. -/
theorem co_both_0 (w w' : Vec F S512x128 .f32) : co (both w w') 0 = w := by unfold both; rw [co_updc_10, co_updc_00]
/-- The second head's columns of an array of two. -/
theorem co_both_1 (w w' : Vec F S512x128 .f32) : co (both w w') 128 = w' := by unfold both; rw [co_updc_11]
/-- Storing the second head's columns again replaces them. -/
theorem updc_both_1 (w w' u : Vec F S512x128 .f32) : updc (both w w') 128 u = both w u := by
  unfold both updc; rw [VecWindow.put_put_same]

/-- What a grid point reads: the queries and output gradients of the head pair, the key tile and the value tile, and
the two rows of numbers saved by the forward pass. -/
structure In (F : FTy → Type) where
  q : Vec F S8192x256 .bf16
  k : Vec F S512x256 .bf16
  v : Vec F S512x256 .bf16
  d : Vec F S8192x256 .bf16
  l : Vec F S2x8x8192 .f32
  dl : Vec F S2x8x8192 .f32

/-- What a step updates: the gradients of the queries, of the key tile and of the value tile. -/
structure St (F : FTy → Type) where
  dq : Vec F S8192x256 .f32
  dk : Vec F S512x256 .f32
  dv : Vec F S512x256 .f32

/-- The probabilities of key tile against query tile `n`, head `h`. -/
def prob (x : In F) (n h : ℕ) : FVec F S512x512 .f32 := exp2 (subf (sc2 (mmNT (co x.k (128 * h)) (sl x.q n (128 * h)))) (rowB (ro x.l h n)))
/-- The same with the mask added, for the diagonal tile. -/
def probD (b : FVec F S512x512 .f32) (x : In F) (n h : ℕ) : FVec F S512x512 .f32 :=
  exp2 (subf (addf (sc2 (mmNT (co x.k (128 * h)) (sl x.q n (128 * h)))) b) (rowB (ro x.l h n)))
/-- The gradient of the scores from the probabilities. -/
def dsc (x : In F) (n h : ℕ) (p : FVec F S512x512 .f32) : FVec F S512x512 .bf16 :=
  tr (sc1 (mulf p (subf (mmNT (co x.v (128 * h)) (sl x.d n (128 * h))) (rowB (ro x.dl h n)))))

/-- One step of a later query tile, one head. -/
def step (x : In F) (n h : ℕ) (s : St F) : St F where
  dv := updc s.dv (128 * h) (addf (co s.dv (128 * h)) (mmNN (tr (prob x n h)) (sl x.d n (128 * h))))
  dk := updc s.dk (128 * h) (addf (co s.dk (128 * h)) (mmNN (dsc x n h (prob x n h)) (sl x.q n (128 * h))))
  dq := upd s.dq n (128 * h) (addf (sl s.dq n (128 * h)) (mmTN (dsc x n h (prob x n h)) (co x.k (128 * h))))

/-- One step of the diagonal query tile, one head. -/
def stepD (b : FVec F S512x512 .f32) (x : In F) (n h : ℕ) (s : St F) : St F where
  dv := updc s.dv (128 * h) (mmNN (tr (probD b x n h)) (sl x.d n (128 * h)))
  dk := updc s.dk (128 * h) (mmNN (dsc x n h (probD b x n h)) (sl x.q n (128 * h)))
  dq := upd s.dq n (128 * h) (addf (sl s.dq n (128 * h)) (mmTN (dsc x n h (probD b x n h)) (co x.k (128 * h))))

/-- A later query tile, both heads. -/
def tile (x : In F) (n : ℕ) (s : St F) : St F := step x n 1 (step x n 0 s)
/-- The diagonal query tile, both heads. -/
def tileD (b : FVec F S512x512 .f32) (x : In F) (n : ℕ) (s : St F) : St F := stepD b x n 1 (stepD b x n 0 s)

/-- The `j` query tiles after tile `n`. -/
def later (x : In F) (n : ℕ) (s : St F) : ℕ → St F
  | 0 => s
  | j + 1 => tile x (n + 1 + j) (later x n s j)

/-- One more later tile. -/
theorem later_succ (x : In F) (n j : ℕ) (s : St F) : later x n s (j + 1) = tile x (n + 1 + j) (later x n s j) := rfl

end Cert.KernelIdeal.Hand

end
-- ==== Proof.KI.Pays.lean ====
module

public import proofs.«01_k».proof.Proof.KI.Tile

/-! The values the kernel stores, each as the plain operations of a tile. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline

variable {F : FTy → Type} [FloatOps F] [Named F]

/-- The product folded. -/
theorem fold_NT (a b : FVec F S512x128 .bf16) : matmul dot_S512x128_S512x128_S512x512_1_1_0_0_n_n none a b (constant S512x512 .f32 0x00000000#32) = mmNT a b := rfl
/-- The product folded. -/
theorem fold_NN (a : FVec F S512x512 .bf16) (b : FVec F S512x128 .bf16) : matmul dot_S512x512_S512x128_S512x128_1_0_0_1_n_n none a b (constant S512x128 .f32 0x00000000#32) = mmNN a b := rfl
/-- The product folded. -/
theorem fold_TN (a : FVec F S512x512 .bf16) (b : FVec F S512x128 .bf16) : matmul dot_S512x512_S512x128_S512x128_0_0_1_1_n_n none a b (constant S512x128 .f32 0x00000000#32) = mmTN a b := rfl
/-- The row of numbers folded. -/
theorem fold_row (l : Vec F S1x1x512 .f32) : broadcastTo S512x512 (shapeCast S1x512 l shapeCasts_S1x1x512_S1x512) broadcasts_S1x512_S512x512 = rowB l := rfl
/-- The first scale folded. -/
theorem fold_sc1 (x : FVec F S512x512 .f32) : mulf x (broadcast S512x512 (Scalar.ofBits .f32 0x3DD105EC#32)) = sc1 x := rfl
/-- The second scale folded. -/
theorem fold_sc2 (x : FVec F S512x512 .f32) : mulf x (broadcast S512x512 (Named.named κ "scale_log2" 0x3E16C740#32)) = sc2 x := rfl
/-- The rounding folded. -/
theorem fold_tr {s : Shape} (x : FVec F s .f32) : truncf .bf16 x bitsLt_bf16_f32 = tr x := rfl

/-- The stored or passed value in plain operations. -/
theorem k0_pay5_eq (v150 : Vec F S512x128 .bf16) (v152 : Vec F S512x128 .bf16) (v159 : Vec F S1x1x512 .f32) : k0_pay5 v150 v152 v159 = exp2 (subf (sc2 (mmNT v150 v152)) (rowB v159)) := by
  simp only [k0_pay5, shapeCast_self] <;> rfl
/-- The stored or passed value in plain operations. -/
theorem k0_pay6_eq (v150 : Vec F S512x128 .bf16) (v152 : Vec F S512x128 .bf16) (v154 : Vec F S512x128 .bf16) (v159 : Vec F S1x1x512 .f32) (v166 : Vec F S512x128 .bf16) (v169 : Vec F S1x1x512 .f32) : k0_pay6 v150 v152 v154 v159 v166 v169 = tr (sc1 (mulf (exp2 (subf (sc2 (mmNT v150 v152)) (rowB v159))) (subf (mmNT v166 v154) (rowB v169)))) := by
  simp only [k0_pay6, shapeCast_self] <;> rfl
/-- The stored or passed value in plain operations. -/
theorem k0_pay7_eq (v150 : Vec F S512x128 .bf16) (v152 : Vec F S512x128 .bf16) (v154 : Vec F S512x128 .bf16) (v159 : Vec F S1x1x512 .f32) (v166 : Vec F S512x128 .bf16) (v169 : Vec F S1x1x512 .f32) : k0_pay7 v150 v152 v154 v159 v166 v169 = mmNN (tr (sc1 (mulf (exp2 (subf (sc2 (mmNT v150 v152)) (rowB v159))) (subf (mmNT v166 v154) (rowB v169))))) v152 := by
  simp only [k0_pay7, shapeCast_self] <;> rfl
/-- The stored or passed value in plain operations. -/
theorem k0_pay8_eq (v150 : Vec F S512x128 .bf16) (v152 : Vec F S512x128 .bf16) (v154 : Vec F S512x128 .bf16) (v159 : Vec F S1x1x512 .f32) (v178 : Vec F S512x128 .f32) : k0_pay8 v150 v152 v154 v159 v178 = addf v178 (mmNN (tr (exp2 (subf (sc2 (mmNT v150 v152)) (rowB v159)))) v154) := by
  simp only [k0_pay8, shapeCast_self] <;> rfl
/-- The stored or passed value in plain operations. -/
theorem k0_pay9_eq (v179 : FVec F S512x128 .f32) : k0_pay9 v179 = v179 := by
  simp only [k0_pay9, shapeCast_self] <;> rfl
/-- The stored or passed value in plain operations. -/
theorem k0_pay10_eq (v177 : FVec F S512x128 .f32) (v183 : Vec F S512x128 .f32) : k0_pay10 v177 v183 = addf v183 v177 := by
  simp only [k0_pay10, shapeCast_self] <;> rfl
/-- The stored or passed value in plain operations. -/
theorem k0_pay11_eq (v150 : Vec F S512x128 .bf16) (v176 : FVec F S512x512 .bf16) (v189 : Vec F S512x128 .f32) : k0_pay11 v150 v176 v189 = addf v189 (mmTN v176 v150) := by
  simp only [k0_pay11, shapeCast_self] <;> rfl
/-- The stored or passed value in plain operations. -/
theorem k0_pay12_eq (v195 : Vec F S512x128 .bf16) (v197 : Vec F S512x128 .bf16) (v204 : Vec F S1x1x512 .f32) : k0_pay12 v195 v197 v204 = exp2 (subf (sc2 (mmNT v195 v197)) (rowB v204)) := by
  simp only [k0_pay12, shapeCast_self] <;> rfl
/-- The stored or passed value in plain operations. -/
theorem k0_pay13_eq (v195 : Vec F S512x128 .bf16) (v197 : Vec F S512x128 .bf16) (v199 : Vec F S512x128 .bf16) (v204 : Vec F S1x1x512 .f32) : k0_pay13 v195 v197 v199 v204 = mmNN (tr (exp2 (subf (sc2 (mmNT v195 v197)) (rowB v204)))) v199 := by
  simp only [k0_pay13, shapeCast_self] <;> rfl
/-- The stored or passed value in plain operations. -/
theorem k0_pay14_eq (v199 : Vec F S512x128 .bf16) (v211 : Vec F S512x128 .bf16) : k0_pay14 v199 v211 = mmNT v211 v199 := by
  simp only [k0_pay14, shapeCast_self] <;> rfl
/-- The stored or passed value in plain operations. -/
theorem k0_pay15_eq (v208 : FVec F S512x512 .f32) (v212 : FVec F S512x512 .f32) (v214 : Vec F S1x1x512 .f32) : k0_pay15 v208 v212 v214 = tr (sc1 (mulf v208 (subf v212 (rowB v214)))) := by
  simp only [k0_pay15, shapeCast_self] <;> rfl
/-- The stored or passed value in plain operations. -/
theorem k0_pay16_eq (v210 : FVec F S512x128 .f32) (v223 : Vec F S512x128 .f32) : k0_pay16 v210 v223 = addf v223 v210 := by
  simp only [k0_pay16, shapeCast_self] <;> rfl
/-- The stored or passed value in plain operations. -/
theorem k0_pay17_eq (v197 : Vec F S512x128 .bf16) (v208 : FVec F S512x512 .f32) (v212 : FVec F S512x512 .f32) (v214 : Vec F S1x1x512 .f32) (v228 : Vec F S512x128 .f32) : k0_pay17 v197 v208 v212 v214 v228 = addf v228 (mmNN (tr (sc1 (mulf v208 (subf v212 (rowB v214))))) v197) := by
  simp only [k0_pay17, shapeCast_self] <;> rfl
/-- The stored or passed value in plain operations. -/
theorem k0_pay18_eq (v195 : Vec F S512x128 .bf16) (v208 : FVec F S512x512 .f32) (v212 : FVec F S512x512 .f32) (v214 : Vec F S1x1x512 .f32) (v234 : Vec F S512x128 .f32) : k0_pay18 v195 v208 v212 v214 v234 = addf v234 (mmTN (tr (sc1 (mulf v208 (subf v212 (rowB v214))))) v195) := by
  simp only [k0_pay18, shapeCast_self] <;> rfl
/-- The stored or passed value in plain operations. -/
theorem k0_pay19_eq (v246 : Vec F S512x128 .bf16) (v248 : Vec F S512x128 .bf16) (v255 : Vec F S1x1x512 .f32) : k0_pay19 v246 v248 v255 = exp2 (subf (sc2 (mmNT v246 v248)) (rowB v255)) := by
  simp only [k0_pay19, shapeCast_self] <;> rfl
/-- The stored or passed value in plain operations. -/
theorem k0_pay20_eq (v246 : Vec F S512x128 .bf16) (v248 : Vec F S512x128 .bf16) (v250 : Vec F S512x128 .bf16) (v255 : Vec F S1x1x512 .f32) (v262 : Vec F S512x128 .bf16) (v265 : Vec F S1x1x512 .f32) : k0_pay20 v246 v248 v250 v255 v262 v265 = tr (sc1 (mulf (exp2 (subf (sc2 (mmNT v246 v248)) (rowB v255))) (subf (mmNT v262 v250) (rowB v265)))) := by
  simp only [k0_pay20, shapeCast_self] <;> rfl
/-- The stored or passed value in plain operations. -/
theorem k0_pay21_eq (v246 : Vec F S512x128 .bf16) (v248 : Vec F S512x128 .bf16) (v250 : Vec F S512x128 .bf16) (v255 : Vec F S1x1x512 .f32) (v274 : Vec F S512x128 .f32) : k0_pay21 v246 v248 v250 v255 v274 = addf v274 (mmNN (tr (exp2 (subf (sc2 (mmNT v246 v248)) (rowB v255)))) v250) := by
  simp only [k0_pay21, shapeCast_self] <;> rfl
/-- The stored or passed value in plain operations. -/
theorem k0_pay22_eq (v246 : Vec F S512x128 .bf16) (v248 : Vec F S512x128 .bf16) (v250 : Vec F S512x128 .bf16) (v255 : Vec F S1x1x512 .f32) (v262 : Vec F S512x128 .bf16) (v265 : Vec F S1x1x512 .f32) (v279 : Vec F S512x128 .f32) : k0_pay22 v246 v248 v250 v255 v262 v265 v279 = addf v279 (mmNN (tr (sc1 (mulf (exp2 (subf (sc2 (mmNT v246 v248)) (rowB v255))) (subf (mmNT v262 v250) (rowB v265))))) v248) := by
  simp only [k0_pay22, shapeCast_self] <;> rfl
/-- The stored or passed value in plain operations. -/
theorem k0_pay23_eq (v285 : Vec F S512x128 .f32) : k0_pay23 v285 = v285 := by
  simp only [k0_pay23, shapeCast_self] <;> rfl
/-- The stored or passed value in plain operations. -/
theorem k0_pay24_eq (v246 : Vec F S512x128 .bf16) (v272 : FVec F S512x512 .bf16) (v286 : FVec F S512x128 .f32) : k0_pay24 v246 v272 v286 (constant S512x128 .f32 0x00000000#32) = addf v286 (mmTN v272 v246) := by
  simp only [k0_pay24, shapeCast_self] <;> rfl
/-- The stored or passed value in plain operations. -/
theorem k0_pay25_eq (v291 : Vec F S512x128 .bf16) (v293 : Vec F S512x128 .bf16) (v300 : Vec F S1x1x512 .f32) : k0_pay25 v291 v293 v300 = exp2 (subf (sc2 (mmNT v291 v293)) (rowB v300)) := by
  simp only [k0_pay25, shapeCast_self] <;> rfl
/-- The stored or passed value in plain operations. -/
theorem k0_pay26_eq (v291 : Vec F S512x128 .bf16) (v293 : Vec F S512x128 .bf16) (v295 : Vec F S512x128 .bf16) (v300 : Vec F S1x1x512 .f32) (v307 : Vec F S512x128 .bf16) (v310 : Vec F S1x1x512 .f32) : k0_pay26 v291 v293 v295 v300 v307 v310 = tr (sc1 (mulf (exp2 (subf (sc2 (mmNT v291 v293)) (rowB v300))) (subf (mmNT v307 v295) (rowB v310)))) := by
  simp only [k0_pay26, shapeCast_self] <;> rfl
/-- The stored or passed value in plain operations. -/
theorem k0_pay27_eq (v291 : Vec F S512x128 .bf16) (v293 : Vec F S512x128 .bf16) (v295 : Vec F S512x128 .bf16) (v300 : Vec F S1x1x512 .f32) (v307 : Vec F S512x128 .bf16) (v310 : Vec F S1x1x512 .f32) : k0_pay27 v291 v293 v295 v300 v307 v310 = mmNN (tr (sc1 (mulf (exp2 (subf (sc2 (mmNT v291 v293)) (rowB v300))) (subf (mmNT v307 v295) (rowB v310))))) v293 := by
  simp only [k0_pay27, shapeCast_self] <;> rfl
/-- The stored or passed value in plain operations. -/
theorem k0_pay28_eq (v291 : Vec F S512x128 .bf16) (v293 : Vec F S512x128 .bf16) (v295 : Vec F S512x128 .bf16) (v300 : Vec F S1x1x512 .f32) (v319 : Vec F S512x128 .f32) : k0_pay28 v291 v293 v295 v300 v319 = addf v319 (mmNN (tr (exp2 (subf (sc2 (mmNT v291 v293)) (rowB v300)))) v295) := by
  simp only [k0_pay28, shapeCast_self] <;> rfl
/-- The stored or passed value in plain operations. -/
theorem k0_pay29_eq (v318 : FVec F S512x128 .f32) (v324 : Vec F S512x128 .f32) : k0_pay29 v318 v324 = addf v324 v318 := by
  simp only [k0_pay29, shapeCast_self] <;> rfl
/-- The stored or passed value in plain operations. -/
theorem k0_pay30_eq (v291 : Vec F S512x128 .bf16) (v317 : FVec F S512x512 .bf16) (v330 : Vec F S512x128 .f32) : k0_pay30 v291 v317 v330 = addf v330 (mmTN v317 v291) := by
  simp only [k0_pay30, shapeCast_self] <;> rfl
/-- The stored or passed value in plain operations. -/
theorem k0_pay31_eq (v342 : Vec F S512x128 .bf16) (v344 : Vec F S512x128 .bf16) (v351 : Vec F S1x1x512 .f32) : k0_pay31 v342 v344 v351 = exp2 (subf (sc2 (mmNT v342 v344)) (rowB v351)) := by
  simp only [k0_pay31, shapeCast_self] <;> rfl
/-- The stored or passed value in plain operations. -/
theorem k0_pay32_eq (v342 : Vec F S512x128 .bf16) (v344 : Vec F S512x128 .bf16) (v346 : Vec F S512x128 .bf16) (v351 : Vec F S1x1x512 .f32) : k0_pay32 v342 v344 v346 v351 = mmNN (tr (exp2 (subf (sc2 (mmNT v342 v344)) (rowB v351)))) v346 := by
  simp only [k0_pay32, shapeCast_self] <;> rfl
/-- The stored or passed value in plain operations. -/
theorem k0_pay33_eq (v346 : Vec F S512x128 .bf16) (v355 : FVec F S512x512 .f32) (v358 : Vec F S512x128 .bf16) (v361 : Vec F S1x1x512 .f32) : k0_pay33 v346 v355 v358 (constant S512x512 .f32 0x00000000#32) v361 = tr (sc1 (mulf v355 (subf (mmNT v358 v346) (rowB v361)))) := by
  simp only [k0_pay33, shapeCast_self] <;> rfl
/-- The stored or passed value in plain operations. -/
theorem k0_pay34_eq (v357 : FVec F S512x128 .f32) (v370 : Vec F S512x128 .f32) : k0_pay34 v357 v370 = addf v370 v357 := by
  simp only [k0_pay34, shapeCast_self] <;> rfl
/-- The stored or passed value in plain operations. -/
theorem k0_pay35_eq (v344 : Vec F S512x128 .bf16) (v346 : Vec F S512x128 .bf16) (v355 : FVec F S512x512 .f32) (v358 : Vec F S512x128 .bf16) (v361 : Vec F S1x1x512 .f32) (v375 : Vec F S512x128 .f32) : k0_pay35 v344 v346 v355 v358 (constant S512x512 .f32 0x00000000#32) v361 v375 = addf v375 (mmNN (tr (sc1 (mulf v355 (subf (mmNT v358 v346) (rowB v361))))) v344) := by
  simp only [k0_pay35, shapeCast_self] <;> rfl
/-- The stored or passed value in plain operations. -/
theorem k0_pay36_eq (v342 : Vec F S512x128 .bf16) (v346 : Vec F S512x128 .bf16) (v355 : FVec F S512x512 .f32) (v358 : Vec F S512x128 .bf16) (v361 : Vec F S1x1x512 .f32) (v381 : Vec F S512x128 .f32) : k0_pay36 v342 v346 v355 v358 (constant S512x512 .f32 0x00000000#32) v361 v381 = addf v381 (mmTN (tr (sc1 (mulf v355 (subf (mmNT v358 v346) (rowB v361))))) v342) := by
  simp only [k0_pay36, shapeCast_self] <;> rfl
/-- The stored or passed value in plain operations. -/
theorem k0_pay37_eq (v387 : Vec F S512x128 .bf16) (v389 : Vec F S512x128 .bf16) : k0_pay37 v387 v389 = sc2 (mmNT v387 v389) := by
  simp only [k0_pay37, shapeCast_self] <;> rfl
/-- The stored or passed value in plain operations. -/
theorem k0_pay38_eq (v394 : FVec F S512x512 .f32) (v396 : Vec F S1x1x512 .f32) : k0_pay38 v394 v396 = exp2 (subf v394 (rowB v396)) := by
  simp only [k0_pay38, shapeCast_self] <;> rfl
/-- The stored or passed value in plain operations. -/
theorem k0_pay39_eq (v391 : Vec F S512x128 .bf16) (v394 : FVec F S512x512 .f32) (v396 : Vec F S1x1x512 .f32) (v403 : Vec F S512x128 .bf16) (v406 : Vec F S1x1x512 .f32) : k0_pay39 v391 v394 v396 v403 v406 = tr (sc1 (mulf (exp2 (subf v394 (rowB v396))) (subf (mmNT v403 v391) (rowB v406)))) := by
  simp only [k0_pay39, shapeCast_self] <;> rfl
/-- The stored or passed value in plain operations. -/
theorem k0_pay40_eq (v391 : Vec F S512x128 .bf16) (v394 : FVec F S512x512 .f32) (v396 : Vec F S1x1x512 .f32) (v415 : Vec F S512x128 .f32) : k0_pay40 v391 v394 v396 v415 = addf v415 (mmNN (tr (exp2 (subf v394 (rowB v396)))) v391) := by
  simp only [k0_pay40, shapeCast_self] <;> rfl
/-- The stored or passed value in plain operations. -/
theorem k0_pay41_eq (v389 : Vec F S512x128 .bf16) (v391 : Vec F S512x128 .bf16) (v394 : FVec F S512x512 .f32) (v396 : Vec F S1x1x512 .f32) (v403 : Vec F S512x128 .bf16) (v406 : Vec F S1x1x512 .f32) (v420 : Vec F S512x128 .f32) : k0_pay41 v389 v391 v394 v396 v403 v406 v420 = addf v420 (mmNN (tr (sc1 (mulf (exp2 (subf v394 (rowB v396))) (subf (mmNT v403 v391) (rowB v406))))) v389) := by
  simp only [k0_pay41, shapeCast_self] <;> rfl
/-- The stored or passed value in plain operations. -/
theorem k0_pay42_eq (v387 : Vec F S512x128 .bf16) (v391 : Vec F S512x128 .bf16) (v394 : FVec F S512x512 .f32) (v396 : Vec F S1x1x512 .f32) (v403 : Vec F S512x128 .bf16) (v406 : Vec F S1x1x512 .f32) (v426 : Vec F S512x128 .f32) : k0_pay42 v387 v391 v394 v396 v403 v406 v426 = addf v426 (mmTN (tr (sc1 (mulf (exp2 (subf v394 (rowB v396))) (subf (mmNT v403 v391) (rowB v406))))) v387) := by
  simp only [k0_pay42, shapeCast_self] <;> rfl
/-- The stored or passed value in plain operations. -/
theorem k0_pay43_eq (v438 : Vec F S512x128 .bf16) (v440 : Vec F S512x128 .bf16) (v447 : Vec F S1x1x512 .f32) : k0_pay43 v438 v440 v447 = exp2 (subf (sc2 (mmNT v438 v440)) (rowB v447)) := by
  simp only [k0_pay43, shapeCast_self] <;> rfl
/-- The stored or passed value in plain operations. -/
theorem k0_pay44_eq (v438 : Vec F S512x128 .bf16) (v440 : Vec F S512x128 .bf16) (v442 : Vec F S512x128 .bf16) (v447 : Vec F S1x1x512 .f32) (v454 : Vec F S512x128 .bf16) (v457 : Vec F S1x1x512 .f32) : k0_pay44 v438 v440 v442 v447 v454 v457 = tr (sc1 (mulf (exp2 (subf (sc2 (mmNT v438 v440)) (rowB v447))) (subf (mmNT v454 v442) (rowB v457)))) := by
  simp only [k0_pay44, shapeCast_self] <;> rfl
/-- The stored or passed value in plain operations. -/
theorem k0_pay45_eq (v438 : Vec F S512x128 .bf16) (v440 : Vec F S512x128 .bf16) (v442 : Vec F S512x128 .bf16) (v447 : Vec F S1x1x512 .f32) (v454 : Vec F S512x128 .bf16) (v457 : Vec F S1x1x512 .f32) : k0_pay45 v438 v440 v442 v447 v454 v457 = mmNN (tr (sc1 (mulf (exp2 (subf (sc2 (mmNT v438 v440)) (rowB v447))) (subf (mmNT v454 v442) (rowB v457))))) v440 := by
  simp only [k0_pay45, shapeCast_self] <;> rfl
/-- The stored or passed value in plain operations. -/
theorem k0_pay46_eq (v438 : Vec F S512x128 .bf16) (v440 : Vec F S512x128 .bf16) (v442 : Vec F S512x128 .bf16) (v447 : Vec F S1x1x512 .f32) (v466 : Vec F S512x128 .f32) : k0_pay46 v438 v440 v442 v447 v466 = addf v466 (mmNN (tr (exp2 (subf (sc2 (mmNT v438 v440)) (rowB v447)))) v442) := by
  simp only [k0_pay46, shapeCast_self] <;> rfl
/-- The stored or passed value in plain operations. -/
theorem k0_pay47_eq (v467 : FVec F S512x128 .f32) : k0_pay47 v467 = v467 := by
  simp only [k0_pay47, shapeCast_self] <;> rfl
/-- The stored or passed value in plain operations. -/
theorem k0_pay48_eq (v465 : FVec F S512x128 .f32) (v471 : Vec F S512x128 .f32) : k0_pay48 v465 v471 = addf v471 v465 := by
  simp only [k0_pay48, shapeCast_self] <;> rfl
/-- The stored or passed value in plain operations. -/
theorem k0_pay49_eq (v438 : Vec F S512x128 .bf16) (v464 : FVec F S512x512 .bf16) (v477 : Vec F S512x128 .f32) : k0_pay49 v438 v464 v477 = addf v477 (mmTN v464 v438) := by
  simp only [k0_pay49, shapeCast_self] <;> rfl
/-- The stored or passed value in plain operations. -/
theorem k0_pay50_eq (v483 : Vec F S512x128 .bf16) (v485 : Vec F S512x128 .bf16) (v492 : Vec F S1x1x512 .f32) : k0_pay50 v483 v485 v492 = exp2 (subf (sc2 (mmNT v483 v485)) (rowB v492)) := by
  simp only [k0_pay50, shapeCast_self] <;> rfl
/-- The stored or passed value in plain operations. -/
theorem k0_pay51_eq (v483 : Vec F S512x128 .bf16) (v485 : Vec F S512x128 .bf16) (v487 : Vec F S512x128 .bf16) (v492 : Vec F S1x1x512 .f32) : k0_pay51 v483 v485 v487 v492 = mmNN (tr (exp2 (subf (sc2 (mmNT v483 v485)) (rowB v492)))) v487 := by
  simp only [k0_pay51, shapeCast_self] <;> rfl
/-- The stored or passed value in plain operations. -/
theorem k0_pay52_eq (v487 : Vec F S512x128 .bf16) (v499 : Vec F S512x128 .bf16) : k0_pay52 v487 v499 = mmNT v499 v487 := by
  simp only [k0_pay52, shapeCast_self] <;> rfl
/-- The stored or passed value in plain operations. -/
theorem k0_pay101_eq (v148 : Vec F S512x128 .bf16) (v150 : Vec F S512x128 .bf16) (v157 : Vec F S1x1x512 .f32) : k0_pay101 v148 v150 v157 = exp2 (subf (sc2 (mmNT v148 v150)) (rowB v157)) := by
  simp only [k0_pay101, shapeCast_self] <;> rfl
/-- The stored or passed value in plain operations. -/
theorem k0_pay102_eq (v148 : Vec F S512x128 .bf16) (v150 : Vec F S512x128 .bf16) (v152 : Vec F S512x128 .bf16) (v157 : Vec F S1x1x512 .f32) (v164 : Vec F S512x128 .bf16) (v167 : Vec F S1x1x512 .f32) : k0_pay102 v148 v150 v152 v157 v164 v167 = tr (sc1 (mulf (exp2 (subf (sc2 (mmNT v148 v150)) (rowB v157))) (subf (mmNT v164 v152) (rowB v167)))) := by
  simp only [k0_pay102, shapeCast_self] <;> rfl
/-- The stored or passed value in plain operations. -/
theorem k0_pay103_eq (v148 : Vec F S512x128 .bf16) (v150 : Vec F S512x128 .bf16) (v152 : Vec F S512x128 .bf16) (v157 : Vec F S1x1x512 .f32) (v164 : Vec F S512x128 .bf16) (v167 : Vec F S1x1x512 .f32) : k0_pay103 v148 v150 v152 v157 v164 v167 = mmNN (tr (sc1 (mulf (exp2 (subf (sc2 (mmNT v148 v150)) (rowB v157))) (subf (mmNT v164 v152) (rowB v167))))) v150 := by
  simp only [k0_pay103, shapeCast_self] <;> rfl
/-- The stored or passed value in plain operations. -/
theorem k0_pay104_eq (v148 : Vec F S512x128 .bf16) (v150 : Vec F S512x128 .bf16) (v152 : Vec F S512x128 .bf16) (v157 : Vec F S1x1x512 .f32) (v176 : Vec F S512x128 .f32) : k0_pay104 v148 v150 v152 v157 v176 = addf v176 (mmNN (tr (exp2 (subf (sc2 (mmNT v148 v150)) (rowB v157)))) v152) := by
  simp only [k0_pay104, shapeCast_self] <;> rfl
/-- The stored or passed value in plain operations. -/
theorem k0_pay105_eq (v175 : FVec F S512x128 .f32) (v181 : Vec F S512x128 .f32) : k0_pay105 v175 v181 = addf v181 v175 := by
  simp only [k0_pay105, shapeCast_self] <;> rfl
/-- The stored or passed value in plain operations. -/
theorem k0_pay106_eq (v148 : Vec F S512x128 .bf16) (v174 : FVec F S512x512 .bf16) (v187 : Vec F S512x128 .f32) : k0_pay106 v148 v174 v187 = addf v187 (mmTN v174 v148) := by
  simp only [k0_pay106, shapeCast_self] <;> rfl
/-- The stored or passed value in plain operations. -/
theorem k0_pay107_eq (v193 : Vec F S512x128 .bf16) (v195 : Vec F S512x128 .bf16) (v202 : Vec F S1x1x512 .f32) : k0_pay107 v193 v195 v202 = exp2 (subf (sc2 (mmNT v193 v195)) (rowB v202)) := by
  simp only [k0_pay107, shapeCast_self] <;> rfl
/-- The stored or passed value in plain operations. -/
theorem k0_pay108_eq (v193 : Vec F S512x128 .bf16) (v195 : Vec F S512x128 .bf16) (v197 : Vec F S512x128 .bf16) (v202 : Vec F S1x1x512 .f32) : k0_pay108 v193 v195 v197 v202 = mmNN (tr (exp2 (subf (sc2 (mmNT v193 v195)) (rowB v202)))) v197 := by
  simp only [k0_pay108, shapeCast_self] <;> rfl
/-- The stored or passed value in plain operations. -/
theorem k0_pay109_eq (v193 : Vec F S512x128 .bf16) (v195 : Vec F S512x128 .bf16) (v197 : Vec F S512x128 .bf16) (v202 : Vec F S1x1x512 .f32) (v209 : Vec F S512x128 .bf16) (v212 : Vec F S1x1x512 .f32) : k0_pay109 v193 v195 v197 v202 v209 v212 = mulf (exp2 (subf (sc2 (mmNT v193 v195)) (rowB v202))) (subf (mmNT v209 v197) (rowB v212)) := by
  simp only [k0_pay109, shapeCast_self] <;> rfl
/-- The stored or passed value in plain operations. -/
theorem k0_pay110_eq (v148 : Vec F S512x128 .bf16) (v150 : Vec F S512x128 .bf16) (v157 : Vec F S1x1x512 .f32) : k0_pay110 v148 v150 v157 = exp2 (subf (sc2 (mmNT v148 v150)) (rowB v157)) := by
  simp only [k0_pay110, shapeCast_self] <;> rfl
/-- The stored or passed value in plain operations. -/
theorem k0_pay111_eq (v148 : Vec F S512x128 .bf16) (v150 : Vec F S512x128 .bf16) (v152 : Vec F S512x128 .bf16) (v157 : Vec F S1x1x512 .f32) (v164 : Vec F S512x128 .bf16) (v167 : Vec F S1x1x512 .f32) : k0_pay111 v148 v150 v152 v157 v164 v167 = tr (sc1 (mulf (exp2 (subf (sc2 (mmNT v148 v150)) (rowB v157))) (subf (mmNT v164 v152) (rowB v167)))) := by
  simp only [k0_pay111, shapeCast_self] <;> rfl
/-- The stored or passed value in plain operations. -/
theorem k0_pay112_eq (v148 : Vec F S512x128 .bf16) (v150 : Vec F S512x128 .bf16) (v152 : Vec F S512x128 .bf16) (v157 : Vec F S1x1x512 .f32) (v164 : Vec F S512x128 .bf16) (v167 : Vec F S1x1x512 .f32) : k0_pay112 v148 v150 v152 v157 v164 v167 = mmNN (tr (sc1 (mulf (exp2 (subf (sc2 (mmNT v148 v150)) (rowB v157))) (subf (mmNT v164 v152) (rowB v167))))) v150 := by
  simp only [k0_pay112, shapeCast_self] <;> rfl
/-- The stored or passed value in plain operations. -/
theorem k0_pay113_eq (v148 : Vec F S512x128 .bf16) (v150 : Vec F S512x128 .bf16) (v152 : Vec F S512x128 .bf16) (v157 : Vec F S1x1x512 .f32) (v176 : Vec F S512x128 .f32) : k0_pay113 v148 v150 v152 v157 v176 = addf v176 (mmNN (tr (exp2 (subf (sc2 (mmNT v148 v150)) (rowB v157)))) v152) := by
  simp only [k0_pay113, shapeCast_self] <;> rfl
/-- The stored or passed value in plain operations. -/
theorem k0_pay114_eq (v175 : FVec F S512x128 .f32) (v181 : Vec F S512x128 .f32) : k0_pay114 v175 v181 = addf v181 v175 := by
  simp only [k0_pay114, shapeCast_self] <;> rfl
/-- The stored or passed value in plain operations. -/
theorem k0_pay115_eq (v148 : Vec F S512x128 .bf16) (v174 : FVec F S512x512 .bf16) (v187 : Vec F S512x128 .f32) : k0_pay115 v148 v174 v187 = addf v187 (mmTN v174 v148) := by
  simp only [k0_pay115, shapeCast_self] <;> rfl
/-- The stored or passed value in plain operations. -/
theorem k0_pay116_eq (v193 : Vec F S512x128 .bf16) (v195 : Vec F S512x128 .bf16) (v202 : Vec F S1x1x512 .f32) : k0_pay116 v193 v195 v202 = exp2 (subf (sc2 (mmNT v193 v195)) (rowB v202)) := by
  simp only [k0_pay116, shapeCast_self] <;> rfl
/-- The stored or passed value in plain operations. -/
theorem k0_pay117_eq (v193 : Vec F S512x128 .bf16) (v195 : Vec F S512x128 .bf16) (v197 : Vec F S512x128 .bf16) (v202 : Vec F S1x1x512 .f32) : k0_pay117 v193 v195 v197 v202 = mmNN (tr (exp2 (subf (sc2 (mmNT v193 v195)) (rowB v202)))) v197 := by
  simp only [k0_pay117, shapeCast_self] <;> rfl
/-- The stored or passed value in plain operations. -/
theorem k0_pay118_eq (v193 : Vec F S512x128 .bf16) (v195 : Vec F S512x128 .bf16) (v197 : Vec F S512x128 .bf16) (v202 : Vec F S1x1x512 .f32) (v209 : Vec F S512x128 .bf16) (v212 : Vec F S1x1x512 .f32) : k0_pay118 v193 v195 v197 v202 v209 v212 = mulf (exp2 (subf (sc2 (mmNT v193 v195)) (rowB v202))) (subf (mmNT v209 v197) (rowB v212)) := by
  simp only [k0_pay118, shapeCast_self] <;> rfl
/-- The stored or passed value in plain operations. -/
theorem k0_pay119_eq (v148 : Vec F S512x128 .bf16) (v150 : Vec F S512x128 .bf16) (v157 : Vec F S1x1x512 .f32) : k0_pay119 v148 v150 v157 = exp2 (subf (sc2 (mmNT v148 v150)) (rowB v157)) := by
  simp only [k0_pay119, shapeCast_self] <;> rfl
/-- The stored or passed value in plain operations. -/
theorem k0_pay120_eq (v148 : Vec F S512x128 .bf16) (v150 : Vec F S512x128 .bf16) (v152 : Vec F S512x128 .bf16) (v157 : Vec F S1x1x512 .f32) (v164 : Vec F S512x128 .bf16) (v167 : Vec F S1x1x512 .f32) : k0_pay120 v148 v150 v152 v157 v164 v167 = tr (sc1 (mulf (exp2 (subf (sc2 (mmNT v148 v150)) (rowB v157))) (subf (mmNT v164 v152) (rowB v167)))) := by
  simp only [k0_pay120, shapeCast_self] <;> rfl
/-- The stored or passed value in plain operations. -/
theorem k0_pay121_eq (v148 : Vec F S512x128 .bf16) (v150 : Vec F S512x128 .bf16) (v152 : Vec F S512x128 .bf16) (v157 : Vec F S1x1x512 .f32) (v164 : Vec F S512x128 .bf16) (v167 : Vec F S1x1x512 .f32) : k0_pay121 v148 v150 v152 v157 v164 v167 = mmNN (tr (sc1 (mulf (exp2 (subf (sc2 (mmNT v148 v150)) (rowB v157))) (subf (mmNT v164 v152) (rowB v167))))) v150 := by
  simp only [k0_pay121, shapeCast_self] <;> rfl
/-- The stored or passed value in plain operations. -/
theorem k0_pay122_eq (v148 : Vec F S512x128 .bf16) (v150 : Vec F S512x128 .bf16) (v152 : Vec F S512x128 .bf16) (v157 : Vec F S1x1x512 .f32) (v176 : Vec F S512x128 .f32) : k0_pay122 v148 v150 v152 v157 v176 = addf v176 (mmNN (tr (exp2 (subf (sc2 (mmNT v148 v150)) (rowB v157)))) v152) := by
  simp only [k0_pay122, shapeCast_self] <;> rfl
/-- The stored or passed value in plain operations. -/
theorem k0_pay123_eq (v175 : FVec F S512x128 .f32) (v181 : Vec F S512x128 .f32) : k0_pay123 v175 v181 = addf v181 v175 := by
  simp only [k0_pay123, shapeCast_self] <;> rfl
/-- The stored or passed value in plain operations. -/
theorem k0_pay124_eq (v148 : Vec F S512x128 .bf16) (v174 : FVec F S512x512 .bf16) (v187 : Vec F S512x128 .f32) : k0_pay124 v148 v174 v187 = addf v187 (mmTN v174 v148) := by
  simp only [k0_pay124, shapeCast_self] <;> rfl
/-- The stored or passed value in plain operations. -/
theorem k0_pay125_eq (v193 : Vec F S512x128 .bf16) (v195 : Vec F S512x128 .bf16) (v202 : Vec F S1x1x512 .f32) : k0_pay125 v193 v195 v202 = exp2 (subf (sc2 (mmNT v193 v195)) (rowB v202)) := by
  simp only [k0_pay125, shapeCast_self] <;> rfl
/-- The stored or passed value in plain operations. -/
theorem k0_pay126_eq (v193 : Vec F S512x128 .bf16) (v195 : Vec F S512x128 .bf16) (v197 : Vec F S512x128 .bf16) (v202 : Vec F S1x1x512 .f32) : k0_pay126 v193 v195 v197 v202 = mmNN (tr (exp2 (subf (sc2 (mmNT v193 v195)) (rowB v202)))) v197 := by
  simp only [k0_pay126, shapeCast_self] <;> rfl
/-- The stored or passed value in plain operations. -/
theorem k0_pay127_eq (v193 : Vec F S512x128 .bf16) (v195 : Vec F S512x128 .bf16) (v197 : Vec F S512x128 .bf16) (v202 : Vec F S1x1x512 .f32) (v209 : Vec F S512x128 .bf16) (v212 : Vec F S1x1x512 .f32) : k0_pay127 v193 v195 v197 v202 v209 v212 = mulf (exp2 (subf (sc2 (mmNT v193 v195)) (rowB v202))) (subf (mmNT v209 v197) (rowB v212)) := by
  simp only [k0_pay127, shapeCast_self] <;> rfl
/-- The stored or passed value in plain operations. -/
theorem k0_pay130_eq (v10 : Vec F S512x128 .bf16) (v12 : Vec F S512x128 .bf16) (v18 : Vec F S512x512 .f32) (v21 : Vec F S1x1x512 .f32) : k0_pay130 v10 v12 v18 v21 = exp2 (subf (addf (sc2 (mmNT v10 v12)) v18) (rowB v21)) := by
  simp only [k0_pay130, shapeCast_self] <;> rfl
/-- The stored or passed value in plain operations. -/
theorem k0_pay131_eq (v10 : Vec F S512x128 .bf16) (v12 : Vec F S512x128 .bf16) (v14 : Vec F S512x128 .bf16) (v18 : Vec F S512x512 .f32) (v21 : Vec F S1x1x512 .f32) : k0_pay131 v10 v12 v14 v18 v21 = mmNN (tr (exp2 (subf (addf (sc2 (mmNT v10 v12)) v18) (rowB v21)))) v14 := by
  simp only [k0_pay131, shapeCast_self] <;> rfl
/-- The stored or passed value in plain operations. -/
theorem k0_pay132_eq (v14 : Vec F S512x128 .bf16) (v28 : Vec F S512x128 .bf16) : k0_pay132 v14 v28 = mmNT v28 v14 := by
  simp only [k0_pay132, shapeCast_self] <;> rfl
/-- The stored or passed value in plain operations. -/
theorem k0_pay133_eq (v31 : Vec F S1x1x512 .f32) : k0_pay133 v31 = rowB v31 := by
  simp only [k0_pay133, shapeCast_self] <;> rfl
/-- The stored or passed value in plain operations. -/
theorem k0_pay134_eq (v25 : FVec F S512x512 .f32) (v29 : FVec F S512x512 .f32) (v33 : FVec F S512x512 .f32) : k0_pay134 v25 v29 v33 = tr (sc1 (mulf v25 (subf v29 v33))) := by
  simp only [k0_pay134, shapeCast_self] <;> rfl
/-- The stored or passed value in plain operations. -/
theorem k0_pay135_eq (v27 : FVec F S512x128 .f32) : k0_pay135 v27 = v27 := by
  simp only [k0_pay135, shapeCast_self] <;> rfl
/-- The stored or passed value in plain operations. -/
theorem k0_pay136_eq (v12 : Vec F S512x128 .bf16) (v25 : FVec F S512x512 .f32) (v29 : FVec F S512x512 .f32) (v33 : FVec F S512x512 .f32) : k0_pay136 v12 v25 v29 v33 = mmNN (tr (sc1 (mulf v25 (subf v29 v33)))) v12 := by
  simp only [k0_pay136, shapeCast_self] <;> rfl
/-- The stored or passed value in plain operations. -/
theorem k0_pay137_eq (v10 : Vec F S512x128 .bf16) (v25 : FVec F S512x512 .f32) (v29 : FVec F S512x512 .f32) (v33 : FVec F S512x512 .f32) (v47 : Vec F S512x128 .f32) : k0_pay137 v10 v25 v29 v33 v47 = addf v47 (mmTN (tr (sc1 (mulf v25 (subf v29 v33)))) v10) := by
  simp only [k0_pay137, shapeCast_self] <;> rfl
/-- The stored or passed value in plain operations. -/
theorem k0_pay138_eq (v53 : Vec F S512x128 .bf16) (v55 : Vec F S512x128 .bf16) (v61 : Vec F S512x512 .f32) (v64 : Vec F S1x1x512 .f32) : k0_pay138 v53 v55 v61 v64 = exp2 (subf (addf (sc2 (mmNT v53 v55)) v61) (rowB v64)) := by
  simp only [k0_pay138, shapeCast_self] <;> rfl
/-- The stored or passed value in plain operations. -/
theorem k0_pay139_eq (v53 : Vec F S512x128 .bf16) (v55 : Vec F S512x128 .bf16) (v57 : Vec F S512x128 .bf16) (v61 : Vec F S512x512 .f32) (v64 : Vec F S1x1x512 .f32) : k0_pay139 v53 v55 v57 v61 v64 = mmNN (tr (exp2 (subf (addf (sc2 (mmNT v53 v55)) v61) (rowB v64)))) v57 := by
  simp only [k0_pay139, shapeCast_self] <;> rfl
/-- The stored or passed value in plain operations. -/
theorem k0_pay140_eq (v57 : Vec F S512x128 .bf16) (v68 : FVec F S512x512 .f32) (v71 : Vec F S512x128 .bf16) (v74 : Vec F S1x1x512 .f32) : k0_pay140 v57 v68 v71 v74 = tr (sc1 (mulf v68 (subf (mmNT v71 v57) (rowB v74)))) := by
  simp only [k0_pay140, shapeCast_self] <;> rfl
/-- The stored or passed value in plain operations. -/
theorem k0_pay141_eq (v70 : FVec F S512x128 .f32) : k0_pay141 v70 = v70 := by
  simp only [k0_pay141, shapeCast_self] <;> rfl
/-- The stored or passed value in plain operations. -/
theorem k0_pay142_eq (v55 : Vec F S512x128 .bf16) (v57 : Vec F S512x128 .bf16) (v68 : FVec F S512x512 .f32) (v71 : Vec F S512x128 .bf16) (v74 : Vec F S1x1x512 .f32) : k0_pay142 v55 v57 v68 v71 v74 = mmNN (tr (sc1 (mulf v68 (subf (mmNT v71 v57) (rowB v74))))) v55 := by
  simp only [k0_pay142, shapeCast_self] <;> rfl
/-- The stored or passed value in plain operations. -/
theorem k0_pay143_eq (v53 : Vec F S512x128 .bf16) (v57 : Vec F S512x128 .bf16) (v68 : FVec F S512x512 .f32) (v71 : Vec F S512x128 .bf16) (v74 : Vec F S1x1x512 .f32) (v90 : Vec F S512x128 .f32) : k0_pay143 v53 v57 v68 v71 v74 v90 = addf v90 (mmTN (tr (sc1 (mulf v68 (subf (mmNT v71 v57) (rowB v74))))) v53) := by
  simp only [k0_pay143, shapeCast_self] <;> rfl
/-- The stored or passed value in plain operations. -/
theorem k0_pay144_eq (v496 : FVec F S512x512 .f32) (v500 : FVec F S512x512 .f32) (v502 : Vec F S1x1x512 .f32) : k0_pay144 v496 v500 v502 = tr (sc1 (mulf v496 (subf v500 (rowB v502)))) := by
  simp only [k0_pay144, shapeCast_self] <;> rfl
/-- The stored or passed value in plain operations. -/
theorem k0_pay145_eq (v498 : FVec F S512x128 .f32) (v511 : Vec F S512x128 .f32) : k0_pay145 v498 v511 = addf v511 v498 := by
  simp only [k0_pay145, shapeCast_self] <;> rfl
/-- The stored or passed value in plain operations. -/
theorem k0_pay146_eq (v485 : Vec F S512x128 .bf16) (v496 : FVec F S512x512 .f32) (v500 : FVec F S512x512 .f32) (v502 : Vec F S1x1x512 .f32) (v516 : Vec F S512x128 .f32) : k0_pay146 v485 v496 v500 v502 v516 = addf v516 (mmNN (tr (sc1 (mulf v496 (subf v500 (rowB v502))))) v485) := by
  simp only [k0_pay146, shapeCast_self] <;> rfl
/-- The stored or passed value in plain operations. -/
theorem k0_pay147_eq (v483 : Vec F S512x128 .bf16) (v496 : FVec F S512x512 .f32) (v500 : FVec F S512x512 .f32) (v502 : Vec F S1x1x512 .f32) (v522 : Vec F S512x128 .f32) : k0_pay147 v483 v496 v500 v502 v522 = addf v522 (mmTN (tr (sc1 (mulf v496 (subf v500 (rowB v502))))) v483) := by
  simp only [k0_pay147, shapeCast_self] <;> rfl
/-- The stored or passed value in plain operations. -/
theorem k0_pay148_eq (v496 : FVec F S512x512 .f32) (v500 : FVec F S512x512 .f32) (v502 : Vec F S1x1x512 .f32) : k0_pay148 v496 v500 v502 = tr (sc1 (mulf v496 (subf v500 (rowB v502)))) := by
  simp only [k0_pay148, shapeCast_self] <;> rfl
/-- The stored or passed value in plain operations. -/
theorem k0_pay149_eq (v498 : FVec F S512x128 .f32) (v511 : Vec F S512x128 .f32) : k0_pay149 v498 v511 = addf v511 v498 := by
  simp only [k0_pay149, shapeCast_self] <;> rfl
/-- The stored or passed value in plain operations. -/
theorem k0_pay150_eq (v485 : Vec F S512x128 .bf16) (v496 : FVec F S512x512 .f32) (v500 : FVec F S512x512 .f32) (v502 : Vec F S1x1x512 .f32) (v516 : Vec F S512x128 .f32) : k0_pay150 v485 v496 v500 v502 v516 = addf v516 (mmNN (tr (sc1 (mulf v496 (subf v500 (rowB v502))))) v485) := by
  simp only [k0_pay150, shapeCast_self] <;> rfl
/-- The stored or passed value in plain operations. -/
theorem k0_pay151_eq (v483 : Vec F S512x128 .bf16) (v496 : FVec F S512x512 .f32) (v500 : FVec F S512x512 .f32) (v502 : Vec F S1x1x512 .f32) (v522 : Vec F S512x128 .f32) : k0_pay151 v483 v496 v500 v502 v522 = addf v522 (mmTN (tr (sc1 (mulf v496 (subf v500 (rowB v502))))) v483) := by
  simp only [k0_pay151, shapeCast_self] <;> rfl
/-- The stored or passed value in plain operations. -/
theorem k0_pay152_eq (v216 : FVec F S512x512 .f32) : k0_pay152 v216 = tr (sc1 v216) := by
  simp only [k0_pay152, shapeCast_self] <;> rfl
/-- The stored or passed value in plain operations. -/
theorem k0_pay153_eq (v208 : FVec F S512x128 .f32) (v221 : Vec F S512x128 .f32) : k0_pay153 v208 v221 = addf v221 v208 := by
  simp only [k0_pay153, shapeCast_self] <;> rfl
/-- The stored or passed value in plain operations. -/
theorem k0_pay154_eq (v195 : Vec F S512x128 .bf16) (v216 : FVec F S512x512 .f32) (v226 : Vec F S512x128 .f32) : k0_pay154 v195 v216 v226 = addf v226 (mmNN (tr (sc1 v216)) v195) := by
  simp only [k0_pay154, shapeCast_self] <;> rfl
/-- The stored or passed value in plain operations. -/
theorem k0_pay155_eq (v193 : Vec F S512x128 .bf16) (v216 : FVec F S512x512 .f32) (v232 : Vec F S512x128 .f32) : k0_pay155 v193 v216 v232 = addf v232 (mmTN (tr (sc1 v216)) v193) := by
  simp only [k0_pay155, shapeCast_self] <;> rfl
/-- The stored or passed value in plain operations. -/
theorem k0_pay156_eq (v216 : FVec F S512x512 .f32) : k0_pay156 v216 = tr (sc1 v216) := by
  simp only [k0_pay156, shapeCast_self] <;> rfl
/-- The stored or passed value in plain operations. -/
theorem k0_pay157_eq (v208 : FVec F S512x128 .f32) (v221 : Vec F S512x128 .f32) : k0_pay157 v208 v221 = addf v221 v208 := by
  simp only [k0_pay157, shapeCast_self] <;> rfl
/-- The stored or passed value in plain operations. -/
theorem k0_pay158_eq (v195 : Vec F S512x128 .bf16) (v216 : FVec F S512x512 .f32) (v226 : Vec F S512x128 .f32) : k0_pay158 v195 v216 v226 = addf v226 (mmNN (tr (sc1 v216)) v195) := by
  simp only [k0_pay158, shapeCast_self] <;> rfl
/-- The stored or passed value in plain operations. -/
theorem k0_pay159_eq (v193 : Vec F S512x128 .bf16) (v216 : FVec F S512x512 .f32) (v232 : Vec F S512x128 .f32) : k0_pay159 v193 v216 v232 = addf v232 (mmTN (tr (sc1 v216)) v193) := by
  simp only [k0_pay159, shapeCast_self] <;> rfl
/-- The stored or passed value in plain operations. -/
theorem k0_pay160_eq (v216 : FVec F S512x512 .f32) : k0_pay160 v216 = tr (sc1 v216) := by
  simp only [k0_pay160, shapeCast_self] <;> rfl
/-- The stored or passed value in plain operations. -/
theorem k0_pay161_eq (v208 : FVec F S512x128 .f32) (v221 : Vec F S512x128 .f32) : k0_pay161 v208 v221 = addf v221 v208 := by
  simp only [k0_pay161, shapeCast_self] <;> rfl
/-- The stored or passed value in plain operations. -/
theorem k0_pay162_eq (v195 : Vec F S512x128 .bf16) (v216 : FVec F S512x512 .f32) (v226 : Vec F S512x128 .f32) : k0_pay162 v195 v216 v226 = addf v226 (mmNN (tr (sc1 v216)) v195) := by
  simp only [k0_pay162, shapeCast_self] <;> rfl
/-- The stored or passed value in plain operations. -/
theorem k0_pay163_eq (v193 : Vec F S512x128 .bf16) (v216 : FVec F S512x512 .f32) (v232 : Vec F S512x128 .f32) : k0_pay163 v193 v216 v232 = addf v232 (mmTN (tr (sc1 v216)) v193) := by
  simp only [k0_pay163, shapeCast_self] <;> rfl
/-- The stored or passed value in plain operations. -/
theorem k0_pay164_eq (v138 : Vec F S512x256 .f32) : k0_pay164 v138 = tr v138 := by
  simp only [k0_pay164, shapeCast_self] <;> rfl

end Cert.KernelIdeal.Hand

end
-- ==== Proof.KI.Offsets.lean ====
/-
  Where the attention backward kernel reads and writes, in closed form: the rows of a query tile in the counted loop
  and in the guarded tiles after it, and how many trips the loop makes.
-/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe

/-- The counted loop at key tile `i 1` makes one trip for every four later query tiles. -/
theorem trips1 : ∀ i : grid0.Coords, (k0_t1_loop i).trips = (15 - (i 1).val) / 4 := by decide +kernel

/-- The remainder loop makes no trip. -/
theorem trips2 (i : grid0.Coords) : (k0_t2_loop i).trips = 0 := Nat.le_zero.1 (k0_t2_abs i).2.1

/-- Trip `k`, tile `r` of four: the rows of query tile `i 1 + 1 + r + 4 k`, first head. -/
theorem off5_eq : ∀ (i : grid0.Coords) (k : Fin (k0_t1_loop i).trips) (r : Fin 4), k0_off5 i k (BitVec.ofNat 32 r.val) = ![512 * ((i 1).val + 1 + r.val + 4 * k.val), 0] := by decide +kernel
/-- The same rows, second head. -/
theorem off7_eq : ∀ (i : grid0.Coords) (k : Fin (k0_t1_loop i).trips) (r : Fin 4), k0_off7 i k (BitVec.ofNat 32 r.val) = ![512 * ((i 1).val + 1 + r.val + 4 * k.val), 128] := by decide +kernel
/-- The same tile of a row vector, first head. -/
theorem off6_eq : ∀ (i : grid0.Coords) (k : Fin (k0_t1_loop i).trips) (r : Fin 4), k0_off6 i k (BitVec.ofNat 32 r.val) = ![0, 0, 512 * ((i 1).val + 1 + r.val + 4 * k.val)] := by decide +kernel
/-- The same tile of a row vector, second head. -/
theorem off8_eq : ∀ (i : grid0.Coords) (k : Fin (k0_t1_loop i).trips) (r : Fin 4), k0_off8 i k (BitVec.ofNat 32 r.val) = ![1, 0, 512 * ((i 1).val + 1 + r.val + 4 * k.val)] := by decide +kernel

section
variable (i : grid0.Coords) (k : Fin (k0_t1_loop i).trips)
instance : ClosedOff (k0_off5 i k 0#32) := ⟨_, off5_eq i k 0⟩
instance : ClosedOff (k0_off5 i k 1#32) := ⟨_, off5_eq i k 1⟩
instance : ClosedOff (k0_off5 i k 2#32) := ⟨_, off5_eq i k 2⟩
instance : ClosedOff (k0_off5 i k 3#32) := ⟨_, off5_eq i k 3⟩
instance : ClosedOff (k0_off7 i k 0#32) := ⟨_, off7_eq i k 0⟩
instance : ClosedOff (k0_off7 i k 1#32) := ⟨_, off7_eq i k 1⟩
instance : ClosedOff (k0_off7 i k 2#32) := ⟨_, off7_eq i k 2⟩
instance : ClosedOff (k0_off7 i k 3#32) := ⟨_, off7_eq i k 3⟩
instance : ClosedOff (k0_off6 i k 0#32) := ⟨_, off6_eq i k 0⟩
instance : ClosedOff (k0_off6 i k 1#32) := ⟨_, off6_eq i k 1⟩
instance : ClosedOff (k0_off6 i k 2#32) := ⟨_, off6_eq i k 2⟩
instance : ClosedOff (k0_off6 i k 3#32) := ⟨_, off6_eq i k 3⟩
instance : ClosedOff (k0_off8 i k 0#32) := ⟨_, off8_eq i k 0⟩
instance : ClosedOff (k0_off8 i k 1#32) := ⟨_, off8_eq i k 1⟩
instance : ClosedOff (k0_off8 i k 2#32) := ⟨_, off8_eq i k 2⟩
instance : ClosedOff (k0_off8 i k 3#32) := ⟨_, off8_eq i k 3⟩
end

/-- The guarded tiles after the loop: tile `u` counts from the last tiles' number, `(15 - i 1) % 4`. -/
theorem off13_eq : ∀ i : grid0.Coords, k0_off13 i = ![512 * (16 - (15 - (i 1).val) % 4), 0] := by decide +kernel
/-- The corner of access 14, in rows and columns. -/
theorem off14_eq : ∀ i : grid0.Coords, k0_off14 i = ![0, 0, 512 * (16 - (15 - (i 1).val) % 4)] := by decide +kernel
/-- The corner of access 15, in rows and columns. -/
theorem off15_eq : ∀ i : grid0.Coords, k0_off15 i = ![512 * (16 - (15 - (i 1).val) % 4), 128] := by decide +kernel
/-- The corner of access 16, in rows and columns. -/
theorem off16_eq : ∀ i : grid0.Coords, k0_off16 i = ![1, 0, 512 * (16 - (15 - (i 1).val) % 4)] := by decide +kernel
/-- The corner of access 17, in rows and columns. -/
theorem off17_eq : ∀ i : grid0.Coords, k0_off17 i = ![512 * (17 - (15 - (i 1).val) % 4), 0] := by decide +kernel
/-- The corner of access 18, in rows and columns. -/
theorem off18_eq : ∀ i : grid0.Coords, k0_off18 i = ![0, 0, 512 * (17 - (15 - (i 1).val) % 4)] := by decide +kernel
/-- The corner of access 19, in rows and columns. -/
theorem off19_eq : ∀ i : grid0.Coords, k0_off19 i = ![512 * (17 - (15 - (i 1).val) % 4), 128] := by decide +kernel
/-- The corner of access 20, in rows and columns. -/
theorem off20_eq : ∀ i : grid0.Coords, k0_off20 i = ![1, 0, 512 * (17 - (15 - (i 1).val) % 4)] := by decide +kernel
/-- The corner of access 21, in rows and columns. -/
theorem off21_eq : ∀ i : grid0.Coords, k0_off21 i = ![512 * (18 - (15 - (i 1).val) % 4), 0] := by decide +kernel
/-- The corner of access 22, in rows and columns. -/
theorem off22_eq : ∀ i : grid0.Coords, k0_off22 i = ![0, 0, 512 * (18 - (15 - (i 1).val) % 4)] := by decide +kernel
/-- The corner of access 23, in rows and columns. -/
theorem off23_eq : ∀ i : grid0.Coords, k0_off23 i = ![512 * (18 - (15 - (i 1).val) % 4), 128] := by decide +kernel
/-- The corner of access 24, in rows and columns. -/
theorem off24_eq : ∀ i : grid0.Coords, k0_off24 i = ![1, 0, 512 * (18 - (15 - (i 1).val) % 4)] := by decide +kernel

instance (i : grid0.Coords) : ClosedOff (k0_off13 i) := ⟨_, off13_eq i⟩
instance (i : grid0.Coords) : ClosedOff (k0_off14 i) := ⟨_, off14_eq i⟩
instance (i : grid0.Coords) : ClosedOff (k0_off15 i) := ⟨_, off15_eq i⟩
instance (i : grid0.Coords) : ClosedOff (k0_off16 i) := ⟨_, off16_eq i⟩
instance (i : grid0.Coords) : ClosedOff (k0_off17 i) := ⟨_, off17_eq i⟩
instance (i : grid0.Coords) : ClosedOff (k0_off18 i) := ⟨_, off18_eq i⟩
instance (i : grid0.Coords) : ClosedOff (k0_off19 i) := ⟨_, off19_eq i⟩
instance (i : grid0.Coords) : ClosedOff (k0_off20 i) := ⟨_, off20_eq i⟩
instance (i : grid0.Coords) : ClosedOff (k0_off21 i) := ⟨_, off21_eq i⟩
instance (i : grid0.Coords) : ClosedOff (k0_off22 i) := ⟨_, off22_eq i⟩
instance (i : grid0.Coords) : ClosedOff (k0_off23 i) := ⟨_, off23_eq i⟩
instance (i : grid0.Coords) : ClosedOff (k0_off24 i) := ⟨_, off24_eq i⟩

/-- When the guarded tiles run. -/
theorem cond3_iff : ∀ i : grid0.Coords, k0_cond3 i = 1#1 ↔ 0 < (15 - (i 1).val) % 4 := by decide +kernel
/-- When remainder step 1 is taken. -/
theorem cond4_iff : ∀ i : grid0.Coords, k0_cond4 i = 1#1 ↔ 1 < (15 - (i 1).val) % 4 := by decide +kernel
/-- When remainder step 2 is taken. -/
theorem cond5_iff : ∀ i : grid0.Coords, k0_cond5 i = 1#1 ↔ 2 < (15 - (i 1).val) % 4 := by decide +kernel

end Cert.KernelIdeal.Hand
-- ==== Proof.KI.Reads.lean ====
module

public import proofs.«01_k».proof.Proof.KI.Pays
public import proofs.«01_k».proof.Proof.KI.Offsets

/-! A load of the kernel is a slice of what its buffer holds, a store replaces a slice: at every offset the kernel uses. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline

variable {F : FTy → Type} [FloatOps F] [Named F]

section
variable {sg : RefSig} {kd : Kind} {sp : Space} {Val : EltTy → Type}

/-- A load of 512 rows and one head's columns. -/
theorem ldA {e : EltTy} (v : View sg kd sp S8192x256 e) (f : v.ty.Contents (Elt F)) {off : Fin S8192x256.rank → ℕ} (inb : ∀ a, off a + S512x128.size a ≤ S8192x256.size a)
    {n c : ℕ} (h : off = ![512 * n, c]) : v.readAt (Elt F) (Rect.unit (s := S8192x256) off S512x128.size inb).toLoadRect f = sl (v.read (Elt F) f) n c := by
  subst h
  exact (View.readAt_unit v f inb rfl inb).trans (cut_eq_window posA _ _ _ inb).symm
/-- A load of one head's columns of a tile. -/
theorem ldB {e : EltTy} (v : View sg kd sp S512x256 e) (f : v.ty.Contents (Elt F)) {off : Fin S512x256.rank → ℕ} (inb : ∀ a, off a + S512x128.size a ≤ S512x256.size a)
    {c : ℕ} (h : off = ![0, c]) : v.readAt (Elt F) (Rect.unit (s := S512x256) off S512x128.size inb).toLoadRect f = co (v.read (Elt F) f) c := by
  subst h
  exact (View.readAt_unit v f inb rfl inb).trans (cut_eq_window posB _ _ _ inb).symm
/-- A load of one head's numbers for a tile of queries. -/
theorem ldC (v : View sg kd sp S2x8x8192 .f32) (f : v.ty.Contents (Elt F)) {off : Fin S2x8x8192.rank → ℕ} (inb : ∀ a, off a + S1x1x512.size a ≤ S2x8x8192.size a)
    {n h : ℕ} (ho : off = ![h, 0, 512 * n]) : v.readAt (Elt F) (Rect.unit (s := S2x8x8192) off S1x1x512.size inb).toLoadRect f = ro (v.read (Elt F) f) h n := by
  subst ho
  exact (View.readAt_unit v f inb rfl inb).trans (cut_eq_window posC _ _ _ inb).symm
/-- A store of 512 rows and one head's columns. -/
theorem stA (v : View sg kd sp S8192x256 .f32) (f : v.ty.Contents (Elt F)) {off : Fin S8192x256.rank → ℕ} (inb : ∀ a, off a + S512x128.size a ≤ S8192x256.size a)
    {n c : ℕ} (h : off = ![512 * n, c]) (w : Vec F S512x128 .f32) (L : List (View.Piece (Elt F) S8192x256 .f32)) :
    v.read (Elt F) (v.writes (Elt F) f (⟨Rect.unit (s := S8192x256) off S512x128.size inb, w⟩ :: L)) = upd (v.read (Elt F) (v.writes (Elt F) f L)) n c w := by
  subst h
  exact View.read_writes_cons_put v f inb w L rfl
/-- A store of one head's columns of a tile. -/
theorem stB (v : View sg kd sp S512x256 .f32) (f : v.ty.Contents (Elt F)) {off : Fin S512x256.rank → ℕ} (inb : ∀ a, off a + S512x128.size a ≤ S512x256.size a)
    {c : ℕ} (h : off = ![0, c]) (w : Vec F S512x128 .f32) (L : List (View.Piece (Elt F) S512x256 .f32)) :
    v.read (Elt F) (v.writes (Elt F) f (⟨Rect.unit (s := S512x256) off S512x128.size inb, w⟩ :: L)) = updc (v.read (Elt F) (v.writes (Elt F) f L)) c w := by
  subst h
  exact View.read_writes_cons_put v f inb w L rfl
/-- A load of the first head's columns of a tile. -/
theorem ldB_0 {e : EltTy} (v : View sg kd sp S512x256 e) (f : v.ty.Contents (Elt F)) (inb) :
    v.readAt (Elt F) (Rect.unit (s := S512x256) ![0, 0] S512x128.size inb).toLoadRect f = co (v.read (Elt F) f) 0 := ldB v f inb rfl
/-- A load of the second head's columns of a tile. -/
theorem ldB_1 {e : EltTy} (v : View sg kd sp S512x256 e) (f : v.ty.Contents (Elt F)) (inb) :
    v.readAt (Elt F) (Rect.unit (s := S512x256) ![0, 128] S512x128.size inb).toLoadRect f = co (v.read (Elt F) f) 128 := ldB v f inb rfl
/-- A load of what was stored of the first head's columns of a tile. -/
theorem cvB_0 {e : EltTy} (v : View sg kd sp S512x256 e) (L : List (View.Piece (Elt F) S512x256 e)) (inb) :
    v.readCov L (Rect.unit (s := S512x256) ![0, 0] S512x128.size inb).toLoadRect = co (v.read (Elt F) (v.writes (Elt F) v.junk L)) 0 := ldB v _ inb rfl
/-- A load of what was stored of the second head's columns of a tile. -/
theorem cvB_1 {e : EltTy} (v : View sg kd sp S512x256 e) (L : List (View.Piece (Elt F) S512x256 e)) (inb) :
    v.readCov L (Rect.unit (s := S512x256) ![0, 128] S512x128.size inb).toLoadRect = co (v.read (Elt F) (v.writes (Elt F) v.junk L)) 128 := ldB v _ inb rfl
/-- A store of the first head's columns of a tile. -/
theorem stB_0 (v : View sg kd sp S512x256 .f32) (f : v.ty.Contents (Elt F)) (inb) (w) (L : List (View.Piece (Elt F) S512x256 .f32)) :
    v.read (Elt F) (v.writes (Elt F) f (⟨Rect.unit (s := S512x256) ![0, 0] S512x128.size inb, w⟩ :: L)) = updc (v.read (Elt F) (v.writes (Elt F) f L)) 0 w := stB v f inb rfl w L
/-- A store of the second head's columns of a tile. -/
theorem stB_1 (v : View sg kd sp S512x256 .f32) (f : v.ty.Contents (Elt F)) (inb) (w) (L : List (View.Piece (Elt F) S512x256 .f32)) :
    v.read (Elt F) (v.writes (Elt F) f (⟨Rect.unit (s := S512x256) ![0, 128] S512x128.size inb, w⟩ :: L)) = updc (v.read (Elt F) (v.writes (Elt F) f L)) 128 w := stB v f inb rfl w L

/-- No store changes nothing. -/
theorem readNil {s : Shape} {e : EltTy} (v : View sg kd sp s e) (f : v.ty.Contents (Elt F)) : v.read (Elt F) (v.writes (Elt F) f []) = v.read (Elt F) f := rfl
/-- One store is a list of one piece. -/
theorem foldP {s : Shape} {e : EltTy} (v : View sg kd sp s e) (f : v.ty.Contents (Elt F)) (p : View.Piece (Elt F) s e) :
    v.read (Elt F) ((v.slice p.1).write (Elt F) f p.2 Finset.univ) = v.read (Elt F) (v.writes (Elt F) f [p]) := rfl
/-- A load of the whole array. -/
theorem ldFA {e : EltTy} (v : View sg kd sp S8192x256 e) (f : v.ty.Contents (Elt F)) (inb) :
    v.readAt (Elt F) (Rect.unit (s := S8192x256) ![0, 0] S8192x256.size inb).toLoadRect f = v.read (Elt F) f := View.readAt_full v f inb
/-- A load of what was stored of the whole array. -/
theorem cvFA {e : EltTy} (v : View sg kd sp S8192x256 e) (L : List (View.Piece (Elt F) S8192x256 e)) (inb) :
    v.readCov L (Rect.unit (s := S8192x256) ![0, 0] S8192x256.size inb).toLoadRect = v.read (Elt F) (v.writes (Elt F) v.junk L) := View.readAt_full v _ inb
/-- A store of the whole array. -/
theorem stFA {e : EltTy} (v : View sg kd sp S8192x256 e) (f : v.ty.Contents (Elt F)) (inb) (w) (L : List (View.Piece (Elt F) S8192x256 e)) :
    v.read (Elt F) (v.writes (Elt F) f (⟨Rect.unit (s := S8192x256) ![0, 0] S8192x256.size inb, w⟩ :: L)) = w := View.read_writes_full v f inb w L
/-- A load of the whole array. -/
theorem ldFB {e : EltTy} (v : View sg kd sp S512x256 e) (f : v.ty.Contents (Elt F)) (inb) :
    v.readAt (Elt F) (Rect.unit (s := S512x256) ![0, 0] S512x256.size inb).toLoadRect f = v.read (Elt F) f := View.readAt_full v f inb
/-- A load of what was stored of the whole array. -/
theorem cvFB {e : EltTy} (v : View sg kd sp S512x256 e) (L : List (View.Piece (Elt F) S512x256 e)) (inb) :
    v.readCov L (Rect.unit (s := S512x256) ![0, 0] S512x256.size inb).toLoadRect = v.read (Elt F) (v.writes (Elt F) v.junk L) := View.readAt_full v _ inb
/-- A store of the whole array. -/
theorem stFB {e : EltTy} (v : View sg kd sp S512x256 e) (f : v.ty.Contents (Elt F)) (inb) (w) (L : List (View.Piece (Elt F) S512x256 e)) :
    v.read (Elt F) (v.writes (Elt F) f (⟨Rect.unit (s := S512x256) ![0, 0] S512x256.size inb, w⟩ :: L)) = w := View.read_writes_full v f inb w L
/-- A load of the whole array. -/
theorem ldFD {e : EltTy} (v : View sg kd sp S512x512 e) (f : v.ty.Contents (Elt F)) (inb) :
    v.readAt (Elt F) (Rect.unit (s := S512x512) ![0, 0] S512x512.size inb).toLoadRect f = v.read (Elt F) f := View.readAt_full v f inb
/-- A load of what was stored of the whole array. -/
theorem cvFD {e : EltTy} (v : View sg kd sp S512x512 e) (L : List (View.Piece (Elt F) S512x512 e)) (inb) :
    v.readCov L (Rect.unit (s := S512x512) ![0, 0] S512x512.size inb).toLoadRect = v.read (Elt F) (v.writes (Elt F) v.junk L) := View.readAt_full v _ inb
/-- A store of the whole array. -/
theorem stFD {e : EltTy} (v : View sg kd sp S512x512 e) (f : v.ty.Contents (Elt F)) (inb) (w) (L : List (View.Piece (Elt F) S512x512 e)) :
    v.read (Elt F) (v.writes (Elt F) f (⟨Rect.unit (s := S512x512) ![0, 0] S512x512.size inb, w⟩ :: L)) = w := View.read_writes_full v f inb w L
/-- A load at access 5, in the loop's step 0. -/
theorem ld5_0 (i : grid0.Coords) (k : Fin (k0_t1_loop i).trips) {e : EltTy} (v : View sg kd sp S8192x256 e) (f : v.ty.Contents (Elt F)) (inb) :
    v.readAt (Elt F) (Rect.unit (s := S8192x256) (k0_off5 i k 0#32) S512x128.size inb).toLoadRect f = sl (v.read (Elt F) f) ((i 1).val + 1 + 0 + 4 * k.val) 0 := ldA v f inb (off5_eq i k 0)
/-- A store at access 5, in the loop's step 0. -/
theorem st5_0 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off5 i k 0#32) S512x128.size inb, w⟩ :: L)) = upd (v.read (Elt F) (v.writes (Elt F) f L)) ((i 1).val + 1 + 0 + 4 * k.val) 0 w := stA v f inb (off5_eq i k 0) w L
/-- A load at access 7, in the loop's step 0. -/
theorem ld7_0 (i : grid0.Coords) (k : Fin (k0_t1_loop i).trips) {e : EltTy} (v : View sg kd sp S8192x256 e) (f : v.ty.Contents (Elt F)) (inb) :
    v.readAt (Elt F) (Rect.unit (s := S8192x256) (k0_off7 i k 0#32) S512x128.size inb).toLoadRect f = sl (v.read (Elt F) f) ((i 1).val + 1 + 0 + 4 * k.val) 128 := ldA v f inb (off7_eq i k 0)
/-- A store at access 7, in the loop's step 0. -/
theorem st7_0 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off7 i k 0#32) S512x128.size inb, w⟩ :: L)) = upd (v.read (Elt F) (v.writes (Elt F) f L)) ((i 1).val + 1 + 0 + 4 * k.val) 128 w := stA v f inb (off7_eq i k 0) w L
/-- A load at access 6, in the loop's step 0. -/
theorem ld6_0 (i : grid0.Coords) (k : Fin (k0_t1_loop i).trips) (v : View sg kd sp S2x8x8192 .f32) (f : v.ty.Contents (Elt F)) (inb) :
    v.readAt (Elt F) (Rect.unit (s := S2x8x8192) (k0_off6 i k 0#32) S1x1x512.size inb).toLoadRect f = ro (v.read (Elt F) f) 0 ((i 1).val + 1 + 0 + 4 * k.val) := ldC v f inb (off6_eq i k 0)
/-- A load at access 8, in the loop's step 0. -/
theorem ld8_0 (i : grid0.Coords) (k : Fin (k0_t1_loop i).trips) (v : View sg kd sp S2x8x8192 .f32) (f : v.ty.Contents (Elt F)) (inb) :
    v.readAt (Elt F) (Rect.unit (s := S2x8x8192) (k0_off8 i k 0#32) S1x1x512.size inb).toLoadRect f = ro (v.read (Elt F) f) 1 ((i 1).val + 1 + 0 + 4 * k.val) := ldC v f inb (off8_eq i k 0)
/-- A load at access 5, in the loop's step 1. -/
theorem ld5_1 (i : grid0.Coords) (k : Fin (k0_t1_loop i).trips) {e : EltTy} (v : View sg kd sp S8192x256 e) (f : v.ty.Contents (Elt F)) (inb) :
    v.readAt (Elt F) (Rect.unit (s := S8192x256) (k0_off5 i k 1#32) S512x128.size inb).toLoadRect f = sl (v.read (Elt F) f) ((i 1).val + 1 + 1 + 4 * k.val) 0 := ldA v f inb (off5_eq i k 1)
/-- A store at access 5, in the loop's step 1. -/
theorem st5_1 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off5 i k 1#32) S512x128.size inb, w⟩ :: L)) = upd (v.read (Elt F) (v.writes (Elt F) f L)) ((i 1).val + 1 + 1 + 4 * k.val) 0 w := stA v f inb (off5_eq i k 1) w L
/-- A load at access 7, in the loop's step 1. -/
theorem ld7_1 (i : grid0.Coords) (k : Fin (k0_t1_loop i).trips) {e : EltTy} (v : View sg kd sp S8192x256 e) (f : v.ty.Contents (Elt F)) (inb) :
    v.readAt (Elt F) (Rect.unit (s := S8192x256) (k0_off7 i k 1#32) S512x128.size inb).toLoadRect f = sl (v.read (Elt F) f) ((i 1).val + 1 + 1 + 4 * k.val) 128 := ldA v f inb (off7_eq i k 1)
/-- A store at access 7, in the loop's step 1. -/
theorem st7_1 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off7 i k 1#32) S512x128.size inb, w⟩ :: L)) = upd (v.read (Elt F) (v.writes (Elt F) f L)) ((i 1).val + 1 + 1 + 4 * k.val) 128 w := stA v f inb (off7_eq i k 1) w L
/-- A load at access 6, in the loop's step 1. -/
theorem ld6_1 (i : grid0.Coords) (k : Fin (k0_t1_loop i).trips) (v : View sg kd sp S2x8x8192 .f32) (f : v.ty.Contents (Elt F)) (inb) :
    v.readAt (Elt F) (Rect.unit (s := S2x8x8192) (k0_off6 i k 1#32) S1x1x512.size inb).toLoadRect f = ro (v.read (Elt F) f) 0 ((i 1).val + 1 + 1 + 4 * k.val) := ldC v f inb (off6_eq i k 1)
/-- A load at access 8, in the loop's step 1. -/
theorem ld8_1 (i : grid0.Coords) (k : Fin (k0_t1_loop i).trips) (v : View sg kd sp S2x8x8192 .f32) (f : v.ty.Contents (Elt F)) (inb) :
    v.readAt (Elt F) (Rect.unit (s := S2x8x8192) (k0_off8 i k 1#32) S1x1x512.size inb).toLoadRect f = ro (v.read (Elt F) f) 1 ((i 1).val + 1 + 1 + 4 * k.val) := ldC v f inb (off8_eq i k 1)
/-- A load at access 5, in the loop's step 2. -/
theorem ld5_2 (i : grid0.Coords) (k : Fin (k0_t1_loop i).trips) {e : EltTy} (v : View sg kd sp S8192x256 e) (f : v.ty.Contents (Elt F)) (inb) :
    v.readAt (Elt F) (Rect.unit (s := S8192x256) (k0_off5 i k 2#32) S512x128.size inb).toLoadRect f = sl (v.read (Elt F) f) ((i 1).val + 1 + 2 + 4 * k.val) 0 := ldA v f inb (off5_eq i k 2)
/-- A store at access 5, in the loop's step 2. -/
theorem st5_2 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off5 i k 2#32) S512x128.size inb, w⟩ :: L)) = upd (v.read (Elt F) (v.writes (Elt F) f L)) ((i 1).val + 1 + 2 + 4 * k.val) 0 w := stA v f inb (off5_eq i k 2) w L
/-- A load at access 7, in the loop's step 2. -/
theorem ld7_2 (i : grid0.Coords) (k : Fin (k0_t1_loop i).trips) {e : EltTy} (v : View sg kd sp S8192x256 e) (f : v.ty.Contents (Elt F)) (inb) :
    v.readAt (Elt F) (Rect.unit (s := S8192x256) (k0_off7 i k 2#32) S512x128.size inb).toLoadRect f = sl (v.read (Elt F) f) ((i 1).val + 1 + 2 + 4 * k.val) 128 := ldA v f inb (off7_eq i k 2)
/-- A store at access 7, in the loop's step 2. -/
theorem st7_2 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off7 i k 2#32) S512x128.size inb, w⟩ :: L)) = upd (v.read (Elt F) (v.writes (Elt F) f L)) ((i 1).val + 1 + 2 + 4 * k.val) 128 w := stA v f inb (off7_eq i k 2) w L
/-- A load at access 6, in the loop's step 2. -/
theorem ld6_2 (i : grid0.Coords) (k : Fin (k0_t1_loop i).trips) (v : View sg kd sp S2x8x8192 .f32) (f : v.ty.Contents (Elt F)) (inb) :
    v.readAt (Elt F) (Rect.unit (s := S2x8x8192) (k0_off6 i k 2#32) S1x1x512.size inb).toLoadRect f = ro (v.read (Elt F) f) 0 ((i 1).val + 1 + 2 + 4 * k.val) := ldC v f inb (off6_eq i k 2)
/-- A load at access 8, in the loop's step 2. -/
theorem ld8_2 (i : grid0.Coords) (k : Fin (k0_t1_loop i).trips) (v : View sg kd sp S2x8x8192 .f32) (f : v.ty.Contents (Elt F)) (inb) :
    v.readAt (Elt F) (Rect.unit (s := S2x8x8192) (k0_off8 i k 2#32) S1x1x512.size inb).toLoadRect f = ro (v.read (Elt F) f) 1 ((i 1).val + 1 + 2 + 4 * k.val) := ldC v f inb (off8_eq i k 2)
/-- A load at access 5, in the loop's step 3. -/
theorem ld5_3 (i : grid0.Coords) (k : Fin (k0_t1_loop i).trips) {e : EltTy} (v : View sg kd sp S8192x256 e) (f : v.ty.Contents (Elt F)) (inb) :
    v.readAt (Elt F) (Rect.unit (s := S8192x256) (k0_off5 i k 3#32) S512x128.size inb).toLoadRect f = sl (v.read (Elt F) f) ((i 1).val + 1 + 3 + 4 * k.val) 0 := ldA v f inb (off5_eq i k 3)
/-- A store at access 5, in the loop's step 3. -/
theorem st5_3 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off5 i k 3#32) S512x128.size inb, w⟩ :: L)) = upd (v.read (Elt F) (v.writes (Elt F) f L)) ((i 1).val + 1 + 3 + 4 * k.val) 0 w := stA v f inb (off5_eq i k 3) w L
/-- A load at access 7, in the loop's step 3. -/
theorem ld7_3 (i : grid0.Coords) (k : Fin (k0_t1_loop i).trips) {e : EltTy} (v : View sg kd sp S8192x256 e) (f : v.ty.Contents (Elt F)) (inb) :
    v.readAt (Elt F) (Rect.unit (s := S8192x256) (k0_off7 i k 3#32) S512x128.size inb).toLoadRect f = sl (v.read (Elt F) f) ((i 1).val + 1 + 3 + 4 * k.val) 128 := ldA v f inb (off7_eq i k 3)
/-- A store at access 7, in the loop's step 3. -/
theorem st7_3 (i : grid0.Coords) (k : Fin (k0_t1_loop i).trips) (v : View sg kd sp S8192x256 .f32) (f : v.ty.Contents (Elt F)) (inb) (w) (L : List (View.Piece (Elt F) S8192x256 .f32)) :
    v.read (Elt F) (v.writes (Elt F) f (⟨Rect.unit (s := S8192x256) (k0_off7 i k 3#32) S512x128.size inb, w⟩ :: L)) = upd (v.read (Elt F) (v.writes (Elt F) f L)) ((i 1).val + 1 + 3 + 4 * k.val) 128 w := stA v f inb (off7_eq i k 3) w L
/-- A load at access 6, in the loop's step 3. -/
theorem ld6_3 (i : grid0.Coords) (k : Fin (k0_t1_loop i).trips) (v : View sg kd sp S2x8x8192 .f32) (f : v.ty.Contents (Elt F)) (inb) :
    v.readAt (Elt F) (Rect.unit (s := S2x8x8192) (k0_off6 i k 3#32) S1x1x512.size inb).toLoadRect f = ro (v.read (Elt F) f) 0 ((i 1).val + 1 + 3 + 4 * k.val) := ldC v f inb (off6_eq i k 3)
/-- A load at access 8, in the loop's step 3. -/
theorem ld8_3 (i : grid0.Coords) (k : Fin (k0_t1_loop i).trips) (v : View sg kd sp S2x8x8192 .f32) (f : v.ty.Contents (Elt F)) (inb) :
    v.readAt (Elt F) (Rect.unit (s := S2x8x8192) (k0_off8 i k 3#32) S1x1x512.size inb).toLoadRect f = ro (v.read (Elt F) f) 1 ((i 1).val + 1 + 3 + 4 * k.val) := ldC v f inb (off8_eq i k 3)
/-- A load at access 13. -/
theorem ld13 (i : grid0.Coords) {e : EltTy} (v : View sg kd sp S8192x256 e) (f : v.ty.Contents (Elt F)) (inb) :
    v.readAt (Elt F) (Rect.unit (s := S8192x256) (k0_off13 i) S512x128.size inb).toLoadRect f = sl (v.read (Elt F) f) (16 - (15 - (i 1).val) % 4) 0 := ldA v f inb (off13_eq i)
/-- A store at access 13. -/
theorem st13 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off13 i) S512x128.size inb, w⟩ :: L)) = upd (v.read (Elt F) (v.writes (Elt F) f L)) (16 - (15 - (i 1).val) % 4) 0 w := stA v f inb (off13_eq i) w L
/-- A load at access 14. -/
theorem ld14 (i : grid0.Coords) (v : View sg kd sp S2x8x8192 .f32) (f : v.ty.Contents (Elt F)) (inb) :
    v.readAt (Elt F) (Rect.unit (s := S2x8x8192) (k0_off14 i) S1x1x512.size inb).toLoadRect f = ro (v.read (Elt F) f) 0 (16 - (15 - (i 1).val) % 4) := ldC v f inb (off14_eq i)
/-- A load at access 15. -/
theorem ld15 (i : grid0.Coords) {e : EltTy} (v : View sg kd sp S8192x256 e) (f : v.ty.Contents (Elt F)) (inb) :
    v.readAt (Elt F) (Rect.unit (s := S8192x256) (k0_off15 i) S512x128.size inb).toLoadRect f = sl (v.read (Elt F) f) (16 - (15 - (i 1).val) % 4) 128 := ldA v f inb (off15_eq i)
/-- A store at access 15. -/
theorem st15 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off15 i) S512x128.size inb, w⟩ :: L)) = upd (v.read (Elt F) (v.writes (Elt F) f L)) (16 - (15 - (i 1).val) % 4) 128 w := stA v f inb (off15_eq i) w L
/-- A load at access 16. -/
theorem ld16 (i : grid0.Coords) (v : View sg kd sp S2x8x8192 .f32) (f : v.ty.Contents (Elt F)) (inb) :
    v.readAt (Elt F) (Rect.unit (s := S2x8x8192) (k0_off16 i) S1x1x512.size inb).toLoadRect f = ro (v.read (Elt F) f) 1 (16 - (15 - (i 1).val) % 4) := ldC v f inb (off16_eq i)
/-- A load at access 17. -/
theorem ld17 (i : grid0.Coords) {e : EltTy} (v : View sg kd sp S8192x256 e) (f : v.ty.Contents (Elt F)) (inb) :
    v.readAt (Elt F) (Rect.unit (s := S8192x256) (k0_off17 i) S512x128.size inb).toLoadRect f = sl (v.read (Elt F) f) (17 - (15 - (i 1).val) % 4) 0 := ldA v f inb (off17_eq i)
/-- A store at access 17. -/
theorem st17 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off17 i) S512x128.size inb, w⟩ :: L)) = upd (v.read (Elt F) (v.writes (Elt F) f L)) (17 - (15 - (i 1).val) % 4) 0 w := stA v f inb (off17_eq i) w L
/-- A load at access 18. -/
theorem ld18 (i : grid0.Coords) (v : View sg kd sp S2x8x8192 .f32) (f : v.ty.Contents (Elt F)) (inb) :
    v.readAt (Elt F) (Rect.unit (s := S2x8x8192) (k0_off18 i) S1x1x512.size inb).toLoadRect f = ro (v.read (Elt F) f) 0 (17 - (15 - (i 1).val) % 4) := ldC v f inb (off18_eq i)
/-- A load at access 19. -/
theorem ld19 (i : grid0.Coords) {e : EltTy} (v : View sg kd sp S8192x256 e) (f : v.ty.Contents (Elt F)) (inb) :
    v.readAt (Elt F) (Rect.unit (s := S8192x256) (k0_off19 i) S512x128.size inb).toLoadRect f = sl (v.read (Elt F) f) (17 - (15 - (i 1).val) % 4) 128 := ldA v f inb (off19_eq i)
/-- A store at access 19. -/
theorem st19 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off19 i) S512x128.size inb, w⟩ :: L)) = upd (v.read (Elt F) (v.writes (Elt F) f L)) (17 - (15 - (i 1).val) % 4) 128 w := stA v f inb (off19_eq i) w L
/-- A load at access 20. -/
theorem ld20 (i : grid0.Coords) (v : View sg kd sp S2x8x8192 .f32) (f : v.ty.Contents (Elt F)) (inb) :
    v.readAt (Elt F) (Rect.unit (s := S2x8x8192) (k0_off20 i) S1x1x512.size inb).toLoadRect f = ro (v.read (Elt F) f) 1 (17 - (15 - (i 1).val) % 4) := ldC v f inb (off20_eq i)
/-- A load at access 21. -/
theorem ld21 (i : grid0.Coords) {e : EltTy} (v : View sg kd sp S8192x256 e) (f : v.ty.Contents (Elt F)) (inb) :
    v.readAt (Elt F) (Rect.unit (s := S8192x256) (k0_off21 i) S512x128.size inb).toLoadRect f = sl (v.read (Elt F) f) (18 - (15 - (i 1).val) % 4) 0 := ldA v f inb (off21_eq i)
/-- A store at access 21. -/
theorem st21 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off21 i) S512x128.size inb, w⟩ :: L)) = upd (v.read (Elt F) (v.writes (Elt F) f L)) (18 - (15 - (i 1).val) % 4) 0 w := stA v f inb (off21_eq i) w L
/-- A load at access 22. -/
theorem ld22 (i : grid0.Coords) (v : View sg kd sp S2x8x8192 .f32) (f : v.ty.Contents (Elt F)) (inb) :
    v.readAt (Elt F) (Rect.unit (s := S2x8x8192) (k0_off22 i) S1x1x512.size inb).toLoadRect f = ro (v.read (Elt F) f) 0 (18 - (15 - (i 1).val) % 4) := ldC v f inb (off22_eq i)
/-- A load at access 23. -/
theorem ld23 (i : grid0.Coords) {e : EltTy} (v : View sg kd sp S8192x256 e) (f : v.ty.Contents (Elt F)) (inb) :
    v.readAt (Elt F) (Rect.unit (s := S8192x256) (k0_off23 i) S512x128.size inb).toLoadRect f = sl (v.read (Elt F) f) (18 - (15 - (i 1).val) % 4) 128 := ldA v f inb (off23_eq i)
/-- A store at access 23. -/
theorem st23 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off23 i) S512x128.size inb, w⟩ :: L)) = upd (v.read (Elt F) (v.writes (Elt F) f L)) (18 - (15 - (i 1).val) % 4) 128 w := stA v f inb (off23_eq i) w L
/-- A load at access 24. -/
theorem ld24 (i : grid0.Coords) (v : View sg kd sp S2x8x8192 .f32) (f : v.ty.Contents (Elt F)) (inb) :
    v.readAt (Elt F) (Rect.unit (s := S2x8x8192) (k0_off24 i) S1x1x512.size inb).toLoadRect f = ro (v.read (Elt F) f) 1 (18 - (15 - (i 1).val) % 4) := ldC v f inb (off24_eq i)
/-- A load at access 1. -/
theorem ld1 (i : grid0.Coords) {e : EltTy} (v : View sg kd sp S8192x256 e) (f : v.ty.Contents (Elt F)) (inb) :
    v.readAt (Elt F) (Rect.unit (s := S8192x256) (k0_off1 i) S512x128.size inb).toLoadRect f = sl (v.read (Elt F) f) ((i 1).val) 0 := ldA v f inb (k0_off1_eq i)
/-- A store at access 1. -/
theorem st1 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off1 i) S512x128.size inb, w⟩ :: L)) = upd (v.read (Elt F) (v.writes (Elt F) f L)) ((i 1).val) 0 w := stA v f inb (k0_off1_eq i) w L
/-- A load at access 2. -/
theorem ld2 (i : grid0.Coords) (v : View sg kd sp S2x8x8192 .f32) (f : v.ty.Contents (Elt F)) (inb) :
    v.readAt (Elt F) (Rect.unit (s := S2x8x8192) (k0_off2 i) S1x1x512.size inb).toLoadRect f = ro (v.read (Elt F) f) 0 ((i 1).val) := ldC v f inb (k0_off2_eq i)
/-- A load at access 3. -/
theorem ld3 (i : grid0.Coords) {e : EltTy} (v : View sg kd sp S8192x256 e) (f : v.ty.Contents (Elt F)) (inb) :
    v.readAt (Elt F) (Rect.unit (s := S8192x256) (k0_off3 i) S512x128.size inb).toLoadRect f = sl (v.read (Elt F) f) ((i 1).val) 128 := ldA v f inb (k0_off3_eq i)
/-- A store at access 3. -/
theorem st3 (i : grid0.Coords) (v : View sg kd sp S8192x256 .f32) (f : v.ty.Contents (Elt F)) (inb) (w) (L : List (View.Piece (Elt F) S8192x256 .f32)) :
    v.read (Elt F) (v.writes (Elt F) f (⟨Rect.unit (s := S8192x256) (k0_off3 i) S512x128.size inb, w⟩ :: L)) = upd (v.read (Elt F) (v.writes (Elt F) f L)) ((i 1).val) 128 w := stA v f inb (k0_off3_eq i) w L
/-- A load at access 4. -/
theorem ld4 (i : grid0.Coords) (v : View sg kd sp S2x8x8192 .f32) (f : v.ty.Contents (Elt F)) (inb) :
    v.readAt (Elt F) (Rect.unit (s := S2x8x8192) (k0_off4 i) S1x1x512.size inb).toLoadRect f = ro (v.read (Elt F) f) 1 ((i 1).val) := ldC v f inb (k0_off4_eq i)
end

end Cert.KernelIdeal.Hand

end
-- ==== Proof.KI.Trip.lean ====
module

public import proofs.«01_k».proof.Proof.KI.Reads
public import proofs.«01_k».proof.Proof.Gen.KernelIdeal.Loops
public import proofs.«01_k».proof.Proof.Gen.KernelIdeal.Frame

/-!
The counted loop over the later query tiles: one trip takes four tiles, and before trip `k` the three arrays hold the
state after `4 k` tiles.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)
  (arg1 v96 c4_i32 v97 v102 v107 : BitVec 32)

/-- The buffer of `m` on core `c`, whole, at contents `f`. -/
abbrev held {S : Shape} {e : EltTy} (m : Memref sig .tc .vmem S e) (f : Buf (Elt F) (m.view.loc (c : Thread nD τ))) : sProp 𝕄 :=
  m.view.loc (c : Thread nD τ) ↦[m.view.set]{fullShare} f

omit [FloatOps F] [Named F] in
/-- A buffer whose contents read `X` is held at the contents that read `X`. -/
theorem held_of_read {S : Shape} {e : EltTy} {m : Memref sig .tc .vmem S e} (h : m.IsWhole) (f : Buf (Elt F) (m.view.loc (c : Thread nD τ))) (X : Vec F S e)
    (hf : m.view.read (Elt F) f = X) : held c m f ⊢ held c m (h.unread X) := by
  rw [h.eq_unread hf]

section Bufs
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g11 : Buf (Elt F) (arg11.view.loc (c : Thread nD τ))) (g12 : Buf (Elt F) (arg12.view.loc (c : Thread nD τ)))

/-- What the six argument buffers read. -/
abbrev inOf : In F := ⟨arg2.view.read (Elt F) f2, arg3.view.read (Elt F) f3, arg4.view.read (Elt F) f4, arg5.view.read (Elt F) f5, arg6.view.read (Elt F) f6, arg7.view.read (Elt F) f7⟩
/-- What the three updated buffers read. -/
abbrev stOf : St F := ⟨arg8.view.read (Elt F) g8, arg11.view.read (Elt F) g11, arg12.view.read (Elt F) g12⟩

/-- The nine buffers a query tile touches. -/
abbrev nine : sProp 𝕄 :=
  iprop(held c arg2 f2 ∗ held c arg3 f3 ∗ held c arg4 f4 ∗ held c arg5 f5 ∗ held c arg6 f6 ∗ held c arg7 f7 ∗ held c arg8 g8 ∗ held c arg11 g11 ∗ held c arg12 g12)

/-- The four query tiles of trip `k`. -/
def four (k : ℕ) (x : In F) (s : St F) : St F :=
  tile x ((i 1).val + 1 + 3 + 4 * k) (tile x ((i 1).val + 1 + 2 + 4 * k) (tile x ((i 1).val + 1 + 1 + 4 * k) (tile x ((i 1).val + 1 + 0 + 4 * k) s)))

/-- A trip of the loop does the next four tiles. -/
theorem four_later (k : ℕ) (x : In F) (s : St F) : four i k x (later x (i 1).val s (4 * k)) = later x (i 1).val s (4 * (k + 1)) := by
  have e : 4 * (k + 1) = 4 * k + 1 + 1 + 1 + 1 := by omega
  rw [e, later_succ, later_succ, later_succ, later_succ]
  unfold four
  rw [show (i 1).val + 1 + 3 + 4 * k = (i 1).val + 1 + (4 * k + 1 + 1 + 1) by omega, show (i 1).val + 1 + 2 + 4 * k = (i 1).val + 1 + (4 * k + 1 + 1) by omega,
    show (i 1).val + 1 + 1 + 4 * k = (i 1).val + 1 + (4 * k + 1) by omega, show (i 1).val + 1 + 0 + 4 * k = (i 1).val + 1 + 4 * k by omega]

set_option maxHeartbeats 4000000 in
/-- One trip of the counted loop takes the four next query tiles. -/
theorem trip (k : Fin (k0_t1_loop i).trips) :
    nine c arg2 arg3 arg4 arg5 arg6 arg7 arg8 arg11 arg12 f2 f3 f4 f5 f6 f7 g8 g11 g12
    ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg1 v96 c4_i32 v97 v102 v107 k ())
        (fun _ => nine c arg2 arg3 arg4 arg5 arg6 arg7 arg8 arg11 arg12 f2 f3 f4 f5 f6 f7
          (harg8.unread (four i k (inOf c arg2 arg3 arg4 arg5 arg6 arg7 f2 f3 f4 f5 f6 f7) (stOf c arg8 arg11 arg12 g8 g11 g12)).dq)
          (harg11.unread (four i k (inOf c arg2 arg3 arg4 arg5 arg6 arg7 f2 f3 f4 f5 f6 f7) (stOf c arg8 arg11 arg12 g8 g11 g12)).dk)
          (harg12.unread (four i k (inOf c arg2 arg3 arg4 arg5 arg6 arg7 f2 f3 f4 f5 f6 f7) (stOf c arg8 arg11 arg12 g8 g11 g12)).dv)) := by
  have hk : k.val < (15 - (i 1).val) / 4 := (trips1 i) ▸ k.isLt
  iintro ⟨H2, H3, H4, H5, H6, H7, H8, H11, H12⟩
  sl_unfold [k0_t1_body]
  sl_exec_parts
  sl_step
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    sl_unfold_run_names
    simp (maxSteps := 10000000) (disch := omega) only [↓ldB_0, ↓ldB_1, ↓cvB_0, ↓cvB_1, ↓stB_0, ↓stB_1, ↓ld5_0, ↓ld5_1, ↓ld5_2, ↓ld5_3, ↓ld6_0, ↓ld6_1, ↓ld6_2, ↓ld6_3, ↓ld7_0, ↓ld7_1, ↓ld7_2, ↓ld7_3, ↓ld8_0, ↓ld8_1, ↓ld8_2, ↓ld8_3, ↓st5_0, ↓st5_1, ↓st5_2, ↓st5_3, ↓st7_0, ↓st7_1, ↓st7_2, ↓st7_3, Memref.IsWhole.read_unread, View.writes_nil, co_updc_00, co_updc_01, co_updc_10, co_updc_11, updc_both, co_both_0, co_both_1, updc_both_1, sl_upd_ne, sl_upd_01, sl_upd_10, four, tile, step, prob, dsc, Nat.mul_zero, Nat.mul_one, k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay25_eq, k0_pay26_eq, k0_pay27_eq, k0_pay28_eq, k0_pay29_eq, k0_pay30_eq, k0_pay31_eq, k0_pay32_eq, k0_pay24_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay144_eq, k0_pay145_eq, k0_pay146_eq, k0_pay147_eq, fold_NT, fold_NN, fold_TN, fold_row, fold_sc1, fold_sc2, fold_tr, shapeCast_self] <;> rfl
  isplitl [H11]
  · refine held_of_read c harg11 _ _ ?_
    sl_unfold_run_names
    simp (maxSteps := 10000000) (disch := omega) only [↓ldB_0, ↓ldB_1, ↓cvB_0, ↓cvB_1, ↓stB_0, ↓stB_1, ↓ld5_0, ↓ld5_1, ↓ld5_2, ↓ld5_3, ↓ld6_0, ↓ld6_1, ↓ld6_2, ↓ld6_3, ↓ld7_0, ↓ld7_1, ↓ld7_2, ↓ld7_3, ↓ld8_0, ↓ld8_1, ↓ld8_2, ↓ld8_3, ↓st5_0, ↓st5_1, ↓st5_2, ↓st5_3, ↓st7_0, ↓st7_1, ↓st7_2, ↓st7_3, Memref.IsWhole.read_unread, View.writes_nil, co_updc_00, co_updc_01, co_updc_10, co_updc_11, updc_both, co_both_0, co_both_1, updc_both_1, sl_upd_ne, sl_upd_01, sl_upd_10, four, tile, step, prob, dsc, Nat.mul_zero, Nat.mul_one, k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay25_eq, k0_pay26_eq, k0_pay27_eq, k0_pay28_eq, k0_pay29_eq, k0_pay30_eq, k0_pay31_eq, k0_pay32_eq, k0_pay24_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay144_eq, k0_pay145_eq, k0_pay146_eq, k0_pay147_eq, fold_NT, fold_NN, fold_TN, fold_row, fold_sc1, fold_sc2, fold_tr, shapeCast_self] <;> rfl
  · refine held_of_read c harg12 _ _ ?_
    sl_unfold_run_names
    simp (maxSteps := 10000000) (disch := omega) only [↓ldB_0, ↓ldB_1, ↓cvB_0, ↓cvB_1, ↓stB_0, ↓stB_1, ↓ld5_0, ↓ld5_1, ↓ld5_2, ↓ld5_3, ↓ld6_0, ↓ld6_1, ↓ld6_2, ↓ld6_3, ↓ld7_0, ↓ld7_1, ↓ld7_2, ↓ld7_3, ↓ld8_0, ↓ld8_1, ↓ld8_2, ↓ld8_3, ↓st5_0, ↓st5_1, ↓st5_2, ↓st5_3, ↓st7_0, ↓st7_1, ↓st7_2, ↓st7_3, Memref.IsWhole.read_unread, View.writes_nil, co_updc_00, co_updc_01, co_updc_10, co_updc_11, updc_both, co_both_0, co_both_1, updc_both_1, sl_upd_ne, sl_upd_01, sl_upd_10, four, tile, step, prob, dsc, Nat.mul_zero, Nat.mul_one, k0_pay5_eq, k0_pay6_eq, k0_pay7_eq, k0_pay8_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay25_eq, k0_pay26_eq, k0_pay27_eq, k0_pay28_eq, k0_pay29_eq, k0_pay30_eq, k0_pay31_eq, k0_pay32_eq, k0_pay24_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay144_eq, k0_pay145_eq, k0_pay146_eq, k0_pay147_eq, fold_NT, fold_NN, fold_TN, fold_row, fold_sc1, fold_sc2, fold_tr, shapeCast_self] <;> rfl

/-- The gradients of the queries before trip `k`. -/
def acc8 : ℕ → Buf (Elt F) (arg8.view.loc (c : Thread nD τ))
  | 0 => g8
  | k + 1 => harg8.unread (later (inOf c arg2 arg3 arg4 arg5 arg6 arg7 f2 f3 f4 f5 f6 f7) (i 1).val (stOf c arg8 arg11 arg12 g8 g11 g12) (4 * (k + 1))).dq
/-- The gradients of the key tile before trip `k`. -/
def acc11 : ℕ → Buf (Elt F) (arg11.view.loc (c : Thread nD τ))
  | 0 => g11
  | k + 1 => harg11.unread (later (inOf c arg2 arg3 arg4 arg5 arg6 arg7 f2 f3 f4 f5 f6 f7) (i 1).val (stOf c arg8 arg11 arg12 g8 g11 g12) (4 * (k + 1))).dk
/-- The gradients of the value tile before trip `k`. -/
def acc12 : ℕ → Buf (Elt F) (arg12.view.loc (c : Thread nD τ))
  | 0 => g12
  | k + 1 => harg12.unread (later (inOf c arg2 arg3 arg4 arg5 arg6 arg7 f2 f3 f4 f5 f6 f7) (i 1).val (stOf c arg8 arg11 arg12 g8 g11 g12) (4 * (k + 1))).dv

/-- What dq holds after k trips. -/
theorem read_acc8 (k : ℕ) : arg8.view.read (Elt F) (acc8 c i arg2 arg3 arg4 arg5 arg6 arg7 arg8 harg8 arg11 arg12 f2 f3 f4 f5 f6 f7 g8 g11 g12 k)
    = (later (inOf c arg2 arg3 arg4 arg5 arg6 arg7 f2 f3 f4 f5 f6 f7) (i 1).val (stOf c arg8 arg11 arg12 g8 g11 g12) (4 * k)).dq := by
  cases k with
  | zero => rfl
  | succ k => exact harg8.read_unread _
/-- What the sum of dk holds after k trips. -/
theorem read_acc11 (k : ℕ) : arg11.view.read (Elt F) (acc11 c i arg2 arg3 arg4 arg5 arg6 arg7 arg8 arg11 harg11 arg12 f2 f3 f4 f5 f6 f7 g8 g11 g12 k)
    = (later (inOf c arg2 arg3 arg4 arg5 arg6 arg7 f2 f3 f4 f5 f6 f7) (i 1).val (stOf c arg8 arg11 arg12 g8 g11 g12) (4 * k)).dk := by
  cases k with
  | zero => rfl
  | succ k => exact harg11.read_unread _
/-- What the sum of dv holds after k trips. -/
theorem read_acc12 (k : ℕ) : arg12.view.read (Elt F) (acc12 c i arg2 arg3 arg4 arg5 arg6 arg7 arg8 arg11 arg12 harg12 f2 f3 f4 f5 f6 f7 g8 g11 g12 k)
    = (later (inOf c arg2 arg3 arg4 arg5 arg6 arg7 f2 f3 f4 f5 f6 f7) (i 1).val (stOf c arg8 arg11 arg12 g8 g11 g12) (4 * k)).dv := by
  cases k with
  | zero => rfl
  | succ k => exact harg12.read_unread _

/-- The invariant of the counted loop: before trip `k` the three arrays hold the state after `4 k` later tiles. -/
@[sl_loop] def loopInv1 : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v96 c4_i32 v97 v102 v107 where
  inv k _ := nine c arg2 arg3 arg4 arg5 arg6 arg7 arg8 arg11 arg12 f2 f3 f4 f5 f6 f7
    (acc8 c i arg2 arg3 arg4 arg5 arg6 arg7 arg8 harg8 arg11 arg12 f2 f3 f4 f5 f6 f7 g8 g11 g12 k)
    (acc11 c i arg2 arg3 arg4 arg5 arg6 arg7 arg8 arg11 harg11 arg12 f2 f3 f4 f5 f6 f7 g8 g11 g12 k)
    (acc12 c i arg2 arg3 arg4 arg5 arg6 arg7 arg8 arg11 arg12 harg12 f2 f3 f4 f5 f6 f7 g8 g11 g12 k)
  step k _ := by
    have h := trip (F := F) c i arg2 harg2 arg3 harg3 arg4 harg4 arg5 harg5 arg6 harg6 arg7 harg7 arg8 harg8 arg9 harg9 arg10 harg10 arg11 harg11 arg12 harg12 arg13 harg13 arg1 v96 c4_i32 v97 v102 v107 f2 f3 f4 f5 f6 f7
      (acc8 c i arg2 arg3 arg4 arg5 arg6 arg7 arg8 harg8 arg11 arg12 f2 f3 f4 f5 f6 f7 g8 g11 g12 k)
      (acc11 c i arg2 arg3 arg4 arg5 arg6 arg7 arg8 arg11 harg11 arg12 f2 f3 f4 f5 f6 f7 g8 g11 g12 k)
      (acc12 c i arg2 arg3 arg4 arg5 arg6 arg7 arg8 arg11 arg12 harg12 f2 f3 f4 f5 f6 f7 g8 g11 g12 k) k
    have e : stOf c arg8 arg11 arg12 (acc8 c i arg2 arg3 arg4 arg5 arg6 arg7 arg8 harg8 arg11 arg12 f2 f3 f4 f5 f6 f7 g8 g11 g12 k)
      (acc11 c i arg2 arg3 arg4 arg5 arg6 arg7 arg8 arg11 harg11 arg12 f2 f3 f4 f5 f6 f7 g8 g11 g12 k)
      (acc12 c i arg2 arg3 arg4 arg5 arg6 arg7 arg8 arg11 arg12 harg12 f2 f3 f4 f5 f6 f7 g8 g11 g12 k)
      = later (inOf c arg2 arg3 arg4 arg5 arg6 arg7 f2 f3 f4 f5 f6 f7) (i 1).val (stOf c arg8 arg11 arg12 g8 g11 g12) (4 * k.val) := by
      unfold stOf; rw [read_acc8, read_acc11, read_acc12]
    rw [e, four_later] at h
    exact h

/-- The remainder loop makes no trip. -/
@[sl_loop] def loopInv2 (v118 : BitVec 32) : LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v96 c4_i32 v97 v102 v107 v118 where
  inv _ _ := nine c arg2 arg3 arg4 arg5 arg6 arg7 arg8 arg11 arg12 f2 f3 f4 f5 f6 f7 g8 g11 g12
  step k _ := (Nat.not_lt_zero _ (Nat.lt_of_lt_of_eq k.isLt (trips2 i))).elim

end Bufs

end Cert.KernelIdeal.Hand

end
-- ==== Proof.KI.Point.lean ====
module

public import proofs.«01_k».proof.Proof.KI.Trip

/-!
One grid point of the kernel: the mask and the zeroed gradients where they are due, the diagonal tile, the counted loop,
the guarded tiles after it and the two results rounded.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

/-- The first grid point of all. -/
abbrev isFirst : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- The first key tile of a head pair. -/
abbrev isTop : Prop := Scalar.cmpi .ne (Scalar.extui (Scalar.cmpi .eq (BitVec.ofNat 32 (i 1).val) 0#32) : BitVec 32) 0#32 = 1#1

/-- The twelve buffers of a grid point. -/
abbrev twelve (h8 : Buf (Elt F) (arg8.view.loc (c : Thread nD τ))) (h9 : Buf (Elt F) (arg9.view.loc (c : Thread nD τ))) (h10 : Buf (Elt F) (arg10.view.loc (c : Thread nD τ)))
    (h11 : Buf (Elt F) (arg11.view.loc (c : Thread nD τ))) (h12 : Buf (Elt F) (arg12.view.loc (c : Thread nD τ))) (h13 : Buf (Elt F) (arg13.view.loc (c : Thread nD τ))) : sProp 𝕄 :=
  iprop(held c arg2 f2 ∗ held c arg3 f3 ∗ held c arg4 f4 ∗ held c arg5 f5 ∗ held c arg6 f6 ∗ held c arg7 f7 ∗ held c arg8 h8 ∗ held c arg9 h9 ∗ held c arg10 h10
    ∗ held c arg11 h11 ∗ held c arg12 h12 ∗ held c arg13 h13)

/-- The mask of the diagonal tile. -/
def biasV : FVec F S512x512 .f32 := k0_pay128 (F := F) k0_pay2 k0_pay3 k0_pay4
/-- Zeros. -/
def zeroV : FVec F S8192x256 .f32 := k0_pay129 (F := F)

/-- The state a grid point ends with: the diagonal tile, then every later query tile. -/
def fin (b : FVec F S512x512 .f32) (x : In F) (n : ℕ) (s : St F) : St F := later x n (tileD b x n s) (15 - n)

/-- The state read from three buffers is the three reads. -/
theorem stOf_eq (f8 : Buf (Elt F) (arg8.view.loc (c : Thread nD τ))) (f11 : Buf (Elt F) (arg11.view.loc (c : Thread nD τ))) (f12 : Buf (Elt F) (arg12.view.loc (c : Thread nD τ))) :
    stOf c arg8 arg11 arg12 f8 f11 f12 = ⟨arg8.view.read (Elt F) f8, arg11.view.read (Elt F) f11, arg12.view.read (Elt F) f12⟩ := rfl

/-- The stored dk is the cast of its sum. -/
theorem pay1_eq (v : FVec F S512x256 .f32) : k0_pay1 v = tr v := rfl

/-- What a grid point leaves in its twelve buffers, with the mask `b` and the state `s` it starts from. -/
abbrev after (b : FVec F S512x512 .f32) (s : St F) (h13 : Buf (Elt F) (arg13.view.loc (c : Thread nD τ))) : sProp 𝕄 :=
  twelve c arg2 arg3 arg4 arg5 arg6 arg7 arg8 arg9 arg10 arg11 arg12 arg13 f2 f3 f4 f5 f6 f7
    (harg8.unread (fin b (inOf c arg2 arg3 arg4 arg5 arg6 arg7 f2 f3 f4 f5 f6 f7) (i 1).val s).dq) (harg9.unread (tr (fin b (inOf c arg2 arg3 arg4 arg5 arg6 arg7 f2 f3 f4 f5 f6 f7) (i 1).val s).dk)) (harg10.unread (tr (fin b (inOf c arg2 arg3 arg4 arg5 arg6 arg7 f2 f3 f4 f5 f6 f7) (i 1).val s).dv))
    (harg11.unread (fin b (inOf c arg2 arg3 arg4 arg5 arg6 arg7 f2 f3 f4 f5 f6 f7) (i 1).val s).dk) (harg12.unread (fin b (inOf c arg2 arg3 arg4 arg5 arg6 arg7 f2 f3 f4 f5 f6 f7) (i 1).val s).dv) h13

end Point

end Cert.KernelIdeal.Hand

end
-- ==== Proof.KI.PA3.lean ====
module

public import proofs.«01_k».proof.Proof.KI.Point

/-!
The first grid point of all: the mask is made and the query gradients start at zero.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

set_option maxHeartbeats 4000000 in
/-- The first grid point of all: the mask is made and the query gradients start at zero. -/
theorem pointA (hc1 : isFirst i) (hc2 : isTop i) (hl : (15 - (i 1).val) % 4 = 3) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => after c i arg2 arg3 arg4 arg5 arg6 arg7 arg8 harg8 arg9 harg9 arg10 harg10 arg11 harg11 arg12 harg12 arg13 f2 f3 f4 f5 f6 f7 biasV ⟨zeroV, arg11.view.read (Elt F) g11, arg12.view.read (Elt F) g12⟩ (harg13.unread biasV)) := by
  have hi : (i 1).val < 16 := (i 1).isLt
  have hE : 15 - (i 1).val = 4 * (k0_t1_loop i).trips + 3 := by rw [trips1 i]; omega
  have hc3 : k0_cond3 i = 1#1 := (cond3_iff i).2 (by omega)
  have hc4 : k0_cond4 i = 1#1 := (cond4_iff i).2 (by omega)
  have hc5 : k0_cond5 i = 1#1 := (cond5_iff i).2 (by omega)
  have e0 : 16 - (15 - (i 1).val) % 4 = (i 1).val + 1 + (4 * (k0_t1_loop i).trips + 0) := by omega
  have e1 : 17 - (15 - (i 1).val) % 4 = (i 1).val + 1 + (4 * (k0_t1_loop i).trips + 1) := by omega
  have e2 : 18 - (15 - (i 1).val) % 4 = (i 1).val + 1 + (4 * (k0_t1_loop i).trips + 2) := by omega
  have hfin : ∀ b x s, fin (F := F) b x (i 1).val s = tile x (18 - (15 - (i 1).val) % 4) (tile x (17 - (15 - (i 1).val) % 4) (tile x (16 - (15 - (i 1).val) % 4) (later x (i 1).val (tileD b x (i 1).val s) (4 * (k0_t1_loop i).trips)))) := by
    intro b x s; unfold fin; rw [e0, e1, e2, hE]; simp only [later_succ, Nat.add_zero]
  unfold twelve
  iintro ⟨H2, H3, H4, H5, H6, H7, H8, H9, H10, H11, H12, H13⟩
  sl_unfold [cc0_attn_bwd]
  sl_exec_parts
  sl_step
  sl_unfold_run_names
  generalize hB : k0_pay128 (F := F) _ _ _ = B
  have hB : B = biasV := hB.symm
  subst hB
  generalize hG8 : (View.write (Elt F) (arg8.view.slice _) _ _ _) = G8
  generalize hG11 : (View.write (Elt F) (arg11.view.slice _) _ _ _) = G11
  generalize hG12 : (View.write (Elt F) (arg12.view.slice _) _ _ _) = G12
  have hS : stOf c arg8 arg11 arg12 G8 G11 G12 = tileD biasV (inOf c arg2 arg3 arg4 arg5 arg6 arg7 f2 f3 f4 f5 f6 f7) (i 1).val ⟨zeroV, arg11.view.read (Elt F) g11, arg12.view.read (Elt F) g12⟩ := by
    rw [stOf_eq, ← hG8, ← hG11, ← hG12, foldP arg8.view, foldP arg11.view, foldP arg12.view]
    simp (maxSteps := 10000000) (disch := omega) only [↓stOf_eq, ↓readNil, zeroV, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, prob, dsc, Nat.mul_zero, Nat.mul_one, ↓ldFA, ↓ldFB, ↓ldFD, ↓cvFA, ↓cvFB, ↓cvFD, ↓stFA, ↓stFB, ↓stFD, ↓ld1, ↓ld2, ↓ld3, ↓ld4, ↓st1, ↓st3, tileD, stepD, probD, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  clear hG8 hG11 hG12
  generalize hT : Scf.trips _ _ _ = T
  have hT : T = (k0_t1_loop i).trips := hT.symm
  subst hT
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H9]
  · refine held_of_read c harg9 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H10]
  · refine held_of_read c harg10 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H11]
  · refine held_of_read c harg11 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H12]
  · refine held_of_read c harg12 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  refine held_of_read c harg13 _ _ ?_
  simp only [↓stFD]

end Point

end Cert.KernelIdeal.Hand

end
-- ==== Proof.KI.PB3.lean ====
module

public import proofs.«01_k».proof.Proof.KI.Point

/-!
The first key tile of a later head pair.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

set_option maxHeartbeats 4000000 in
/-- The first key tile of a later head pair. -/
theorem pointB (hc1 : ¬ isFirst i) (hc2 : isTop i) (hl : (15 - (i 1).val) % 4 = 3) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => after c i arg2 arg3 arg4 arg5 arg6 arg7 arg8 harg8 arg9 harg9 arg10 harg10 arg11 harg11 arg12 harg12 arg13 f2 f3 f4 f5 f6 f7 (arg13.view.read (Elt F) g13) ⟨zeroV, arg11.view.read (Elt F) g11, arg12.view.read (Elt F) g12⟩ g13) := by
  have hi : (i 1).val < 16 := (i 1).isLt
  have hE : 15 - (i 1).val = 4 * (k0_t1_loop i).trips + 3 := by rw [trips1 i]; omega
  have hc3 : k0_cond3 i = 1#1 := (cond3_iff i).2 (by omega)
  have hc4 : k0_cond4 i = 1#1 := (cond4_iff i).2 (by omega)
  have hc5 : k0_cond5 i = 1#1 := (cond5_iff i).2 (by omega)
  have e0 : 16 - (15 - (i 1).val) % 4 = (i 1).val + 1 + (4 * (k0_t1_loop i).trips + 0) := by omega
  have e1 : 17 - (15 - (i 1).val) % 4 = (i 1).val + 1 + (4 * (k0_t1_loop i).trips + 1) := by omega
  have e2 : 18 - (15 - (i 1).val) % 4 = (i 1).val + 1 + (4 * (k0_t1_loop i).trips + 2) := by omega
  have hfin : ∀ b x s, fin (F := F) b x (i 1).val s = tile x (18 - (15 - (i 1).val) % 4) (tile x (17 - (15 - (i 1).val) % 4) (tile x (16 - (15 - (i 1).val) % 4) (later x (i 1).val (tileD b x (i 1).val s) (4 * (k0_t1_loop i).trips)))) := by
    intro b x s; unfold fin; rw [e0, e1, e2, hE]; simp only [later_succ, Nat.add_zero]
  unfold twelve
  iintro ⟨H2, H3, H4, H5, H6, H7, H8, H9, H10, H11, H12, H13⟩
  sl_unfold [cc0_attn_bwd]
  sl_exec_parts
  sl_step
  sl_unfold_run_names
  generalize hG8 : (View.write (Elt F) (arg8.view.slice _) _ _ _) = G8
  generalize hG11 : (View.write (Elt F) (arg11.view.slice _) _ _ _) = G11
  generalize hG12 : (View.write (Elt F) (arg12.view.slice _) _ _ _) = G12
  have hS : stOf c arg8 arg11 arg12 G8 G11 G12 = tileD (arg13.view.read (Elt F) g13) (inOf c arg2 arg3 arg4 arg5 arg6 arg7 f2 f3 f4 f5 f6 f7) (i 1).val ⟨zeroV, arg11.view.read (Elt F) g11, arg12.view.read (Elt F) g12⟩ := by
    rw [stOf_eq, ← hG8, ← hG11, ← hG12, foldP arg8.view, foldP arg11.view, foldP arg12.view]
    simp (maxSteps := 10000000) (disch := omega) only [↓stOf_eq, ↓readNil, biasV, zeroV, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, prob, dsc, Nat.mul_zero, Nat.mul_one, ↓ldFA, ↓ldFB, ↓ldFD, ↓cvFA, ↓cvFB, ↓cvFD, ↓stFA, ↓stFB, ↓stFD, ↓ld1, ↓ld2, ↓ld3, ↓ld4, ↓st1, ↓st3, tileD, stepD, probD, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  clear hG8 hG11 hG12
  generalize hT : Scf.trips _ _ _ = T
  have hT : T = (k0_t1_loop i).trips := hT.symm
  subst hT
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H9]
  · refine held_of_read c harg9 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H10]
  · refine held_of_read c harg10 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H11]
  · refine held_of_read c harg11 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H12]
  · refine held_of_read c harg12 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  iexact H13

end Point

end Cert.KernelIdeal.Hand

end
-- ==== Proof.KI.PC0.lean ====
module

public import proofs.«01_k».proof.Proof.KI.Point

/-!
A later key tile, with 0 query tiles after the counted loop.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

set_option maxHeartbeats 4000000 in
/-- A later key tile, with 0 query tiles after the counted loop. -/
theorem pointC0 (hc1 : ¬ isFirst i) (hc2 : ¬ isTop i) (hl : (15 - (i 1).val) % 4 = 0) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => after c i arg2 arg3 arg4 arg5 arg6 arg7 arg8 harg8 arg9 harg9 arg10 harg10 arg11 harg11 arg12 harg12 arg13 f2 f3 f4 f5 f6 f7 (arg13.view.read (Elt F) g13) (stOf c arg8 arg11 arg12 g8 g11 g12) g13) := by
  have hi : (i 1).val < 16 := (i 1).isLt
  have hE : 15 - (i 1).val = 4 * (k0_t1_loop i).trips + 0 := by rw [trips1 i]; omega
  have hc3 : ¬ k0_cond3 i = 1#1 := fun h => by have := (cond3_iff i).1 h; omega
  have hc4 : ¬ k0_cond4 i = 1#1 := fun h => by have := (cond4_iff i).1 h; omega
  have hc5 : ¬ k0_cond5 i = 1#1 := fun h => by have := (cond5_iff i).1 h; omega
  have hfin : ∀ b x s, fin (F := F) b x (i 1).val s = later x (i 1).val (tileD b x (i 1).val s) (4 * (k0_t1_loop i).trips) := by
    intro b x s; unfold fin; rw [hE]; simp only [later_succ, Nat.add_zero]
  unfold twelve
  iintro ⟨H2, H3, H4, H5, H6, H7, H8, H9, H10, H11, H12, H13⟩
  sl_unfold [cc0_attn_bwd]
  sl_exec_parts
  sl_step
  sl_unfold_run_names
  generalize hG8 : (View.write (Elt F) (arg8.view.slice _) _ _ _) = G8
  generalize hG11 : (View.write (Elt F) (arg11.view.slice _) _ _ _) = G11
  generalize hG12 : (View.write (Elt F) (arg12.view.slice _) _ _ _) = G12
  have hS : stOf c arg8 arg11 arg12 G8 G11 G12 = tileD (arg13.view.read (Elt F) g13) (inOf c arg2 arg3 arg4 arg5 arg6 arg7 f2 f3 f4 f5 f6 f7) (i 1).val (stOf c arg8 arg11 arg12 g8 g11 g12) := by
    rw [stOf_eq, ← hG8, ← hG11, ← hG12, foldP arg8.view, foldP arg11.view, foldP arg12.view]
    simp (maxSteps := 10000000) (disch := omega) only [↓stOf_eq, ↓readNil, biasV, zeroV, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, prob, dsc, Nat.mul_zero, Nat.mul_one, ↓ldFA, ↓ldFB, ↓ldFD, ↓cvFA, ↓cvFB, ↓cvFD, ↓stFA, ↓stFB, ↓stFD, ↓ld1, ↓ld2, ↓ld3, ↓ld4, ↓st1, ↓st3, tileD, stepD, probD, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  clear hG8 hG11 hG12
  generalize hT : Scf.trips _ _ _ = T
  have hT : T = (k0_t1_loop i).trips := hT.symm
  subst hT
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H9]
  · refine held_of_read c harg9 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H10]
  · refine held_of_read c harg10 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H11]
  · refine held_of_read c harg11 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H12]
  · refine held_of_read c harg12 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  iexact H13

end Point

end Cert.KernelIdeal.Hand

end
-- ==== Proof.KI.PC1.lean ====
module

public import proofs.«01_k».proof.Proof.KI.Point

/-!
A later key tile, with 1 query tiles after the counted loop.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

set_option maxHeartbeats 4000000 in
/-- A later key tile, with 1 query tiles after the counted loop. -/
theorem pointC1 (hc1 : ¬ isFirst i) (hc2 : ¬ isTop i) (hl : (15 - (i 1).val) % 4 = 1) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => after c i arg2 arg3 arg4 arg5 arg6 arg7 arg8 harg8 arg9 harg9 arg10 harg10 arg11 harg11 arg12 harg12 arg13 f2 f3 f4 f5 f6 f7 (arg13.view.read (Elt F) g13) (stOf c arg8 arg11 arg12 g8 g11 g12) g13) := by
  have hi : (i 1).val < 16 := (i 1).isLt
  have hE : 15 - (i 1).val = 4 * (k0_t1_loop i).trips + 1 := by rw [trips1 i]; omega
  have hc3 : k0_cond3 i = 1#1 := (cond3_iff i).2 (by omega)
  have hc4 : ¬ k0_cond4 i = 1#1 := fun h => by have := (cond4_iff i).1 h; omega
  have hc5 : ¬ k0_cond5 i = 1#1 := fun h => by have := (cond5_iff i).1 h; omega
  have e0 : 16 - (15 - (i 1).val) % 4 = (i 1).val + 1 + (4 * (k0_t1_loop i).trips + 0) := by omega
  have hfin : ∀ b x s, fin (F := F) b x (i 1).val s = tile x (16 - (15 - (i 1).val) % 4) (later x (i 1).val (tileD b x (i 1).val s) (4 * (k0_t1_loop i).trips)) := by
    intro b x s; unfold fin; rw [e0, hE]; simp only [later_succ, Nat.add_zero]
  unfold twelve
  iintro ⟨H2, H3, H4, H5, H6, H7, H8, H9, H10, H11, H12, H13⟩
  sl_unfold [cc0_attn_bwd]
  sl_exec_parts
  sl_step
  sl_unfold_run_names
  generalize hG8 : (View.write (Elt F) (arg8.view.slice _) _ _ _) = G8
  generalize hG11 : (View.write (Elt F) (arg11.view.slice _) _ _ _) = G11
  generalize hG12 : (View.write (Elt F) (arg12.view.slice _) _ _ _) = G12
  have hS : stOf c arg8 arg11 arg12 G8 G11 G12 = tileD (arg13.view.read (Elt F) g13) (inOf c arg2 arg3 arg4 arg5 arg6 arg7 f2 f3 f4 f5 f6 f7) (i 1).val (stOf c arg8 arg11 arg12 g8 g11 g12) := by
    rw [stOf_eq, ← hG8, ← hG11, ← hG12, foldP arg8.view, foldP arg11.view, foldP arg12.view]
    simp (maxSteps := 10000000) (disch := omega) only [↓stOf_eq, ↓readNil, biasV, zeroV, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, prob, dsc, Nat.mul_zero, Nat.mul_one, ↓ldFA, ↓ldFB, ↓ldFD, ↓cvFA, ↓cvFB, ↓cvFD, ↓stFA, ↓stFB, ↓stFD, ↓ld1, ↓ld2, ↓ld3, ↓ld4, ↓st1, ↓st3, tileD, stepD, probD, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  clear hG8 hG11 hG12
  generalize hT : Scf.trips _ _ _ = T
  have hT : T = (k0_t1_loop i).trips := hT.symm
  subst hT
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H9]
  · refine held_of_read c harg9 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H10]
  · refine held_of_read c harg10 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H11]
  · refine held_of_read c harg11 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H12]
  · refine held_of_read c harg12 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  iexact H13

end Point

end Cert.KernelIdeal.Hand

end
-- ==== Proof.KI.PC2.lean ====
module

public import proofs.«01_k».proof.Proof.KI.Point

/-!
A later key tile, with 2 query tiles after the counted loop.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

set_option maxHeartbeats 4000000 in
/-- A later key tile, with 2 query tiles after the counted loop. -/
theorem pointC2 (hc1 : ¬ isFirst i) (hc2 : ¬ isTop i) (hl : (15 - (i 1).val) % 4 = 2) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => after c i arg2 arg3 arg4 arg5 arg6 arg7 arg8 harg8 arg9 harg9 arg10 harg10 arg11 harg11 arg12 harg12 arg13 f2 f3 f4 f5 f6 f7 (arg13.view.read (Elt F) g13) (stOf c arg8 arg11 arg12 g8 g11 g12) g13) := by
  have hi : (i 1).val < 16 := (i 1).isLt
  have hE : 15 - (i 1).val = 4 * (k0_t1_loop i).trips + 2 := by rw [trips1 i]; omega
  have hc3 : k0_cond3 i = 1#1 := (cond3_iff i).2 (by omega)
  have hc4 : k0_cond4 i = 1#1 := (cond4_iff i).2 (by omega)
  have hc5 : ¬ k0_cond5 i = 1#1 := fun h => by have := (cond5_iff i).1 h; omega
  have e0 : 16 - (15 - (i 1).val) % 4 = (i 1).val + 1 + (4 * (k0_t1_loop i).trips + 0) := by omega
  have e1 : 17 - (15 - (i 1).val) % 4 = (i 1).val + 1 + (4 * (k0_t1_loop i).trips + 1) := by omega
  have hfin : ∀ b x s, fin (F := F) b x (i 1).val s = tile x (17 - (15 - (i 1).val) % 4) (tile x (16 - (15 - (i 1).val) % 4) (later x (i 1).val (tileD b x (i 1).val s) (4 * (k0_t1_loop i).trips))) := by
    intro b x s; unfold fin; rw [e0, e1, hE]; simp only [later_succ, Nat.add_zero]
  unfold twelve
  iintro ⟨H2, H3, H4, H5, H6, H7, H8, H9, H10, H11, H12, H13⟩
  sl_unfold [cc0_attn_bwd]
  sl_exec_parts
  sl_step
  sl_unfold_run_names
  generalize hG8 : (View.write (Elt F) (arg8.view.slice _) _ _ _) = G8
  generalize hG11 : (View.write (Elt F) (arg11.view.slice _) _ _ _) = G11
  generalize hG12 : (View.write (Elt F) (arg12.view.slice _) _ _ _) = G12
  have hS : stOf c arg8 arg11 arg12 G8 G11 G12 = tileD (arg13.view.read (Elt F) g13) (inOf c arg2 arg3 arg4 arg5 arg6 arg7 f2 f3 f4 f5 f6 f7) (i 1).val (stOf c arg8 arg11 arg12 g8 g11 g12) := by
    rw [stOf_eq, ← hG8, ← hG11, ← hG12, foldP arg8.view, foldP arg11.view, foldP arg12.view]
    simp (maxSteps := 10000000) (disch := omega) only [↓stOf_eq, ↓readNil, biasV, zeroV, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, prob, dsc, Nat.mul_zero, Nat.mul_one, ↓ldFA, ↓ldFB, ↓ldFD, ↓cvFA, ↓cvFB, ↓cvFD, ↓stFA, ↓stFB, ↓stFD, ↓ld1, ↓ld2, ↓ld3, ↓ld4, ↓st1, ↓st3, tileD, stepD, probD, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  clear hG8 hG11 hG12
  generalize hT : Scf.trips _ _ _ = T
  have hT : T = (k0_t1_loop i).trips := hT.symm
  subst hT
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H9]
  · refine held_of_read c harg9 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H10]
  · refine held_of_read c harg10 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H11]
  · refine held_of_read c harg11 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H12]
  · refine held_of_read c harg12 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  iexact H13

end Point

end Cert.KernelIdeal.Hand

end
-- ==== Proof.KI.PC3.lean ====
module

public import proofs.«01_k».proof.Proof.KI.Point

/-!
A later key tile, with 3 query tiles after the counted loop.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

section Point
variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

set_option maxHeartbeats 4000000 in
/-- A later key tile, with 3 query tiles after the counted loop. -/
theorem pointC3 (hc1 : ¬ isFirst i) (hc2 : ¬ isTop i) (hl : (15 - (i 1).val) % 4 = 3) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => after c i arg2 arg3 arg4 arg5 arg6 arg7 arg8 harg8 arg9 harg9 arg10 harg10 arg11 harg11 arg12 harg12 arg13 f2 f3 f4 f5 f6 f7 (arg13.view.read (Elt F) g13) (stOf c arg8 arg11 arg12 g8 g11 g12) g13) := by
  have hi : (i 1).val < 16 := (i 1).isLt
  have hE : 15 - (i 1).val = 4 * (k0_t1_loop i).trips + 3 := by rw [trips1 i]; omega
  have hc3 : k0_cond3 i = 1#1 := (cond3_iff i).2 (by omega)
  have hc4 : k0_cond4 i = 1#1 := (cond4_iff i).2 (by omega)
  have hc5 : k0_cond5 i = 1#1 := (cond5_iff i).2 (by omega)
  have e0 : 16 - (15 - (i 1).val) % 4 = (i 1).val + 1 + (4 * (k0_t1_loop i).trips + 0) := by omega
  have e1 : 17 - (15 - (i 1).val) % 4 = (i 1).val + 1 + (4 * (k0_t1_loop i).trips + 1) := by omega
  have e2 : 18 - (15 - (i 1).val) % 4 = (i 1).val + 1 + (4 * (k0_t1_loop i).trips + 2) := by omega
  have hfin : ∀ b x s, fin (F := F) b x (i 1).val s = tile x (18 - (15 - (i 1).val) % 4) (tile x (17 - (15 - (i 1).val) % 4) (tile x (16 - (15 - (i 1).val) % 4) (later x (i 1).val (tileD b x (i 1).val s) (4 * (k0_t1_loop i).trips)))) := by
    intro b x s; unfold fin; rw [e0, e1, e2, hE]; simp only [later_succ, Nat.add_zero]
  unfold twelve
  iintro ⟨H2, H3, H4, H5, H6, H7, H8, H9, H10, H11, H12, H13⟩
  sl_unfold [cc0_attn_bwd]
  sl_exec_parts
  sl_step
  sl_unfold_run_names
  generalize hG8 : (View.write (Elt F) (arg8.view.slice _) _ _ _) = G8
  generalize hG11 : (View.write (Elt F) (arg11.view.slice _) _ _ _) = G11
  generalize hG12 : (View.write (Elt F) (arg12.view.slice _) _ _ _) = G12
  have hS : stOf c arg8 arg11 arg12 G8 G11 G12 = tileD (arg13.view.read (Elt F) g13) (inOf c arg2 arg3 arg4 arg5 arg6 arg7 f2 f3 f4 f5 f6 f7) (i 1).val (stOf c arg8 arg11 arg12 g8 g11 g12) := by
    rw [stOf_eq, ← hG8, ← hG11, ← hG12, foldP arg8.view, foldP arg11.view, foldP arg12.view]
    simp (maxSteps := 10000000) (disch := omega) only [↓stOf_eq, ↓readNil, biasV, zeroV, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, prob, dsc, Nat.mul_zero, Nat.mul_one, ↓ldFA, ↓ldFB, ↓ldFD, ↓cvFA, ↓cvFB, ↓cvFD, ↓stFA, ↓stFB, ↓stFD, ↓ld1, ↓ld2, ↓ld3, ↓ld4, ↓st1, ↓st3, tileD, stepD, probD, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  clear hG8 hG11 hG12
  generalize hT : Scf.trips _ _ _ = T
  have hT : T = (k0_t1_loop i).trips := hT.symm
  subst hT
  isplitl [H2]; · iexact H2
  isplitl [H3]; · iexact H3
  isplitl [H4]; · iexact H4
  isplitl [H5]; · iexact H5
  isplitl [H6]; · iexact H6
  isplitl [H7]; · iexact H7
  isplitl [H8]
  · refine held_of_read c harg8 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H9]
  · refine held_of_read c harg9 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H10]
  · refine held_of_read c harg10 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H11]
  · refine held_of_read c harg11 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  isplitl [H12]
  · refine held_of_read c harg12 _ _ ?_
    simp (maxSteps := 10000000) (disch := omega) only [hfin, hS, pay1_eq, ↓ldB_0, ↓ldB_1, ↓cvB_0, ↓cvB_1, ↓stB_0, ↓stB_1, Memref.IsWhole.read_unread, View.writes_nil, co_updc_00, co_updc_01, co_updc_10, co_updc_11, updc_both, co_both_0, co_both_1, updc_both_1, sl_upd_ne, sl_upd_01, sl_upd_10, tile, step, prob, dsc, Nat.mul_zero, Nat.mul_one, ↓ldFA, ↓ldFB, ↓ldFD, ↓cvFA, ↓cvFB, ↓cvFD, ↓stFA, ↓stFB, ↓stFD, ↓ld13, ↓st13, ↓ld14, ↓ld15, ↓st15, ↓ld16, ↓ld17, ↓st17, ↓ld18, ↓ld19, ↓st19, ↓ld20, ↓ld21, ↓st21, ↓ld22, ↓ld23, ↓st23, ↓ld24, ↓read_acc8, ↓read_acc11, ↓read_acc12, later_succ, k0_pay101_eq, k0_pay102_eq, k0_pay103_eq, k0_pay104_eq, k0_pay105_eq, k0_pay106_eq, k0_pay107_eq, k0_pay108_eq, k0_pay109_eq, k0_pay110_eq, k0_pay111_eq, k0_pay112_eq, k0_pay113_eq, k0_pay114_eq, k0_pay115_eq, k0_pay116_eq, k0_pay117_eq, k0_pay118_eq, k0_pay119_eq, k0_pay120_eq, k0_pay121_eq, k0_pay122_eq, k0_pay123_eq, k0_pay124_eq, k0_pay125_eq, k0_pay126_eq, k0_pay127_eq, k0_pay130_eq, k0_pay131_eq, k0_pay132_eq, k0_pay133_eq, k0_pay134_eq, k0_pay135_eq, k0_pay136_eq, k0_pay137_eq, k0_pay138_eq, k0_pay139_eq, k0_pay140_eq, k0_pay141_eq, k0_pay142_eq, k0_pay143_eq, k0_pay148_eq, k0_pay149_eq, k0_pay150_eq, k0_pay151_eq, k0_pay152_eq, k0_pay153_eq, k0_pay154_eq, k0_pay155_eq, k0_pay156_eq, k0_pay157_eq, k0_pay158_eq, k0_pay159_eq, k0_pay160_eq, k0_pay161_eq, k0_pay162_eq, k0_pay163_eq, k0_pay164_eq, fold_NT, fold_NN, fold_TN, fold_row, fold_sc1, fold_sc2, fold_tr, shapeCast_self] <;> rfl
  iexact H13

end Point

end Cert.KernelIdeal.Hand

end
-- ==== Proof.KI.Points.lean ====
module

public import proofs.«01_k».proof.Proof.KI.PA3
public import proofs.«01_k».proof.Proof.KI.PB3
public import proofs.«01_k».proof.Proof.KI.PC0
public import proofs.«01_k».proof.Proof.KI.PC1
public import proofs.«01_k».proof.Proof.KI.PC2
public import proofs.«01_k».proof.Proof.KI.PC3

/-!
The six kinds of grid point put together: whatever the point, what it leaves follows from what it reads and from the
query gradient it found, and not from the two accumulators, which it overwrites first.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (c : Dev nD) (i : grid0.Coords)
  (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S2x8x8192 .f32) (harg6 : arg6.IsWhole) (arg7 : Memref sig .tc .vmem S2x8x8192 .f32) (harg7 : arg7.IsWhole) (arg8 : Memref sig .tc .vmem S8192x256 .f32) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x512 .f32) (harg13 : arg13.IsWhole)

/-- The state a grid point ends with, from the query gradient it starts from. -/
def finD (x : In F) (n : ℕ) (s : FVec F S8192x256 .f32) : St F :=
  fin biasV x n ⟨s, broadcast S512x256 (Scalar.ofBits .f32 0x00000000#32), broadcast S512x256 (Scalar.ofBits .f32 0x00000000#32)⟩

/-- The accumulators found do not matter. -/
theorem fin_eq (x : In F) (n : ℕ) (s : FVec F S8192x256 .f32) (d e : FVec F S512x256 .f32) : fin biasV x n ⟨s, d, e⟩ = finD x n s := by
  unfold finD fin tileD stepD
  simp only [Nat.mul_zero, Nat.mul_one, updc_both]

variable (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ)))
  (g8 : Buf (Elt F) (arg8.view.loc (c : Thread nD τ))) (g9 : Buf (Elt F) (arg9.view.loc (c : Thread nD τ))) (g10 : Buf (Elt F) (arg10.view.loc (c : Thread nD τ)))
  (g11 : Buf (Elt F) (arg11.view.loc (c : Thread nD τ))) (g12 : Buf (Elt F) (arg12.view.loc (c : Thread nD τ))) (g13 : Buf (Elt F) (arg13.view.loc (c : Thread nD τ)))

/-- What a grid point leaves: the inputs, the three results, and the scratch with the mask in it. -/
abbrev left (S : St F) : sProp 𝕄 :=
  iprop(held c arg2 f2 ∗ held c arg3 f3 ∗ held c arg4 f4 ∗ held c arg5 f5 ∗ held c arg6 f6 ∗ held c arg7 f7 ∗ held c arg8 (harg8.unread S.dq)
    ∗ held c arg9 (harg9.unread (tr S.dk)) ∗ held c arg10 (harg10.unread (tr S.dv)) ∗ (∃ f, held c arg11 f) ∗ (∃ f, held c arg12 f) ∗ held c arg13 (harg13.unread biasV))

/-- What one kind of point leaves is what every kind leaves. -/
theorem after_left (s : St F) (X : In F) (hX : inOf c arg2 arg3 arg4 arg5 arg6 arg7 f2 f3 f4 f5 f6 f7 = X) (s8 : FVec F S8192x256 .f32) (hs : s.dq = s8) (h13 : Buf (Elt F) (arg13.view.loc (c : Thread nD τ))) (hh : harg13.unread biasV = h13) :
    after c i arg2 arg3 arg4 arg5 arg6 arg7 arg8 harg8 arg9 harg9 arg10 harg10 arg11 harg11 arg12 harg12 arg13 f2 f3 f4 f5 f6 f7 biasV s h13
    ⊢ left c arg2 arg3 arg4 arg5 arg6 arg7 arg8 harg8 arg9 harg9 arg10 harg10 arg11 arg12 arg13 harg13 f2 f3 f4 f5 f6 f7 (finD X (i 1).val s8) := by
  subst hX hs hh
  obtain ⟨a, d, e⟩ := s
  simp only [after, twelve, left, fin_eq]
  iintro ⟨H2, H3, H4, H5, H6, H7, H8, H9, H10, H11, H12, H13⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexact H13

/-- Every grid point. -/
theorem point (hft : isFirst i → isTop i) (htop : isTop i → (i 1).val = 0) (hb : ¬ isFirst i → arg13.view.read (Elt F) g13 = biasV) (s8 : FVec F S8192x256 .f32)
    (hs0 : isTop i → zeroV = s8) (hs1 : ¬ isTop i → arg8.view.read (Elt F) g8 = s8) (X : In F) (hX : inOf c arg2 arg3 arg4 arg5 arg6 arg7 f2 f3 f4 f5 f6 f7 = X) :
    twelve c arg2 arg3 arg4 arg5 arg6 arg7 arg8 arg9 arg10 arg11 arg12 arg13 f2 f3 f4 f5 f6 f7 g8 g9 g10 g11 g12 g13
    ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13)
        (fun _ => left c arg2 arg3 arg4 arg5 arg6 arg7 arg8 harg8 arg9 harg9 arg10 harg10 arg11 arg12 arg13 harg13 f2 f3 f4 f5 f6 f7 (finD X (i 1).val s8)) := by
  by_cases hc2 : isTop i
  · have hl : (15 - (i 1).val) % 4 = 3 := by rw [htop hc2]
    by_cases hc1 : isFirst i
    · exact (pointA c i arg2 harg2 arg3 harg3 arg4 harg4 arg5 harg5 arg6 harg6 arg7 harg7 arg8 harg8 arg9 harg9 arg10 harg10 arg11 harg11 arg12 harg12 arg13 harg13 f2 f3 f4 f5 f6 f7 g8 g9 g10 g11 g12 g13 hc1 hc2 hl).trans (wp_mono _ _ _ fun _ => after_left c i arg2 arg3 arg4 arg5 arg6 arg7 arg8 harg8 arg9 harg9 arg10 harg10 arg11 harg11 arg12 harg12 arg13 harg13 f2 f3 f4 f5 f6 f7 _ X hX s8 (hs0 hc2) _ rfl)
    · have e := hb hc1
      have h := pointB c i arg2 harg2 arg3 harg3 arg4 harg4 arg5 harg5 arg6 harg6 arg7 harg7 arg8 harg8 arg9 harg9 arg10 harg10 arg11 harg11 arg12 harg12 arg13 harg13 f2 f3 f4 f5 f6 f7 g8 g9 g10 g11 g12 g13 hc1 hc2 hl
      rw [e] at h
      exact h.trans (wp_mono _ _ _ fun _ => after_left c i arg2 arg3 arg4 arg5 arg6 arg7 arg8 harg8 arg9 harg9 arg10 harg10 arg11 harg11 arg12 harg12 arg13 harg13 f2 f3 f4 f5 f6 f7 _ X hX s8 (hs0 hc2) _ (harg13.eq_unread e).symm)
  · have hc1 : ¬ isFirst i := fun h => hc2 (hft h)
    have e := hb hc1
    have h4 := Nat.mod_lt (15 - (i 1).val) (show 0 < 4 by decide)
    have hp := harg13.eq_unread e
    have hl : (15 - (i 1).val) % 4 = 0 ∨ (15 - (i 1).val) % 4 = 1 ∨ (15 - (i 1).val) % 4 = 2 ∨ (15 - (i 1).val) % 4 = 3 := by omega
    rcases hl with hl | hl | hl | hl
    · have h := pointC0 c i arg2 harg2 arg3 harg3 arg4 harg4 arg5 harg5 arg6 harg6 arg7 harg7 arg8 harg8 arg9 harg9 arg10 harg10 arg11 harg11 arg12 harg12 arg13 harg13 f2 f3 f4 f5 f6 f7 g8 g9 g10 g11 g12 g13 hc1 hc2 hl
      rw [e] at h
      exact h.trans (wp_mono _ _ _ fun _ => after_left c i arg2 arg3 arg4 arg5 arg6 arg7 arg8 harg8 arg9 harg9 arg10 harg10 arg11 harg11 arg12 harg12 arg13 harg13 f2 f3 f4 f5 f6 f7 _ X hX s8 (hs1 hc2) _ hp.symm)
    · have h := pointC1 c i arg2 harg2 arg3 harg3 arg4 harg4 arg5 harg5 arg6 harg6 arg7 harg7 arg8 harg8 arg9 harg9 arg10 harg10 arg11 harg11 arg12 harg12 arg13 harg13 f2 f3 f4 f5 f6 f7 g8 g9 g10 g11 g12 g13 hc1 hc2 hl
      rw [e] at h
      exact h.trans (wp_mono _ _ _ fun _ => after_left c i arg2 arg3 arg4 arg5 arg6 arg7 arg8 harg8 arg9 harg9 arg10 harg10 arg11 harg11 arg12 harg12 arg13 harg13 f2 f3 f4 f5 f6 f7 _ X hX s8 (hs1 hc2) _ hp.symm)
    · have h := pointC2 c i arg2 harg2 arg3 harg3 arg4 harg4 arg5 harg5 arg6 harg6 arg7 harg7 arg8 harg8 arg9 harg9 arg10 harg10 arg11 harg11 arg12 harg12 arg13 harg13 f2 f3 f4 f5 f6 f7 g8 g9 g10 g11 g12 g13 hc1 hc2 hl
      rw [e] at h
      exact h.trans (wp_mono _ _ _ fun _ => after_left c i arg2 arg3 arg4 arg5 arg6 arg7 arg8 harg8 arg9 harg9 arg10 harg10 arg11 harg11 arg12 harg12 arg13 harg13 f2 f3 f4 f5 f6 f7 _ X hX s8 (hs1 hc2) _ hp.symm)
    · have h := pointC3 c i arg2 harg2 arg3 harg3 arg4 harg4 arg5 harg5 arg6 harg6 arg7 harg7 arg8 harg8 arg9 harg9 arg10 harg10 arg11 harg11 arg12 harg12 arg13 harg13 f2 f3 f4 f5 f6 f7 g8 g9 g10 g11 g12 g13 hc1 hc2 hl
      rw [e] at h
      exact h.trans (wp_mono _ _ _ fun _ => after_left c i arg2 arg3 arg4 arg5 arg6 arg7 arg8 harg8 arg9 harg9 arg10 harg10 arg11 harg11 arg12 harg12 arg13 harg13 f2 f3 f4 f5 f6 f7 _ X hX s8 (hs1 hc2) _ hp.symm)

end Cert.KernelIdeal.Hand

end
-- ==== Proof.KI.Dats.lean ====
module

public import proofs.«01_k».proof.Proof.KI.Points
public import proofs.«01_k».proof.Proof.Gen.KernelIdeal.Frame

/-!
What the kernel's buffers hold before and after each of the sixty-four grid points.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points' coordinates -/

set_option maxRecDepth 100000 in
/-- The second coordinate of a grid point is its number modulo 16. -/
theorem coord1 : ∀ t : Fin cfg0.N, (grid0.coords t 1).val = t.val % 16 := by decide +kernel
set_option maxRecDepth 100000 in
/-- Only point 0 is the first. -/
theorem isFirst_iff : ∀ t : Fin cfg0.N, isFirst (grid0.coords t) ↔ t.val = 0 := by decide +kernel
set_option maxRecDepth 100000 in
/-- The first tile of keys of a pair of heads is at the multiples of 16. -/
theorem isTop_iff : ∀ t : Fin cfg0.N, isTop (grid0.coords t) ↔ t.val % 16 = 0 := by decide +kernel

/-! ## What the points leave -/

/-- What point `t` reads. -/
def inAt (c : Dev nD) (t : Fin cfg0.N) : In F where
  q := iblk m c 0 t
  k := iblk m c 1 t
  v := iblk m c 2 t
  d := iblk m c 3 t
  l := iblk m c 4 t
  dl := iblk m c 5 t

/-- The same at a number: past the grid, anything. -/
def inN (c : Dev nD) (n : ℕ) : In F := if h : n < cfg0.N then inAt m c ⟨n, h⟩ else inAt m c ⟨0, by decide⟩

/-- The query gradient point `n` leaves. -/
def dqS (c : Dev nD) : ℕ → FVec F S8192x256 .f32
  | 0 => (finD (inN m c 0) (0 % 16) zeroV).dq
  | n + 1 => (finD (inN m c (n + 1)) ((n + 1) % 16) (if (n + 1) % 16 = 0 then zeroV else dqS c n)).dq

/-- The query gradient point `n` starts from. -/
def dqIn (c : Dev nD) (n : ℕ) : FVec F S8192x256 .f32 := if n % 16 = 0 then zeroV else dqS m c (n - 1)

/-- What point `n` ends with. -/
def stAt (c : Dev nD) (n : ℕ) : St F := finD (inN m c n) (n % 16) (dqIn m c n)

/-- The state's dq at a point is the block of dq that the point leaves. -/
theorem stAt_dq (c : Dev nD) (n : ℕ) : (stAt m c n).dq = dqS m c n := by
  cases n with
  | zero => unfold stAt dqIn dqS; rw [if_pos rfl]
  | succ n => unfold stAt dqIn; rw [dqS, Nat.add_sub_cancel]

/-- What the scratch holds before point `n`: anything, except that the mask is there from the first point on. -/
def scr (c : Dev nD) (n : ℕ) : sProp 𝕄 :=
  iprop((∃ f, held c (Memref.whole cc0_scratch0) f) ∗ (∃ f, held c (Memref.whole cc0_scratch1) f)
    ∗ (∃ f, ⌜n ≠ 0 → (Memref.whole cc0_scratch2).view.read (Elt F) f = biasV⌝ ∗ held c (Memref.whole cc0_scratch2) f) ∗ ∃ r, prngReg c r)

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val).dq
    | ⟨7, _⟩ => tr (stAt m c t.val).dk
    | ⟨8, _⟩ => tr (stAt m c t.val).dv
  Φ n := scr c n.val
  q _ := fullShare
  owed _ := 0

/-- What window 0 holds after a point. -/
theorem after0 (c : Dev nD) (t : Fin cfg0.N) : (dats m 0 c).after 0 t = iblk m c 0 t := by dsimp only [dats]
/-- What window 1 holds after a point. -/
theorem after1 (c : Dev nD) (t : Fin cfg0.N) : (dats m 0 c).after 1 t = iblk m c 1 t := by dsimp only [dats]
/-- What window 2 holds after a point. -/
theorem after2 (c : Dev nD) (t : Fin cfg0.N) : (dats m 0 c).after 2 t = iblk m c 2 t := by dsimp only [dats]
/-- What window 3 holds after a point. -/
theorem after3 (c : Dev nD) (t : Fin cfg0.N) : (dats m 0 c).after 3 t = iblk m c 3 t := by dsimp only [dats]
/-- What window 4 holds after a point. -/
theorem after4 (c : Dev nD) (t : Fin cfg0.N) : (dats m 0 c).after 4 t = iblk m c 4 t := by dsimp only [dats]
/-- What window 5 holds after a point. -/
theorem after5 (c : Dev nD) (t : Fin cfg0.N) : (dats m 0 c).after 5 t = iblk m c 5 t := by dsimp only [dats]
/-- What window 6 holds after a point. -/
theorem after6 (c : Dev nD) (t : Fin cfg0.N) : (dats m 0 c).after 6 t = (stAt m c t.val).dq := by dsimp only [dats]
/-- What window 7 holds after a point. -/
theorem after7 (c : Dev nD) (t : Fin cfg0.N) : (dats m 0 c).after 7 t = tr (stAt m c t.val).dk := by dsimp only [dats]
/-- What window 8 holds after a point. -/
theorem after8 (c : Dev nD) (t : Fin cfg0.N) : (dats m 0 c).after 8 t = tr (stAt m c t.val).dv := by dsimp only [dats]
/-- What window 0 holds before a point. -/
theorem before0 (c : Dev nD) (t : Fin cfg0.N) (d) : (dats m 0 c).before 0 t d = iblk m c 0 t := before0_0_of m (dats m 0 c) rfl (after0 m c) t d
/-- What window 1 holds before a point. -/
theorem before1 (c : Dev nD) (t : Fin cfg0.N) (d) : (dats m 0 c).before 1 t d = iblk m c 1 t := before0_1_of m (dats m 0 c) rfl (after1 m c) t d
/-- What window 2 holds before a point. -/
theorem before2 (c : Dev nD) (t : Fin cfg0.N) (d) : (dats m 0 c).before 2 t d = iblk m c 2 t := before0_2_of m (dats m 0 c) rfl (after2 m c) t d
/-- What window 3 holds before a point. -/
theorem before3 (c : Dev nD) (t : Fin cfg0.N) (d) : (dats m 0 c).before 3 t d = iblk m c 3 t := before0_3_of m (dats m 0 c) rfl (after3 m c) t d
/-- What window 4 holds before a point. -/
theorem before4 (c : Dev nD) (t : Fin cfg0.N) (d) : (dats m 0 c).before 4 t d = iblk m c 4 t := before0_4_of m (dats m 0 c) rfl (after4 m c) t d
/-- What window 5 holds before a point. -/
theorem before5 (c : Dev nD) (t : Fin cfg0.N) (d) : (dats m 0 c).before 5 t d = iblk m c 5 t := before0_5_of m (dats m 0 c) rfl (after5 m c) t d

/-- The query gradient is kept between the points of a head pair. -/
theorem before6 (c : Dev nD) (t : Fin cfg0.N) (h : t.val % 16 ≠ 0) (d) : (dats m 0 c).before 6 t d = dqIn m c t.val := by
  have ht : t.val ≠ 0 := fun h0 => h (by rw [h0])
  rw [(dats m 0 c).before_out_kept 6 rfl t ht
    (Bool.eq_false_iff.2 fun hf => h (by
      have h1 := (flush0_6 _).1 hf
      have h2 : (t.val - 1) % 16 = 15 := h1
      omega)) (fun _ => rfl) (fun _ _ => rfl) d, after6, stAt_dq]
  unfold dqIn; rw [if_neg h]

/-- At a point of the grid, the inputs by number are the point's inputs. -/
theorem inN_val (c : Dev nD) (t : Fin cfg0.N) : inN m c t.val = inAt m c t := by unfold inN; rw [dif_pos t.isLt]

/-! ## The points -/

/-- The body table's entry is the kernel's function on the point's staging buffers. -/
theorem defs_tc : (defs₀ (F := F)) .tc cfg0.body
    = fun a => cc0_attn_bwd (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (Memref.whole cc0_scratch0) (Memref.isWhole_whole _) (Memref.whole cc0_scratch1) (Memref.isWhole_whole _) (Memref.whole cc0_scratch2) (Memref.isWhole_whole _) := rfl
/-- The program of a point is the body at the point. -/
theorem prog_eq (t : Fin cfg0.N) : (defs₀ (F := F)) .tc cfg0.body (cfg0.bodyArgs t (cfg0.slots t)) = bodyAt0 t :=
  (congrFun defs_tc _).trans rfl

/-- What the staging buffers hold at a point is its part of the arguments. -/
theorem inOf_eq (c : Dev nD) (t : Fin cfg0.N) (g0 : Buf (Elt F) ((win0_0.stage (cfg0.slots t 0)).view.loc (c : Thread nD τ))) (g1 : Buf (Elt F) ((win0_1.stage (cfg0.slots t 1)).view.loc (c : Thread nD τ))) (g2 : Buf (Elt F) ((win0_2.stage (cfg0.slots t 2)).view.loc (c : Thread nD τ))) (g3 : Buf (Elt F) ((win0_3.stage (cfg0.slots t 3)).view.loc (c : Thread nD τ))) (g4 : Buf (Elt F) ((win0_4.stage (cfg0.slots t 4)).view.loc (c : Thread nD τ))) (g5 : Buf (Elt F) ((win0_5.stage (cfg0.slots t 5)).view.loc (c : Thread nD τ)))
    (hg0 : (win0_0.stage (cfg0.slots t 0)).view.read (Elt F) g0 = iblk m c 0 t) (hg1 : (win0_1.stage (cfg0.slots t 1)).view.read (Elt F) g1 = iblk m c 1 t) (hg2 : (win0_2.stage (cfg0.slots t 2)).view.read (Elt F) g2 = iblk m c 2 t) (hg3 : (win0_3.stage (cfg0.slots t 3)).view.read (Elt F) g3 = iblk m c 3 t) (hg4 : (win0_4.stage (cfg0.slots t 4)).view.read (Elt F) g4 = iblk m c 4 t) (hg5 : (win0_5.stage (cfg0.slots t 5)).view.read (Elt F) g5 = iblk m c 5 t) :
    inOf c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) g0 g1 g2 g3 g4 g5 = inN m c t.val := by
    rw [inN_val]; unfold inAt; rw [← hg0, ← hg1, ← hg2, ← hg3, ← hg4, ← hg5]

end Cert.KernelIdeal.Hand

end
-- ==== Proof.KI.Run.lean ====
module

public import proofs.«01_k».proof.Proof.KI.Dats
public import proofs.«01_k».proof.Proof.Gen.KernelIdeal.Frame

/-!
The whole grid: what the kernel's buffers hold before and after each of the sixty-four points, and so what its three
results hold at the end.
-/

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Every point does what the proof data say. -/
theorem body_obligation (c : Dev nD) : BodyObligation (dats (F := F) m 0 c) (defs₀ (F := F)) Variants.none () Set.univ := fun t => by
  rw [bigSep_W0, bigSep_W0]
  dsimp only
  simp only [before0, before1, before2, before3, before4, before5, after0, after1, after2, after3, after4, after5, after6, after7, after8]
  rw [show (dats m 0 c).Φ t.castSucc = scr c t.val from rfl, show (dats m 0 c).Φ t.succ = scr c (t.val + 1) from rfl]
  unfold Dat.owesAt Pipeline.owesWithin
  rw [show (dats m 0 c).owed t.castSucc = 0 from rfl, show (dats m 0 c).owed t.succ = 0 from rfl]
  unfold owns scr
  iintro ⟨⟨⟨%x0, Hx0⟩, ⟨%x1, Hx1⟩, ⟨%x2, %hx2, Hx2⟩, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩⟩
  sl_rw [prog_eq t]
  have hp := point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) g0 g1 g2 g3 g4 g5 g6 g7 g8 x0 x1 x2
    (fun h => (isTop_iff t).2 (by rw [(isFirst_iff t).1 h])) (fun h => (coord1 t).trans ((isTop_iff t).1 h)) (fun h => hx2 fun h0 => h ((isFirst_iff t).2 h0)) (dqIn m c t.val)
    (fun h => by unfold dqIn; rw [if_pos ((isTop_iff t).1 h)])
    (fun h => hg6.trans (before6 m c t (fun h0 => h ((isTop_iff t).2 h0)) d6)) (inN m c t.val) (inOf_eq m c t g0 g1 g2 g3 g4 g5 hg0 hg1 hg2 hg3 hg4 hg5)
  rw [coord1 t] at hp
  have hS : finD (inN m c t.val) (t.val % 16) (dqIn m c t.val) = stAt m c t.val := rfl
  rw [hS] at hp
  ihave Hw := hp $$ [H0 H1 H2 H3 H4 H5 H6 H7 H8 Hx0 Hx1 Hx2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hx0]; · iexact Hx0
    isplitl [Hx1]; · iexact Hx1
    iexact Hx2
  unfold left
  iapply (wp_wand Idealize.ShloMosaic.frame (wpE (defs₀ (F := F)) Variants.none (c : Thread nD τ) none) Set.univ) $$ Hw
  iintro %_ ⟨H0, H1, H2, H3, H4, H5, H6, H7, H8, ⟨%y0, Hx0⟩, ⟨%y1, Hx1⟩, Hx2⟩
  isplitl [Hx0 Hx1 Hx2 Hr]
  · isplitl [Hx0]; · iexists y0; iexact Hx0
    isplitl [Hx1]; · iexists y1; iexact Hx1
    isplitl [Hx2]
    · iexists ((Memref.isWhole_whole cc0_scratch2).unread biasV); isplitr
      · ipureintro; exact fun _ => (Memref.isWhole_whole cc0_scratch2).read_unread _
      iexact Hx2
    iexact Hr
  isplitl [HW]
  · iexists W; isplitr; · ipureintro; exact fun _ _ => Or.inl trivial
    iexact HW
  isplitl [H0]
  · iexists _; isplitr; · ipureintro; exact hg0
    iexact H0
  isplitl [H1]
  · iexists _; isplitr; · ipureintro; exact hg1
    iexact H1
  isplitl [H2]
  · iexists _; isplitr; · ipureintro; exact hg2
    iexact H2
  isplitl [H3]
  · iexists _; isplitr; · ipureintro; exact hg3
    iexact H3
  isplitl [H4]
  · iexists _; isplitr; · ipureintro; exact hg4
    iexact H4
  isplitl [H5]
  · iexists _; isplitr; · ipureintro; exact hg5
    iexact H5
  isplitl [H6]
  · iexists ((hstage0_6 ((cfg0.slots t 6).cast nbuf0_6)).unread (stAt m c t.val).dq); isplitr; · ipureintro; exact (hstage0_6 ((cfg0.slots t 6).cast nbuf0_6)).read_unread _
    iexact H6
  isplitl [H7]
  · iexists ((hstage0_7 ((cfg0.slots t 7).cast nbuf0_7)).unread (tr (stAt m c t.val).dk)); isplitr; · ipureintro; exact (hstage0_7 ((cfg0.slots t 7).cast nbuf0_7)).read_unread _
    iexact H7
  iexists ((hstage0_8 ((cfg0.slots t 8).cast nbuf0_8)).unread (tr (stAt m c t.val).dv)); isplitr; · ipureintro; exact (hstage0_8 ((cfg0.slots t 8).cast nbuf0_8)).read_unread _
  iexact H8

/-! ## The run -/

/-- Equal assertions entail each other. -/
theorem of_eq {P Q : sProp 𝕄} (e : P = Q) : P ⊢ Q := e ▸ .rfl

/-- A whole buffer held through its view is the buffer held. -/
theorem held_whole (c : Dev nD) (b : Ref sig .tc) (f : Buf (Elt F) ((c : Thread nD τ).loc b)) :
    (((c : Thread nD τ).loc b) ↦[(View.whole b : View sig .tc _ _ _).set]{fullShare} f : sProp 𝕄) = (((c : Thread nD τ).loc b) ↦{fullShare} f) := by
  rw [View.set_whole]

/-- Before the first point the scratch buffers may hold anything. -/
theorem scr_in (c : Dev nD) : Pipeline.ΦA spec0 c ⊢ (scr c 0 : sProp 𝕄) := by
  unfold Pipeline.ΦA scr
  rw [scopedRest0_eq]
  iintro ⟨⟨⟨%x0, H0⟩, ⟨%x1, H1⟩, ⟨%x2, H2⟩⟩, Hr⟩
  isplitl [H0]; · iexists x0; iapply (of_eq (held_whole c cc0_scratch0 x0).symm); iexact H0
  isplitl [H1]; · iexists x1; iapply (of_eq (held_whole c cc0_scratch1 x1).symm); iexact H1
  isplitl [H2]
  · iexists x2; isplitr; · ipureintro; exact fun h => absurd rfl h
    iapply (of_eq (held_whole c cc0_scratch2 x2).symm); iexact H2
  iexact Hr

/-- After any point the scratch buffers may be given up. -/
theorem scr_out (c : Dev nD) (n : ℕ) : (scr c n : sProp 𝕄) ⊢ Pipeline.ΦA spec0 c := by
  unfold Pipeline.ΦA scr
  rw [scopedRest0_eq]
  iintro ⟨⟨%x0, H0⟩, ⟨%x1, H1⟩, ⟨%x2, -, H2⟩, Hr⟩
  isplitl [H0 H1 H2]
  · isplitl [H0]; · iexists x0; iapply (of_eq (held_whole c cc0_scratch0 x0)); iexact H0
    isplitl [H1]; · iexists x1; iapply (of_eq (held_whole c cc0_scratch1 x1)); iexact H1
    iexists x2; iapply (of_eq (held_whole c cc0_scratch2 x2)); iexact H2
  iexact Hr

set_option backward.isDefEq.respectTransparency.types false in
/-- Every run ends, with the results at what the points leave, every other buffer as the call found it and the
semaphores at zero. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ Variants.none m ρ main
    (hbody := fun c => (body_obligation m c).loose) (hshare := fun c => (dats m 0 c).share_full fun _ => rfl)
    (howed := fun _ _ => rfl) (V := V m) (hmain := Gen.hmain m Variants.none) (hA := fun _ _ => rfl)
    (hin := fun c => scr_in c) (hout := fun c => scr_out c _) (Q' := fun r => Pipeline.FramePost cfgs (dats m) 0 (V m) r ∧ r.2.sem = fun _ => 0)
    (hQ' := fun _ h => h)

set_option maxHeartbeats 4000000 in
/-- The arguments are left as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).1 3).trans (((dats m 0 c).arrAt_in 3 rfl _).trans (V_main_arg3 m c))⟩

/-- Every run ends with the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main m ρ)

end Cert.KernelIdeal.Hand

end
-- ==== Proof.V.HostDef.lean ====
module

public import proofs.«01_k».proof.Proof.KI.Dats
public import Idealize.ShloMosaic.Lib.StableHlo.RunRead

/-!
The arrays the host prepares for the kernel, under names of their own.
-/

@[expose] public section

set_option maxRecDepth 16384

noncomputable section

namespace Cert.KernelIdeal.Pre

open Cert.KernelIdeal Cert.KernelIdeal.Gen
open Idealize.ShloMosaic Idealize.ShloMosaic.TcCoe Idealize.ShloMosaic.Tactic

variable {F : FTy → Type} [FloatOps F] [Named F]

/-- The number of the block of 64 positions that a position lies in. -/
def blk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which keys a query sees. -/
def mask : IVec S8x8192x8192 1 :=
  broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 blk)) (broadcastInDim S8192x8192 ![0, 1] bcast_S8192x1_S8192x8192_0_1 (broadcastInDim S8192x1 ![0] bcast_S8192_S8192x1_0 blk))))

/-- An argument, split into its heads. -/
def heads (x : FVec F S8192x1024 .bf16) : FVec F S8192x8x128 .f32 :=
  shapeCast S8192x8x128 (extf .f32 x bitsLt_bf16_f32) shapeCasts_S8192x1024_S8192x8x128

/-- The masked scores. -/
def score (q k : FVec F S8192x1024 .bf16) : FVec F S8x8192x8192 .f32 :=
  select mask (mulf (Host.dotGeneral dot_S8192x8x128_S8192x8x128_S8x8192x8192_2_2_0_0_1_1 none (heads q) (heads k)) (broadcastInDim S8x8192x8192 ![] bcast_S_S8x8192x8192 (constant S_ .f32 0x3DD105EC#32))) (broadcastInDim S8x8192x8192 ![] bcast_S_S8x8192x8192 (id (constant S_ .f32 0xFF800000#32)))

/-- The greatest score of each query. -/
def mr (s : FVec F S8x8192x8192 .f32) : FVec F S8x8192 .f32 :=
  Host.reduce FloatOps.maximumf s (constant S_ .f32 0xFF800000#32) reducesTo_S8x8192x8192_S8x8192_d2 h_S_

/-- The same as a column. -/
def mx (s : FVec F S8x8192x8192 .f32) : FVec F S8x8192x1 .f32 := broadcastInDim S8x8192x1 ![0, 1] bcast_S8x8192_S8x8192x1_0_1 (mr s)

/-- A column laid over the keys. -/
def over (l : FVec F S8x8192x1 .f32) : FVec F S8x8192x8192 .f32 := broadcastInDim S8x8192x8192 ![0, 1, 2] bcast_S8x8192x1_S8x8192x8192_0_1_2 l

/-- The exponentials of the scores less their greatest. -/
def ex (s : FVec F S8x8192x8192 .f32) : FVec F S8x8192x8192 .f32 := Host.exp (subf s (over (mx s)))

/-- The sum over the keys, as a column. -/
def sumK (e : FVec F S8x8192x8192 .f32) : FVec F S8x8192x1 .f32 :=
  broadcastInDim S8x8192x1 ![0, 1] bcast_S8x8192_S8x8192x1_0_1 (Host.reduceAdd e (constant S_ .f32 0x00000000#32) reducesTo_S8x8192x8192_S8x8192_d2 h_S_)

/-- The probabilities. -/
def pr (e : FVec F S8x8192x8192 .f32) : FVec F S8x8192x8192 .f32 := Host.divf e (over (sumK e))

/-- The binary logarithm of each query's sum of exponentials, from the greatest score and the sum. -/
def lg (a b : FVec F S8x8192x1 .f32) : FVec F S8x8192 .f32 :=
  Host.divf (addf (shapeCast S8x8192 a shapeCasts_S8x8192x1_S8x8192) (Host.log (shapeCast S8x8192 b shapeCasts_S8x8192x1_S8x8192)))
    (broadcastInDim S8x8192 ![] bcast_S_S8x8192 (Host.log (constant S_ .f32 0x40000000#32)))

/-- The same from the scores. -/
def lse (s : FVec F S8x8192x8192 .f32) : FVec F S8x8192 .f32 := lg (mx s) (sumK (ex s))

/-- The attention's output. -/
def outp (p : FVec F S8x8192x8192 .f32) (v : FVec F S8192x1024 .bf16) : FVec F S8192x8x128 .f32 :=
  transpose S8192x8x128 [2, 0, 1] (Host.dotGeneral dot_S8192x8x128_S8x8192x8192_S8x128x8192_0_2_2_1_1_0 none (heads v) p) transposes_S8x128x8192_S8192x8x128_2_0_1

/-- The sum over a head's columns of the output times its gradient. -/
def delta (o : FVec F S8192x8x128 .f32) (d : FVec F S8192x1024 .bf16) : FVec F S8x8192 .f32 :=
  transpose S8x8192 [1, 0] (Host.reduceAdd (mulf o (heads d)) (constant S_ .f32 0x00000000#32) reducesTo_S8192x8x128_S8192x8_d2 h_S_) transposes_S8192x8_S8x8192_1_0

/-- A row per head, eight times over. -/
def eight (l : FVec F S8x8192 .f32) : FVec F S8x8x8192 .f32 :=
  broadcastInDim S8x8x8192 ![0, 1, 2] bcast_S8x1x8192_S8x8x8192_0_1_2 (broadcastInDim S8x1x8192 ![0, 2] bcast_S8x8192_S8x1x8192_0_2 l)

variable (m : (ℓ : Loc nD τ sig) → Buf (Elt F) ℓ) (c : Dev nD)

/-- The queries that the device holds. -/
abbrev aQ : FVec F S8192x1024 .bf16 := m ((c.tc : Thread nD τ).loc main_arg0)
/-- The keys that the device holds. -/
abbrev aK : FVec F S8192x1024 .bf16 := m ((c.tc : Thread nD τ).loc main_arg1)
/-- The values that the device holds. -/
abbrev aV : FVec F S8192x1024 .bf16 := m ((c.tc : Thread nD τ).loc main_arg2)
/-- The output's gradient that the device holds. -/
abbrev aD : FVec F S8192x1024 .bf16 := m ((c.tc : Thread nD τ).loc main_arg3)

/-- The fifth window's array. -/
theorem V_lse : V m c main_v42 = eight (lse (score (aQ m c) (aK m c))) := by
  simp only [V, List.flatten, List.append, StableHlo.TRef.binary, StableHlo.TRef.nullary, StableHlo.TRef.ternary, StableHlo.TRef.unary, StableHlo.TRef.toBuf, StableHlo.TRef.ofBuf, cast_eq]
  after_results_simp <;> rfl
/-- The sixth window's array. -/
theorem V_delta : V m c main_v44 = eight (delta (outp (pr (ex (score (aQ m c) (aK m c)))) (aV m c)) (aD m c)) := by
  simp only [V, List.flatten, List.append, StableHlo.TRef.binary, StableHlo.TRef.nullary, StableHlo.TRef.ternary, StableHlo.TRef.unary, StableHlo.TRef.toBuf, StableHlo.TRef.ofBuf, cast_eq]
  after_results_simp <;> rfl

end Cert.KernelIdeal.Pre

end
-- ==== Proof.V.RefDef.lean ====
module

public import proofs.«01_k».proof.Proof.Gen.ReferenceIdeal.Run

/-!
The reference's intermediate arrays under names of their own, and its three results as terms of those.
-/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable {F : FTy → Type} [FloatOps F]

/-- The number of the block of 64 positions that a position lies in. -/
def blk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which keys a query sees. -/
def mask : IVec S8x8192x8192 1 :=
  broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 blk)) (broadcastInDim S8192x8192 ![0, 1] bcast_S8192x1_S8192x8192_0_1 (broadcastInDim S8192x1 ![0] bcast_S8192_S8192x1_0 blk))))

/-- An argument, split into its heads. -/
def heads (x : FVec F S8192x1024 .bf16) : FVec F S8192x8x128 .f32 :=
  shapeCast S8192x8x128 (extf .f32 x bitsLt_bf16_f32) shapeCasts_S8192x1024_S8192x8x128

/-- The masked scores. -/
def score (q k : FVec F S8192x1024 .bf16) : FVec F S8x8192x8192 .f32 :=
  select mask (mulf (Host.dotGeneral dot_S8192x8x128_S8192x8x128_S8x8192x8192_2_2_0_0_1_1 none (heads q) (heads k)) (broadcastInDim S8x8192x8192 ![] bcast_S_S8x8192x8192 (constant S_ .f32 0x3DD105EC#32))) (broadcastInDim S8x8192x8192 ![] bcast_S_S8x8192x8192 (id (constant S_ .f32 0xFF800000#32)))

/-- The greatest score of each query. -/
def mx (s : FVec F S8x8192x8192 .f32) : FVec F S8x8192 .f32 :=
  maximumf (broadcastInDim S8x8192 ![] bcast_S_S8x8192 (constant S_ .f32 0xFF800000#32)) (Host.reduce FloatOps.maximumf s (constant S_ .f32 0xFF800000#32) reducesTo_S8x8192x8192_S8x8192_d2 h_S_)

/-- A number per query, as an array of one column. -/
def col (l : FVec F S8x8192 .f32) : FVec F S8x8192x1 .f32 := broadcastInDim S8x8192x1 ![0, 1] bcast_S8x8192_S8x8192x1_0_1 l

/-- A column laid over the keys. -/
def over (l : FVec F S8x8192x1 .f32) : FVec F S8x8192x8192 .f32 := broadcastInDim S8x8192x8192 ![0, 1, 2] bcast_S8x8192x1_S8x8192x8192_0_1_2 l

/-- The exponentials of the scores less their greatest. -/
def ex (s : FVec F S8x8192x8192 .f32) : FVec F S8x8192x8192 .f32 := Host.exp (subf s (over (col (mx s))))

/-- The sum over the keys. -/
def sumK (e : FVec F S8x8192x8192 .f32) : FVec F S8x8192 .f32 :=
  Host.reduceAdd e (constant S_ .f32 0x00000000#32) reducesTo_S8x8192x8192_S8x8192_d2 h_S_

/-- The probabilities. -/
def pr (e : FVec F S8x8192x8192 .f32) : FVec F S8x8192x8192 .f32 := Host.divf e (over (col (sumK e)))

/-- The output's gradient, heads first. -/
def headsT (d : FVec F S8192x1024 .bf16) : FVec F S8x128x8192 .f32 := transpose S8x128x8192 [1, 2, 0] (heads d) transposes_S8192x8x128_S8x128x8192_1_2_0

/-- The gradient of the probabilities. -/
def dpr (v d : FVec F S8192x1024 .bf16) : FVec F S8x8192x8192 .f32 :=
  Host.dotGeneral dot_S8x128x8192_S8192x8x128_S8x8192x8192_1_2_2_0_0_1 none (headsT d) (heads v)

/-- The gradient of the sum of the exponentials. -/
def dl (e dp : FVec F S8x8192x8192 .f32) : FVec F S8x8192 .f32 :=
  Host.reduceAdd (Host.negf (shapeCast S8x8192x1 (sumK (mulf (mulf dp (over (Host.divf (broadcastInDim S8x8192x1 ![] bcast_S_S8x8192x1 (constant S_ .f32 0x3F800000#32)) (mulf (col (sumK e)) (col (sumK e)))))) e)) shapeCasts_S8x8192_S8x8192x1)) (constant S_ .f32 0x00000000#32) reducesTo_S8x8192x1_S8x8192_d2 h_S_

/-- The gradient of the products of queries and keys. -/
def ds (e dp : FVec F S8x8192x8192 .f32) : FVec F S8x8192x8192 .f32 :=
  mulf (select mask (mulf (addf (Host.divf dp (over (col (sumK e)))) (broadcastInDim S8x8192x8192 ![0, 1] bcast_S8x8192_S8x8192x8192_0_1 (dl e dp))) e) (broadcastInDim S8x8192x8192 ![] bcast_S_S8x8192x8192 (constant S_ .f32 0x00000000#32))) (broadcastInDim S8x8192x8192 ![] bcast_S_S8x8192x8192 (constant S_ .f32 0x3DD105EC#32))

/-- The gradient of the queries. -/
def dq (t : FVec F S8x8192x8192 .f32) (k : FVec F S8192x1024 .bf16) : FVec F S8192x1024 .f32 :=
  shapeCast S8192x1024 (transpose S8192x8x128 [1, 0, 2] (Host.dotGeneral dot_S8x8192x8192_S8192x8x128_S8x8192x128_2_0_1_2_0_1 none t (heads k)) transposes_S8x8192x128_S8192x8x128_1_0_2) shapeCasts_S8192x8x128_S8192x1024

/-- The gradient of the keys. -/
def dk (t : FVec F S8x8192x8192 .f32) (q : FVec F S8192x1024 .bf16) : FVec F S8192x1024 .bf16 :=
  truncf .bf16 (shapeCast S8192x1024 (transpose S8192x8x128 [1, 0, 2] (Host.dotGeneral dot_S8x8192x8192_S8192x8x128_S8x8192x128_1_0_2_2_0_1 none t (heads q)) transposes_S8x8192x128_S8192x8x128_1_0_2) shapeCasts_S8192x8x128_S8192x1024) bitsLt_bf16_f32

/-- The gradient of the values. -/
def dv (p : FVec F S8x8192x8192 .f32) (d : FVec F S8192x1024 .bf16) : FVec F S8192x1024 .bf16 :=
  truncf .bf16 (shapeCast S8192x1024 (transpose S8192x8x128 [2, 0, 1] (Host.dotGeneral dot_S8x128x8192_S8x8192x8192_S8x128x8192_2_1_1_2_0_0 none (headsT d) p) transposes_S8x128x8192_S8192x8x128_2_0_1) shapeCasts_S8192x8x128_S8192x1024) bitsLt_bf16_f32

variable (m : (ℓ : Loc nD τ sig) → Buf (Elt F) ℓ) (c : Dev nD)

/-- The queries that the device holds. -/
abbrev aQ : FVec F S8192x1024 .bf16 := m ((c.tc : Thread nD τ).loc main_arg0)
/-- The keys that the device holds. -/
abbrev aK : FVec F S8192x1024 .bf16 := m ((c.tc : Thread nD τ).loc main_arg1)
/-- The values that the device holds. -/
abbrev aV : FVec F S8192x1024 .bf16 := m ((c.tc : Thread nD τ).loc main_arg2)
/-- The output's gradient that the device holds. -/
abbrev aD : FVec F S8192x1024 .bf16 := m ((c.tc : Thread nD τ).loc main_arg3)

/-- The first result is the gradient of the queries. -/
theorem res0 : Cert.ReferenceIdeal.Value.res_out0 m c = dq (ds (ex (score (aQ m c) (aK m c))) (dpr (aV m c) (aD m c))) (aK m c) := rfl
/-- The second result is the gradient of the keys. -/
theorem res1 : Cert.ReferenceIdeal.Value.res_out1 m c = dk (ds (ex (score (aQ m c) (aK m c))) (dpr (aV m c) (aD m c))) (aQ m c) := rfl
/-- The third result is the gradient of the values. -/
theorem res2 : Cert.ReferenceIdeal.Value.res_out2 m c = dv (pr (ex (score (aQ m c) (aK m c)))) (aD m c) := rfl

end Cert.ReferenceIdeal.Hand

end
-- ==== Proof.V.Real.lean ====
module

public import Idealize.ShloMosaic.PureOps.Ideal
public import Mathlib.Analysis.SpecialFunctions.Pow.Real
public import Mathlib.Algebra.BigOperators.Fin

/-!
The attention's backward pass over the real numbers: its formulas, and the one row of the softmax that both programs
compute in the extended reals.
-/

@[expose] public section

noncomputable section

namespace Cert.Att

open Idealize.ShloMosaic

/-! ## Sums and quotients of real numbers in the extended reals -/

/-- A sum of real numbers is a real number. -/
theorem sum_coe {ι : Type} (s : Finset ι) (f : ι → ℝ) : ∑ k ∈ s, ((f k : ℝ) : EReal) = ((∑ k ∈ s, f k : ℝ) : EReal) :=
  (map_sum (⟨⟨fun r : ℝ => (r : EReal), EReal.coe_zero⟩, EReal.coe_add⟩ : ℝ →+ EReal) f s).symm

/-- A sum whose terms are known to be real. -/
theorem sum_of {ι : Type} [Fintype ι] (x : ι → EReal) (f : ι → ℝ) (h : ∀ k, x k = ((f k : ℝ) : EReal)) : ∑ k, x k = ((∑ k, f k : ℝ) : EReal) := by
  rw [← sum_coe]; exact Finset.sum_congr rfl fun k _ => h k

/-- A quotient of real numbers. -/
theorem div_of {x y : ℝ} (h : y ≠ 0) : Ideal.div (x : EReal) (y : EReal) = ((x / y : ℝ) : EReal) := by
  rw [Ideal.div_coe h, ← EReal.coe_mul, mul_one_div]

/-- The greatest of numbers none of which is `+∞` and one of which is not `-∞` is a real number. -/
theorem fold_max_real {ι : Type} (s : Finset ι) (x : ι → EReal) (ht : ∀ i, x i ≠ ⊤) (i : ι) (hi : i ∈ s) (hb : x i ≠ ⊥) :
    ∃ M : ℝ, s.fold max ⊥ x = (M : EReal) := by
  have h1 : s.fold max ⊥ x < ⊤ := (Finset.fold_max_lt ⊤).2 ⟨bot_lt_top, fun j _ => lt_top_iff_ne_top.2 (ht j)⟩
  have h2 : ⊥ < s.fold max ⊥ x := (bot_lt_iff_ne_bot.2 hb).trans_le ((Finset.le_fold_max _).2 (Or.inr ⟨i, hi, le_rfl⟩))
  exact ⟨(s.fold max ⊥ x).toReal, (EReal.coe_toReal h1.ne h2.ne').symm⟩

/-! ## One row of the softmax -/

section Row
variable {n : ℕ} (al : Fin n → Prop) [DecidablePred al] (S : Fin n → ℝ) (M : ℝ)

/-- The exponentials, zero where the mask hides the key. -/
def E (j : Fin n) : ℝ := if al j then Real.exp (S j) else 0
/-- Their sum. -/
def L : ℝ := ∑ j, E al S j
/-- The probabilities. -/
def P (j : Fin n) : ℝ := E al S j / L al S

/-- The exponentials are not negative. -/
theorem E_nonneg (j : Fin n) : 0 ≤ E al S j := by unfold E; split; exacts [(Real.exp_pos _).le, le_rfl]
/-- Where one key is seen, the sum is positive. -/
theorem L_pos (i : Fin n) (h : al i) : 0 < L al S :=
  Finset.sum_pos' (fun j _ => E_nonneg al S j) ⟨i, Finset.mem_univ _, by unfold E; rw [if_pos h]; exact Real.exp_pos _⟩

/-- The exponential of a score less any real number. -/
theorem ex_row (j : Fin n) : Ideal.exp ((if al j then ((S j : ℝ) : EReal) else ⊥) - (M : EReal)) = ((E al S j * Real.exp (-M) : ℝ) : EReal) := by
  unfold E
  by_cases h : al j
  · rw [if_pos h, if_pos h, ← EReal.coe_sub, Ideal.exp_coe, sub_eq_add_neg, Real.exp_add]
  · rw [if_neg h, if_neg h, EReal.bot_sub, Ideal.exp_bot, zero_mul, EReal.coe_zero]

/-- The sum of those exponentials. -/
theorem sum_row : ∑ j, (E al S j * Real.exp (-M)) = L al S * Real.exp (-M) := by unfold L; rw [Finset.sum_mul]

/-- The quotient of the two is the probability, whatever number was subtracted. -/
theorem quot_row (j : Fin n) : (E al S j * Real.exp (-M)) / (L al S * Real.exp (-M)) = P al S j := by
  unfold P; rw [mul_div_mul_right _ _ (Real.exp_pos _).ne']

/-- The gradient of the exponentials, as the reference writes it. -/
theorem ds_row (dp : Fin n → ℝ) (c1 t : ℝ) (ht : t ≠ 0) (hL : L al S ≠ 0) (j : Fin n) :
    (if al j then (dp j / (L al S * t) + -∑ k, dp k * (1 / (L al S * t * (L al S * t))) * (E al S k * t)) * (E al S j * t) else 0) * c1
      = P al S j * (dp j - ∑ k, P al S k * dp k) * c1 := by
  have e : (∑ k, dp k * (1 / (L al S * t * (L al S * t))) * (E al S k * t)) = (∑ k, P al S k * dp k) / (L al S * t) := by
    rw [Finset.sum_div]
    refine Finset.sum_congr rfl fun k _ => ?_
    unfold P; field_simp
  rw [e]
  by_cases h : al j
  · rw [if_pos h]
    congr 1
    unfold P
    field_simp
    ring
  · rw [if_neg h]
    have : P al S j = 0 := by unfold P E; rw [if_neg h, zero_div]
    rw [this]; ring

/-- The binary logarithm of the sum of the exponentials, as the host computes it. -/
theorem lse_row (hL : 0 < L al S) : (M + Real.log (L al S * Real.exp (-M))) / Real.log 2 = Real.log (L al S) / Real.log 2 := by
  rw [Real.log_mul hL.ne' (Real.exp_pos _).ne', Real.log_exp]; congr 1; ring

/-- The power of two that the kernel computes is the probability. -/
theorem exp2_row (hL : 0 < L al S) (j : Fin n) (h : al j) (x c1 : ℝ) (hx : x * c1 = S j) :
    Real.rpow 2 (x * (c1 * (Real.log 2)⁻¹) - Real.log (L al S) / Real.log 2) = P al S j := by
  have h2 : Real.log 2 ≠ 0 := (Real.log_pos (by norm_num)).ne'
  have e : Real.log 2 * (x * (c1 * (Real.log 2)⁻¹) - Real.log (L al S) / Real.log 2) = S j - Real.log (L al S) := by
    rw [← hx]; field_simp
  rw [Real.rpow_eq_pow]
  rw [Real.rpow_def_of_pos (by norm_num), e, Real.exp_sub, Real.exp_log hL]
  unfold P E; rw [if_pos h]

/-- A hidden key has probability zero. -/
theorem P_hidden (j : Fin n) (h : ¬ al j) : P al S j = 0 := by unfold P E; rw [if_neg h, zero_div]

end Row

/-! ## The whole -/

/-- An array of positions, heads and columns. -/
abbrev T := Fin 8192 → Fin 8 → Fin 128 → ℝ

/-- The key at `j` is seen by the query at `i`: its block of 64 does not come later. -/
def al (i j : Fin 8192) : Prop := j.val / 64 ≤ i.val / 64
instance (i j : Fin 8192) : Decidable (al i j) := inferInstanceAs (Decidable (_ ≤ _))
/-- A position sees itself. -/
theorem al_self (i : Fin 8192) : al i i := le_rfl

/-- The scale of the scores: the float nearest to one over the square root of 96. -/
def c1 : ℝ := 3424635 / 33554432

variable (Q K V G : T)

/-- The scores. -/
def S (h : Fin 8) (i j : Fin 8192) : ℝ := (∑ d, Q i h d * K j h d) * c1
/-- The probabilities. -/
def Pr (h : Fin 8) (i j : Fin 8192) : ℝ := P (al i) (S Q K h i) j
/-- The gradient of the probabilities. -/
def dP (h : Fin 8) (i j : Fin 8192) : ℝ := ∑ d, G i h d * V j h d
/-- The sum over the keys of the probabilities times their gradients. -/
def D (h : Fin 8) (i : Fin 8192) : ℝ := ∑ k, Pr Q K h i k * dP V G h i k
/-- The gradient of the products of queries and keys. -/
def dS (h : Fin 8) (i j : Fin 8192) : ℝ := Pr Q K h i j * (dP V G h i j - D Q K V G h i) * c1
/-- The gradient of the queries. -/
def dQ : T := fun i h d => ∑ j, dS Q K V G h i j * K j h d
/-- The gradient of the keys. -/
def dK : T := fun j h d => ∑ i, dS Q K V G h i j * Q i h d
/-- The gradient of the values. -/
def dV : T := fun j h d => ∑ i, Pr Q K h i j * G i h d

/-- The sum of the exponentials of an allowed row is positive. -/
theorem L_pos' (h : Fin 8) (i : Fin 8192) : 0 < L (al i) (S Q K h i) := L_pos _ _ i (al_self i)

/-- The sum over a head's columns of the output times its gradient is the same sum. -/
theorem delta_eq (h : Fin 8) (i : Fin 8192) : (∑ d, (∑ j, V j h d * Pr Q K h i j) * G i h d) = D Q K V G h i := by
  unfold D dP
  simp only [Finset.sum_mul, Finset.mul_sum]
  rw [Finset.sum_comm]
  refine Finset.sum_congr rfl fun j _ => Finset.sum_congr rfl fun d _ => ?_
  ring

/-- A hidden key's gradient is zero. -/
theorem dS_hidden (h : Fin 8) (i j : Fin 8192) (hn : ¬ al i j) : dS Q K V G h i j = 0 := by
  unfold dS Pr; rw [P_hidden _ _ _ hn]; ring

end Cert.Att

end
-- ==== Proof.V.Max.lean ====
module

public import proofs.«01_k».proof.Proof.V.Real
public import Idealize.ShloMosaic.PureOps.Reduce
public import Idealize.ShloMosaic.Lib.Pointwise

/-!
The host's maximum over an axis, at any shapes: of numbers below `+∞`, one of them above `-∞`, it is a real number.
-/

@[expose] public section

noncomputable section

namespace Cert.Att

open Idealize.ShloMosaic

/-- A host's maximum at a result index that one real element drops to. -/
theorem reduce_real {s t u : Shape} {axes : List (Fin s.rank)} (x : FVec Ideal s .f32) (init : FVec Ideal u .f32) (h : s.ReducesTo axes t) (hu : 0 < u.numel)
    (hi : init (Shape.Idx.first hu) = (⊥ : EReal)) (j : t.Idx) (ht : ∀ i, x i ≠ (⊤ : EReal)) (i : s.Idx) (hd : h.drop i = j) (hb : x i ≠ (⊥ : EReal)) :
    ∃ M : ℝ, Host.reduce FloatOps.maximumf x init h hu j = (M : EReal) := by
  obtain ⟨M, hM⟩ := fold_max_real (Finset.univ.filter fun y => h.drop y = j) x ht i (Finset.mem_filter.2 ⟨Finset.mem_univ _, hd⟩) hb
  refine ⟨M, ?_⟩
  rw [Host.reduce_eq_fold, hi]
  exact hM

/-- The greater of `-∞` and a number is the number. -/
theorem maximumf_bot {t : Shape} (b y : FVec Ideal t .f32) (j : t.Idx) (hb : b j = (⊥ : EReal)) : maximumf b y j = y j := by
  show max (b j : EReal) (y j) = y j
  rw [hb, bot_sup_eq]

end Cert.Att

end
-- ==== Proof.V.RefVal.lean ====
module

public import proofs.«01_k».proof.Proof.V.RefDef
public import proofs.«01_k».proof.Proof.V.Max
public import Idealize.ShloMosaic.Lib.Pointwise
public import Idealize.ShloMosaic.Lib.Routing.Words

/-!
The reference's arrays read at an index: over real arguments they hold the formulas of the attention's backward pass.
-/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Att (T)

/-- An array of scores. -/
abbrev M3 := FVec Ideal S8x8192x8192 .f32
/-- An argument. -/
abbrev A2 := FVec Ideal S8192x1024 .bf16

/-- The block of position `i`. -/
theorem blk_at (i : Fin 8192) : blk (ix1 i) = BitVec.ofNat 32 (i.val / 64) := by
  have hi := i.isLt
  pointwise [blk]
  have hc : (id (constantI S_ 32 64#32) ix0 : BitVec 32) = BitVec.ofNat 32 64 := rfl
  rw [hc]
  have ha : i.val < 2 ^ 31 := by omega
  simp only [Routing.remsi_word .host ha (show 0 < 64 by decide) (by decide), Routing.divsi_word .host ha (show 0 < 64 by decide) (by decide), Routing.msb_ofNat32 ha]
  rcases Nat.eq_zero_or_pos i.val with h | h
  · rw [h]; rfl
  · rw [if_neg (Routing.ofNat32_ne_zero h (show i.val < 2 ^ 32 by omega))]
    have e : IntOp.cmpi .ne (if false = true then (-1 : BitVec 32) else 1) (if BitVec.ofNat 32 64 = 0 then 0 else if (BitVec.ofNat 32 64).msb = true then -1 else 1) = 0#1 := by decide
    rw [e]
    show Scalar.select (0#1 &&& _) _ _ = _
    rw [BitVec.zero_and]
    rfl

/-- The mask at a head, a query and a key. -/
theorem mask_at (h : Fin 8) (i j : Fin 8192) : mask (ix3 h i j) = if Cert.Att.al i j then 1#1 else 0#1 := by
  have hi := i.isLt
  have hj := j.isLt
  pointwise [mask]
  rw [blk_at, blk_at]
  have e : ∀ n : ℕ, n < 2 ^ 31 → (BitVec.ofNat 32 n).toInt = (n : ℤ) := by
    intro n hn
    rw [BitVec.toInt_eq_toNat_of_msb (Routing.msb_ofNat32 hn), BitVec.toNat_ofNat, Nat.mod_eq_of_lt (by omega)]
  show BitVec.ofBool (BitVec.sle (BitVec.ofNat 32 (j.val / 64)) (BitVec.ofNat 32 (i.val / 64))) = _
  rw [BitVec.sle, e _ (by omega), e _ (by omega)]
  by_cases h : Cert.Att.al i j
  · rw [if_pos h, decide_eq_true (Int.ofNat_le.2 h)]; rfl
  · rw [if_neg h, decide_eq_false fun hc => h (Int.ofNat_le.1 hc)]; rfl

/-- An argument's element. -/
theorem heads_at (x : A2) (i : Fin 8192) (h : Fin 8) (d : Fin 128) : heads x (ix3 i h d) = x (ix2 i ⟨h.val * 128 + d.val, by omega⟩) := by
  pointwise [heads]

/-- The word of the scale. -/
theorem ofBits_c1 : Ideal.ofBits .f32 0x3DD105EC#32 = ((Cert.Att.c1 : ℝ) : EReal) := by
  have h : Ideal.ofBits .f32 0x3DD105EC#32 = ((13698540 * (2 ^ 27)⁻¹ : ℝ) : EReal) := by
    simp [Ideal.ofBits, Ideal.ieee]
  rw [h]; congr 1; unfold Cert.Att.c1; norm_num

/-- The word of minus infinity. -/
theorem ofBits_bot : Ideal.ofBits .f32 0xFF800000#32 = ⊥ := by
  simp [Ideal.ofBits, Ideal.ieee]

/-- An argument holds the real numbers of an array. -/
def Holds (x : A2) (X : T) : Prop := ∀ i h d, heads x (ix3 i h d) = ((X i h d : ℝ) : EReal)

variable {q k v d : A2} {Q K V G : T}

/-- The masked scores. -/
theorem score_at (hq : Holds q Q) (hk : Holds k K) (h : Fin 8) (i j : Fin 8192) :
    score q k (ix3 h i j) = if Cert.Att.al i j then ((Cert.Att.S Q K h i j : ℝ) : EReal) else ⊥ := by
  pointwise [score]
  have hn : (id (constant S_ FTy.f32 4286578688#32) ix0 : Ideal .f32) = ⊥ := ofBits_bot
  rw [mask_at, hn, Cert.Att.sum_of _ (fun x => Q i h x * K j h x) (fun x => by rw [hq, hk, EReal.coe_mul]), ofBits_c1, ← EReal.coe_mul]
  unfold Scalar.select Cert.Att.S
  by_cases ha : Cert.Att.al i j <;> simp [ha]

/-- The query that an element of the scores belongs to. -/
theorem drop_at (h : Fin 8) (i j : Fin 8192) : reducesTo_S8x8192x8192_S8x8192_d2.drop (ix3 h i j) = ix2 h i :=
  funext fun a => Fin.ext (match a with | 0 => rfl | 1 => rfl)

/-- The greatest score of a query is a real number. -/
theorem mx_real (hq : Holds q Q) (hk : Holds k K) (h : Fin 8) (i : Fin 8192) : ∃ M : ℝ, mx (score q k) (ix2 h i) = (M : EReal) := by
  have ht : ∀ x, score q k x ≠ ⊤ := by
    intro x
    idx_vars x
    rw [score_at hq hk]
    split
    · exact EReal.coe_ne_top _
    · exact bot_ne_top
  have hb : score q k (ix3 h i i) ≠ ⊥ := by
    rw [score_at hq hk, if_pos (Cert.Att.al_self i)]
    exact EReal.coe_ne_bot _
  obtain ⟨M, hM⟩ := Cert.Att.reduce_real (score q k) (constant S_ .f32 0xFF800000#32) reducesTo_S8x8192x8192_S8x8192_d2 h_S_ ofBits_bot (ix2 h i) ht (ix3 h i i) (drop_at h i i) hb
  refine ⟨M, ?_⟩
  unfold mx
  exact (Cert.Att.maximumf_bot _ _ _ ofBits_bot).trans hM

/-- The exponentials, up to a positive factor that belongs to the query. -/
theorem ex_at (hq : Holds q Q) (hk : Holds k K) (h : Fin 8) (i : Fin 8192) :
    ∃ M : ℝ, ∀ j, ex (score q k) (ix3 h i j) = ((Cert.Att.E (Cert.Att.al i) (Cert.Att.S Q K h i) j * Real.exp (-M) : ℝ) : EReal) := by
  obtain ⟨M, hM⟩ := mx_real hq hk h i
  refine ⟨M, fun j => ?_⟩
  pointwise [ex, over, col]
  rw [hM, score_at hq hk]
  exact Cert.Att.ex_row (Cert.Att.al i) (Cert.Att.S Q K h i) M j

/-- A sum over the keys. -/
theorem sum_at (s : M3) (h : Fin 8) (i : Fin 8192) : sumK s (ix2 h i) = ∑ x, s (ix3 h i x) := by
  pointwise [sumK]

/-- A row of exponentials that are the real numbers `E` times `t`: its sum. -/
theorem sum_row (e : M3) (h : Fin 8) (i : Fin 8192) (M : ℝ)
    (he : ∀ j, e (ix3 h i j) = ((Cert.Att.E (Cert.Att.al i) (Cert.Att.S Q K h i) j * Real.exp (-M) : ℝ) : EReal)) :
    sumK e (ix2 h i) = ((Cert.Att.L (Cert.Att.al i) (Cert.Att.S Q K h i) * Real.exp (-M) : ℝ) : EReal) := by
  rw [sum_at, Cert.Att.sum_of _ _ he, Cert.Att.sum_row]

/-- That sum is not zero. -/
theorem sum_ne (h : Fin 8) (i : Fin 8192) (M : ℝ) : Cert.Att.L (Cert.Att.al i) (Cert.Att.S Q K h i) * Real.exp (-M) ≠ 0 :=
  mul_ne_zero (Cert.Att.L_pos' Q K h i).ne' (Real.exp_pos _).ne'

/-- The probabilities. -/
theorem pr_at (hq : Holds q Q) (hk : Holds k K) (h : Fin 8) (i j : Fin 8192) :
    pr (ex (score q k)) (ix3 h i j) = ((Cert.Att.Pr Q K h i j : ℝ) : EReal) := by
  obtain ⟨M, hM⟩ := ex_at hq hk h i
  pointwise [pr, over, col]
  rw [sum_row _ h i M hM, hM, Cert.Att.div_of (sum_ne h i M), Cert.Att.quot_row]
  rfl

/-- The gradient of the probabilities. -/
theorem dpr_at (hv : Holds v V) (hd : Holds d G) (h : Fin 8) (i j : Fin 8192) : dpr v d (ix3 h i j) = ((Cert.Att.dP V G h i j : ℝ) : EReal) := by
  pointwise [dpr, headsT]
  exact Cert.Att.sum_of _ (fun x => G i h x * V j h x) fun x => by rw [hv, hd, EReal.coe_mul]

/-- The gradient of the sum of the exponentials, at an index. -/
theorem dl_at (e dp : M3) (h : Fin 8) (i : Fin 8192) :
    dl e dp (ix2 h i) = -∑ x, dp (ix3 h i x) * Ideal.div 1 (sumK e (ix2 h i) * sumK e (ix2 h i)) * e (ix3 h i x) := by
  pointwise [dl, over, col]
  rw [Finset.sum_const, Finset.card_univ, Fintype.card_fin, one_smul, sum_at]
  pointwise

/-- The gradient of the products of queries and keys. -/
theorem ds_at (hq : Holds q Q) (hk : Holds k K) (hv : Holds v V) (hd : Holds d G) (h : Fin 8) (i j : Fin 8192) :
    ds (ex (score q k)) (dpr v d) (ix3 h i j) = ((Cert.Att.dS Q K V G h i j : ℝ) : EReal) := by
  obtain ⟨M, hM⟩ := ex_at hq hk h i
  pointwise [ds, over, col]
  rw [dl_at, sum_row _ h i M hM, hM, dpr_at hv hd, mask_at, ← EReal.coe_mul, ← EReal.coe_one, Cert.Att.div_of (mul_ne_zero (sum_ne h i M) (sum_ne h i M)), Cert.Att.div_of (sum_ne h i M),
    Cert.Att.sum_of _ (fun x => Cert.Att.dP V G h i x * (1 / (Cert.Att.L (Cert.Att.al i) (Cert.Att.S Q K h i) * Real.exp (-M) * (Cert.Att.L (Cert.Att.al i) (Cert.Att.S Q K h i) * Real.exp (-M)))) * (Cert.Att.E (Cert.Att.al i) (Cert.Att.S Q K h i) x * Real.exp (-M)))
      (fun x => by rw [hM, dpr_at hv hd, ← EReal.coe_mul, ← EReal.coe_mul]), ofBits_c1, ← EReal.coe_neg, ← EReal.coe_add, ← EReal.coe_mul]
  have key := Cert.Att.ds_row (Cert.Att.al i) (Cert.Att.S Q K h i) (Cert.Att.dP V G h i) Cert.Att.c1 (Real.exp (-M)) (Real.exp_pos _).ne' (Cert.Att.L_pos' Q K h i).ne' j
  unfold Cert.Att.dS Cert.Att.D Cert.Att.Pr
  rw [← key]
  unfold Scalar.select
  by_cases ha : Cert.Att.al i j <;> simp [ha]

/-- The head of a column. -/
def hd (x : Fin 1024) : Fin 8 := ⟨x.val / 128, by omega⟩
/-- The column within its head. -/
def cl (x : Fin 1024) : Fin 128 := ⟨x.val % 128, by omega⟩

/-- The first result. -/
theorem dq_at (hq : Holds q Q) (hk : Holds k K) (hv : Holds v V) (hd' : Holds d G) (i : Fin 8192) (x : Fin 1024) :
    dq (ds (ex (score q k)) (dpr v d)) k (ix2 i x) = ((Cert.Att.dQ Q K V G i (hd x) (cl x) : ℝ) : EReal) := by
  pointwise [dq]
  exact Cert.Att.sum_of _ (fun j => Cert.Att.dS Q K V G (hd x) i j * K j (hd x) (cl x)) fun j => by
    rw [EReal.coe_mul, ← ds_at hq hk hv hd', ← hk]; rfl

/-- The second result. -/
theorem dk_at (hq : Holds q Q) (hk : Holds k K) (hv : Holds v V) (hd' : Holds d G) (j : Fin 8192) (x : Fin 1024) :
    dk (ds (ex (score q k)) (dpr v d)) q (ix2 j x) = ((Cert.Att.dK Q K V G j (hd x) (cl x) : ℝ) : EReal) := by
  pointwise [dk]
  exact Cert.Att.sum_of _ (fun i => Cert.Att.dS Q K V G (hd x) i j * Q i (hd x) (cl x)) fun i => by
    rw [EReal.coe_mul, ← ds_at hq hk hv hd', ← hq]; rfl

/-- The third result. -/
theorem dv_at (hq : Holds q Q) (hk : Holds k K) (hd' : Holds d G) (j : Fin 8192) (x : Fin 1024) :
    dv (pr (ex (score q k))) d (ix2 j x) = ((Cert.Att.dV Q K G j (hd x) (cl x) : ℝ) : EReal) := by
  pointwise [dv, headsT]
  exact Cert.Att.sum_of _ (fun i => Cert.Att.Pr Q K (hd x) i j * G i (hd x) (cl x)) fun i => by
    rw [mul_comm (Cert.Att.Pr _ _ _ _ _), EReal.coe_mul, ← pr_at hq hk, ← hd']; rfl

end Cert.ReferenceIdeal.Hand

end
-- ==== Proof.V.HostVal.lean ====
module

public import proofs.«01_k».proof.Proof.V.HostDef
public import proofs.«01_k».proof.Proof.V.RefVal

/-!
The arrays the host prepares for the kernel, read at an index: over real arguments, the logarithms of the softmax's sums
and the sums of the output times its gradient.
-/

@[expose] public section

set_option maxRecDepth 16384

noncomputable section

namespace Cert.KernelIdeal.Pre

open Cert.KernelIdeal Cert.KernelIdeal.Gen
open Idealize.ShloMosaic Idealize.ShloMosaic.TcCoe Idealize.ShloMosaic.Tactic
open Cert.ReferenceIdeal.Hand (M3 A2 Holds)
open Cert.Att (T)

variable {q k v d : A2} {Q K V G : T}

/-- The two programs split an argument alike. -/
theorem heads_eq (x : A2) : heads (F := Ideal) x = Cert.ReferenceIdeal.Hand.heads x := rfl
/-- The two programs' scores are one array. -/
theorem score_eq (q k : A2) : score (F := Ideal) q k = Cert.ReferenceIdeal.Hand.score q k := rfl

/-- The greatest score of a query is a real number. -/
theorem mr_real (hq : Holds q Q) (hk : Holds k K) (h : Fin 8) (i : Fin 8192) : ∃ M : ℝ, mr (score (F := Ideal) q k) (ix2 h i) = (M : EReal) := by
  have ht : ∀ x, score (F := Ideal) q k x ≠ (⊤ : EReal) := by
    intro x
    idx_vars x
    rw [score_eq, Cert.ReferenceIdeal.Hand.score_at hq hk]
    split
    · exact EReal.coe_ne_top _
    · exact bot_ne_top
  have hb : score (F := Ideal) q k (ix3 h i i) ≠ (⊥ : EReal) := by
    rw [score_eq, Cert.ReferenceIdeal.Hand.score_at hq hk, if_pos (Cert.Att.al_self i)]
    exact EReal.coe_ne_bot _
  exact Cert.Att.reduce_real (score (F := Ideal) q k) (constant S_ .f32 0xFF800000#32) reducesTo_S8x8192x8192_S8x8192_d2 h_S_ Cert.ReferenceIdeal.Hand.ofBits_bot (ix2 h i) ht (ix3 h i i)
    (Cert.ReferenceIdeal.Hand.drop_at h i i) hb

/-- The exponentials and the greatest score. -/
theorem ex_at (hq : Holds q Q) (hk : Holds k K) (h : Fin 8) (i : Fin 8192) :
    ∃ M : ℝ, mr (score (F := Ideal) q k) (ix2 h i) = (M : EReal)
      ∧ ∀ j, ex (score (F := Ideal) q k) (ix3 h i j) = ((Cert.Att.E (Cert.Att.al i) (Cert.Att.S Q K h i) j * Real.exp (-M) : ℝ) : EReal) := by
  obtain ⟨M, hM⟩ := mr_real hq hk h i
  refine ⟨M, hM, fun j => ?_⟩
  pointwise [ex, over, mx]
  rw [hM, score_eq, Cert.ReferenceIdeal.Hand.score_at hq hk]
  exact Cert.Att.ex_row (Cert.Att.al i) (Cert.Att.S Q K h i) M j

/-- The sum of a row of exponentials. -/
theorem sum_row (e : M3) (h : Fin 8) (i : Fin 8192) (M : ℝ)
    (he : ∀ j, e (ix3 h i j) = ((Cert.Att.E (Cert.Att.al i) (Cert.Att.S Q K h i) j * Real.exp (-M) : ℝ) : EReal)) :
    sumK (F := Ideal) e (ix3 h i 0) = ((Cert.Att.L (Cert.Att.al i) (Cert.Att.S Q K h i) * Real.exp (-M) : ℝ) : EReal) := by
  pointwise [sumK]
  rw [Cert.Att.sum_of _ _ he, Cert.Att.sum_row]

/-- The probabilities. -/
theorem pr_at (hq : Holds q Q) (hk : Holds k K) (h : Fin 8) (i j : Fin 8192) :
    pr (ex (score (F := Ideal) q k)) (ix3 h i j) = ((Cert.Att.Pr Q K h i j : ℝ) : EReal) := by
  obtain ⟨M, _, hM⟩ := ex_at hq hk h i
  pointwise [pr, over]
  rw [sum_row _ h i M hM, hM, Cert.Att.div_of (Cert.ReferenceIdeal.Hand.sum_ne h i M), Cert.Att.quot_row]
  rfl

/-- The word of two. -/
theorem ofBits_two : Ideal.ofBits .f32 0x40000000#32 = ((2 : ℝ) : EReal) := by
  have h : Ideal.ofBits .f32 0x40000000#32 = ((8388608 * (2 ^ 22)⁻¹ : ℝ) : EReal) := by
    simp [Ideal.ofBits, Ideal.ieee]
  rw [h]; congr 1; norm_num

/-- A positive number's logarithm. -/
theorem log_of {r : ℝ} (h : 0 < r) : Ideal.log ((r : ℝ) : EReal) = ((Real.log r : ℝ) : EReal) := by
  rw [Ideal.log_coe, if_neg (not_le.2 h)]

/-- The logarithm at an index. -/
theorem lg_at (a b : FVec Ideal S8x8192x1 .f32) (h : Fin 8) (i : Fin 8192) :
    lg a b (ix2 h i) = Ideal.div (a (ix3 h i 0) + Ideal.log (b (ix3 h i 0))) (Ideal.log (Ideal.ofBits .f32 0x40000000#32)) := by
  pointwise [lg]

/-- The column at an index. -/
theorem mx_at (s : M3) (h : Fin 8) (i : Fin 8192) : mx (F := Ideal) s (ix3 h i 0) = mr s (ix2 h i) := by
  pointwise [mx]

/-- The binary logarithms of the softmax's sums. -/
theorem lse_at (hq : Holds q Q) (hk : Holds k K) (h : Fin 8) (i : Fin 8192) :
    lse (score (F := Ideal) q k) (ix2 h i) = ((Real.log (Cert.Att.L (Cert.Att.al i) (Cert.Att.S Q K h i)) / Real.log 2 : ℝ) : EReal) := by
  obtain ⟨M, hM, he⟩ := ex_at hq hk h i
  have hL := Cert.Att.L_pos' Q K h i
  show lg (mx (score (F := Ideal) q k)) (sumK (ex (score (F := Ideal) q k))) (ix2 h i) = _
  rw [lg_at, mx_at, sum_row _ h i M he, hM, ofBits_two, log_of (mul_pos hL (Real.exp_pos _)), log_of (by norm_num), ← EReal.coe_add,
    Cert.Att.div_of (Real.log_pos (by norm_num)).ne', Cert.Att.lse_row _ _ _ hL]

/-- The attention's output. -/
theorem outp_at (hq : Holds q Q) (hk : Holds k K) (hv : Holds v V) (h : Fin 8) (i : Fin 8192) (x : Fin 128) :
    outp (pr (ex (score (F := Ideal) q k))) v (ix3 i h x) = ((∑ j, V j h x * Cert.Att.Pr Q K h i j : ℝ) : EReal) := by
  pointwise [outp]
  exact Cert.Att.sum_of _ _ fun j => by rw [heads_eq, hv, pr_at hq hk, EReal.coe_mul]

/-- The sums of the output times its gradient. -/
theorem delta_at (hq : Holds q Q) (hk : Holds k K) (hv : Holds v V) (hd : Holds d G) (h : Fin 8) (i : Fin 8192) :
    delta (outp (pr (ex (score (F := Ideal) q k))) v) d (ix2 h i) = ((Cert.Att.D Q K V G h i : ℝ) : EReal) := by
  rw [← Cert.Att.delta_eq]
  pointwise [delta]
  exact Cert.Att.sum_of _ _ fun x => by rw [heads_eq, hd, outp_at hq hk hv, ← EReal.coe_mul]

/-- A row per head, at an index. -/
theorem eight_at (l : FVec Ideal S8x8192 .f32) (h r : Fin 8) (i : Fin 8192) : eight l (ix3 h r i) = l (ix2 h i) := by
  pointwise [eight]

end Cert.KernelIdeal.Pre

end
-- ==== Proof.V.TileVal.lean ====
module

public import proofs.«01_k».proof.Proof.KI.Dats
public import proofs.«01_k».proof.Proof.V.HostVal

/-!
The kernel's work on a tile, read at an index: over real inputs the products of a tile are the partial sums of the
attention's backward pass.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Att (T)

/-- Row `r` of tile `n`. -/
def row (n : ℕ) (r : Fin 512) : Fin 8192 := ⟨(512 * n + r.val) % 8192, Nat.mod_lt _ (by decide)⟩
/-- Column `d` of head `h` of a pair. -/
def cm (h : ℕ) (d : Fin 128) : Fin 256 := ⟨(128 * h + d.val) % 256, Nat.mod_lt _ (by decide)⟩

/-- The number of a row of a tile. -/
theorem row_val {n : ℕ} (hn : n < 16) (r : Fin 512) : (row n r).val = 512 * n + r.val := by unfold row; exact Nat.mod_eq_of_lt (by omega)

/-- A tile of rows at an index. -/
theorem sl_at {e : EltTy} (x : Vec Ideal S8192x256 e) (n h : ℕ) (r : Fin 512) (d : Fin 128) : sl x n (128 * h) (ix2 r d) = x (ix2 (row n r) (cm h d)) :=
  congrArg x (funext fun a => match a with | 0 => rfl | 1 => rfl)
/-- A head's columns at an index. -/
theorem co_at {e : EltTy} (x : Vec Ideal S512x256 e) (h : ℕ) (j : Fin 512) (d : Fin 128) : co x (128 * h) (ix2 j d) = x (ix2 j (cm h d)) :=
  congrArg x (funext fun a => match a with
    | 0 => Fin.ext (by show (0 + j.val) % 512 = j.val; omega)
    | 1 => rfl)
/-- A head's numbers at an index. -/
theorem ro_at (x : Vec Ideal S2x8x8192 .f32) (h : ℕ) (hh : h < 2) (n : ℕ) (r : Fin 512) : ro x h n (ix3 0 0 r) = x (ix3 ⟨h, hh⟩ 0 (row n r)) :=
  congrArg x (funext fun a => match a with
    | 0 => Fin.ext (by show (h + 0) % 2 = h; omega)
    | 1 => rfl
    | 2 => rfl)

/-- What a grid point of key tile `n` reads, for one head of its pair. -/
structure Rd (x : In Ideal) (n h : ℕ) (hh : h < 2) (hd : Fin 8) (Q K V G : T) : Prop where
  q : ∀ i d, x.q (ix2 i (cm h d)) = ((Q i hd d : ℝ) : EReal)
  k : ∀ j d, x.k (ix2 j (cm h d)) = ((K (row n j) hd d : ℝ) : EReal)
  v : ∀ j d, x.v (ix2 j (cm h d)) = ((V (row n j) hd d : ℝ) : EReal)
  d : ∀ i d, x.d (ix2 i (cm h d)) = ((G i hd d : ℝ) : EReal)
  l : ∀ i, x.l (ix3 ⟨h, hh⟩ 0 i) = ((Real.log (Cert.Att.L (Cert.Att.al i) (Cert.Att.S Q K hd i)) / Real.log 2 : ℝ) : EReal)
  dl : ∀ i, x.dl (ix3 ⟨h, hh⟩ 0 i) = ((Cert.Att.D Q K V G hd i : ℝ) : EReal)

/-- `a bᵀ` at an index. -/
theorem mmNT_at (a b : FVec Ideal S512x128 .bf16) (j r : Fin 512) : mmNT a b (ix2 j r) = ∑ d : Fin 128, a (ix2 j d) * b (ix2 r d) := by
  pointwise [mmNT]
/-- `a b` at an index. -/
theorem mmNN_at (a : FVec Ideal S512x512 .bf16) (b : FVec Ideal S512x128 .bf16) (j : Fin 512) (d : Fin 128) :
    mmNN a b (ix2 j d) = ∑ r : Fin 512, a (ix2 j r) * b (ix2 r d) := by
  pointwise [mmNN]
/-- `aᵀ b` at an index. -/
theorem mmTN_at (a : FVec Ideal S512x512 .bf16) (b : FVec Ideal S512x128 .bf16) (r : Fin 512) (d : Fin 128) :
    mmTN a b (ix2 r d) = ∑ j : Fin 512, a (ix2 j r) * b (ix2 j d) := by
  pointwise [mmTN]
/-- A row of numbers laid over the keys, at an index. -/
theorem rowB_at (l : Vec Ideal S1x1x512 .f32) (j r : Fin 512) : rowB l (ix2 j r) = l (ix3 0 0 r) := by
  pointwise [rowB]
/-- The scale in base two. -/
theorem sc2_at (x : FVec Ideal S512x512 .f32) (j r : Fin 512) : sc2 x (ix2 j r) = x (ix2 j r) * ((Cert.Att.c1 * (Real.log 2)⁻¹ : ℝ) : EReal) := by
  unfold sc2
  rw [IdealRules.named_const.ideal_named_scalar κ "scale_log2" _ _ rfl]
  rfl
/-- The scale. -/
theorem sc1_at (x : FVec Ideal S512x512 .f32) (j r : Fin 512) : sc1 x (ix2 j r) = x (ix2 j r) * ((Cert.Att.c1 : ℝ) : EReal) := by
  rw [← Cert.ReferenceIdeal.Hand.ofBits_c1]; rfl

variable {x : In Ideal} {n h : ℕ} {hh : h < 2} {hd : Fin 8} {Q K V G : T}

/-- The products of a key tile and a query tile. -/
theorem qk_at (R : Rd x n h hh hd Q K V G) (n' : ℕ) (j r : Fin 512) :
    mmNT (F := Ideal) (co x.k (128 * h)) (sl x.q n' (128 * h)) (ix2 j r) = ((∑ d, Q (row n' r) hd d * K (row n j) hd d : ℝ) : EReal) := by
  rw [mmNT_at]
  exact Cert.Att.sum_of _ _ fun d => by rw [co_at, sl_at, R.k, R.q, ← EReal.coe_mul, mul_comm]

/-- The products of a value tile and a tile of output gradients. -/
theorem vd_at (R : Rd x n h hh hd Q K V G) (n' : ℕ) (j r : Fin 512) :
    mmNT (F := Ideal) (co x.v (128 * h)) (sl x.d n' (128 * h)) (ix2 j r) = ((Cert.Att.dP V G hd (row n' r) (row n j) : ℝ) : EReal) := by
  rw [mmNT_at]
  exact Cert.Att.sum_of _ _ fun d => by rw [co_at, sl_at, R.v, R.d, ← EReal.coe_mul, mul_comm]

/-- A power of two at a key the query sees. -/
theorem pow_at (n' : ℕ) (j r : Fin 512) (ha : Cert.Att.al (row n' r) (row n j)) :
    Ideal.exp2 (((∑ d, Q (row n' r) hd d * K (row n j) hd d : ℝ) : EReal) * ((Cert.Att.c1 * (Real.log 2)⁻¹ : ℝ) : EReal)
      - ((Real.log (Cert.Att.L (Cert.Att.al (row n' r)) (Cert.Att.S Q K hd (row n' r))) / Real.log 2 : ℝ) : EReal)) = ((Cert.Att.Pr Q K hd (row n' r) (row n j) : ℝ) : EReal) := by
  rw [← EReal.coe_mul, ← EReal.coe_sub, Ideal.exp2_coe]
  exact congrArg _ (Cert.Att.exp2_row _ _ (Cert.Att.L_pos' Q K hd _) _ ha _ _ rfl)

/-- The probabilities of a later tile. -/
theorem prob_at (R : Rd x n h hh hd Q K V G) (n' : ℕ) (hn : n < n') (hn' : n' < 16) (j r : Fin 512) :
    prob x n' h (ix2 j r) = ((Cert.Att.Pr Q K hd (row n' r) (row n j) : ℝ) : EReal) := by
  show Ideal.exp2 (sc2 (F := Ideal) (mmNT (co x.k (128 * h)) (sl x.q n' (128 * h))) (ix2 j r) - rowB (F := Ideal) (ro x.l h n') (ix2 j r)) = _
  rw [sc2_at, qk_at R, rowB_at, ro_at _ _ hh, R.l]
  refine pow_at n' j r ?_
  unfold Cert.Att.al
  rw [row_val hn', row_val (by omega)]
  omega

/-- The block of a position within a tile, as the kernel computes it. -/
theorem block_at : ∀ a : Fin 512, Scalar.select
          (IntOp.andi
            (IntOp.cmpi CmpIPredicate.ne
              (IntOp.subi (BitVec.setWidth 32 (IntOp.cmpi CmpIPredicate.sgt (BitVec.ofNat 32 a.val) 0#32))
                (BitVec.setWidth 32 (IntOp.cmpi CmpIPredicate.slt (BitVec.ofNat 32 a.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 a.val) 64#32) 0#32))
          (IntOp.subi (IntOp.divsi ArithUnit.vector (BitVec.ofNat 32 a.val) 64#32) 1#32)
          (IntOp.divsi ArithUnit.vector (BitVec.ofNat 32 a.val) 64#32) = BitVec.ofNat 32 (a.val / 64) := by
  decide +kernel

/-- Two blocks compared. -/
theorem block_le : ∀ a b : Fin 8, IntOp.cmpi CmpIPredicate.sle (BitVec.ofNat 32 a.val) (BitVec.ofNat 32 b.val) = if a.val ≤ b.val then 1#1 else 0#1 := by
  decide +kernel

/-- The mask of the diagonal tile. -/
theorem bias_at (j r : Fin 512) : biasV (F := Ideal) (ix2 j r) = if j.val / 64 ≤ r.val / 64 then (0 : EReal) else ⊥ := by
  have hj := j.isLt
  have hr := r.isLt
  pointwise [biasV, k0_pay128, k0_pay2, k0_pay3, k0_pay4]
  rw [block_at j, block_at r, block_le ⟨j.val / 64, by omega⟩ ⟨r.val / 64, by omega⟩, Cert.ReferenceIdeal.Hand.ofBits_bot]
  unfold Scalar.select
  by_cases hc : j.val / 64 ≤ r.val / 64
  · rw [if_pos hc, if_pos hc]; rfl
  · rw [if_neg hc, if_neg hc]; rfl

/-- The probabilities of the diagonal tile. -/
theorem probD_at (R : Rd x n h hh hd Q K V G) (hn : n < 16) (j r : Fin 512) :
    probD biasV x n h (ix2 j r) = ((Cert.Att.Pr Q K hd (row n r) (row n j) : ℝ) : EReal) := by
  show Ideal.exp2 (sc2 (F := Ideal) (mmNT (co x.k (128 * h)) (sl x.q n (128 * h))) (ix2 j r) + biasV (F := Ideal) (ix2 j r) - rowB (F := Ideal) (ro x.l h n) (ix2 j r)) = _
  rw [sc2_at, qk_at R, rowB_at, ro_at _ _ hh, R.l, bias_at]
  have hj := j.isLt
  have hr := r.isLt
  have ha : Cert.Att.al (row n r) (row n j) ↔ j.val / 64 ≤ r.val / 64 := by
    unfold Cert.Att.al
    rw [row_val hn, row_val hn]
    omega
  by_cases hc : j.val / 64 ≤ r.val / 64
  · rw [if_pos hc, add_zero]
    exact pow_at n j r (ha.2 hc)
  · rw [if_neg hc, EReal.add_bot, EReal.bot_sub, Ideal.exp2_bot]
    unfold Cert.Att.Pr
    rw [Cert.Att.P_hidden _ _ _ fun hx => hc (ha.1 hx), EReal.coe_zero]

/-- The gradient of the products. -/
theorem dsc_at (R : Rd x n h hh hd Q K V G) (n' : ℕ) (p : FVec Ideal S512x512 .f32) (hp : ∀ j r, p (ix2 j r) = ((Cert.Att.Pr Q K hd (row n' r) (row n j) : ℝ) : EReal))
    (j r : Fin 512) : dsc x n' h p (ix2 j r) = ((Cert.Att.dS Q K V G hd (row n' r) (row n j) : ℝ) : EReal) := by
  show sc1 (mulf p (subf (mmNT (co x.v (128 * h)) (sl x.d n' (128 * h))) (rowB (ro x.dl h n')))) (ix2 j r) = _
  rw [sc1_at]
  show (p (ix2 j r) : EReal) * (mmNT (F := Ideal) (co x.v (128 * h)) (sl x.d n' (128 * h)) (ix2 j r) - rowB (F := Ideal) (ro x.dl h n') (ix2 j r)) * _ = _
  rw [hp, vd_at R, rowB_at, ro_at _ _ hh, R.dl, ← EReal.coe_sub, ← EReal.coe_mul, ← EReal.coe_mul]
  rfl

/-- A tile's part of the value gradient. -/
theorem pv_at (R : Rd x n h hh hd Q K V G) (n' : ℕ) (p : FVec Ideal S512x512 .f32) (hp : ∀ j r, p (ix2 j r) = ((Cert.Att.Pr Q K hd (row n' r) (row n j) : ℝ) : EReal))
    (j : Fin 512) (d : Fin 128) : mmNN (tr p) (sl x.d n' (128 * h)) (ix2 j d) = ((∑ r, Cert.Att.Pr Q K hd (row n' r) (row n j) * G (row n' r) hd d : ℝ) : EReal) := by
  rw [mmNN_at]
  exact Cert.Att.sum_of _ _ fun r => by rw [sl_at, R.d, EReal.coe_mul, ← hp]; rfl

/-- A tile's part of the key gradient. -/
theorem pk_at (R : Rd x n h hh hd Q K V G) (n' : ℕ) (p : FVec Ideal S512x512 .f32) (hp : ∀ j r, p (ix2 j r) = ((Cert.Att.Pr Q K hd (row n' r) (row n j) : ℝ) : EReal))
    (j : Fin 512) (d : Fin 128) : mmNN (dsc x n' h p) (sl x.q n' (128 * h)) (ix2 j d) = ((∑ r, Cert.Att.dS Q K V G hd (row n' r) (row n j) * Q (row n' r) hd d : ℝ) : EReal) := by
  rw [mmNN_at]
  exact Cert.Att.sum_of _ _ fun r => by rw [sl_at, R.q, EReal.coe_mul, dsc_at R n' p hp]

/-- A tile's part of the query gradient. -/
theorem pq_at (R : Rd x n h hh hd Q K V G) (n' : ℕ) (p : FVec Ideal S512x512 .f32) (hp : ∀ j r, p (ix2 j r) = ((Cert.Att.Pr Q K hd (row n' r) (row n j) : ℝ) : EReal))
    (r : Fin 512) (d : Fin 128) : mmTN (dsc x n' h p) (co x.k (128 * h)) (ix2 r d) = ((∑ j, Cert.Att.dS Q K V G hd (row n' r) (row n j) * K (row n j) hd d : ℝ) : EReal) := by
  rw [mmTN_at]
  exact Cert.Att.sum_of _ _ fun j => by rw [co_at, R.k, EReal.coe_mul, dsc_at R n' p hp]

end Cert.KernelIdeal.Hand

end
-- ==== Proof.V.Fold.lean ====
module

public import proofs.«01_k».proof.Proof.V.TileVal

/-!
A grid point's work folded over its query tiles: what the point leaves in the three gradients, over real inputs.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Att (T)

/-! ## One tile's update, at one head's columns -/

section Update
variable {F : FTy → Type} [FloatOps F] [Named F] (b : FVec F S512x512 .f32) (x : In F) (n h : ℕ) (s : St F)

/-- A replaced tile of rows is what was put there. -/
theorem sl_upd_same (x : Vec F S8192x256 .f32) (n c : ℕ) (w : Vec F S512x128 .f32) (hn : n < 16) (hc : c ≤ 128) : sl (upd x n c w) n c = w := by
  unfold sl upd
  rw [cut_eq_window posA _ ![512 * n, c] S512x128.size (inbA hn hc)]
  exact VecWindow.window_put_same _ _ _ _ _

/-- A later tile adds its part to the value gradient. -/
theorem tile_dv (hh : h < 2) : co (tile x n s).dv (128 * h) = addf (co s.dv (128 * h)) (mmNN (tr (prob x n h)) (sl x.d n (128 * h))) := by
  obtain rfl | rfl : h = 0 ∨ h = 1 := by omega
  · simp only [tile, step, Nat.mul_zero, Nat.mul_one, co_updc_10, co_updc_00]
  · simp only [tile, step, Nat.mul_zero, Nat.mul_one, co_updc_01, co_updc_11]
/-- A later tile adds its part to the key gradient. -/
theorem tile_dk (hh : h < 2) : co (tile x n s).dk (128 * h) = addf (co s.dk (128 * h)) (mmNN (dsc x n h (prob x n h)) (sl x.q n (128 * h))) := by
  obtain rfl | rfl : h = 0 ∨ h = 1 := by omega
  · simp only [tile, step, Nat.mul_zero, Nat.mul_one, co_updc_10, co_updc_00]
  · simp only [tile, step, Nat.mul_zero, Nat.mul_one, co_updc_01, co_updc_11]
/-- A later tile adds its part to its own rows of the query gradient. -/
theorem tile_dq (hh : h < 2) (hn : n < 16) : sl (tile x n s).dq n (128 * h) = addf (sl s.dq n (128 * h)) (mmTN (dsc x n h (prob x n h)) (co x.k (128 * h))) := by
  obtain rfl | rfl : h = 0 ∨ h = 1 := by omega
  · simp only [tile, step, Nat.mul_zero, Nat.mul_one, sl_upd_10 _ n n _ hn, sl_upd_same _ n 0 _ hn (by decide)]
  · simp only [tile, step, Nat.mul_zero, Nat.mul_one, sl_upd_01 _ n n _ hn, sl_upd_same _ n 128 _ hn (by decide)]
/-- A later tile leaves other rows of the query gradient. -/
theorem tile_dq_ne (n' : ℕ) (hne : n ≠ n') (hh : h < 2) (hn : n' < 16) : sl (tile x n s).dq n' (128 * h) = sl s.dq n' (128 * h) := by
  simp only [tile, step]
  rw [sl_upd_ne _ n _ n' _ _ hne hn (by omega), sl_upd_ne _ n _ n' _ _ hne hn (by omega)]
/-- The diagonal tile starts the value gradient. -/
theorem tileD_dv (hh : h < 2) : co (tileD b x n s).dv (128 * h) = mmNN (tr (probD b x n h)) (sl x.d n (128 * h)) := by
  obtain rfl | rfl : h = 0 ∨ h = 1 := by omega
  · simp only [tileD, stepD, Nat.mul_zero, Nat.mul_one, co_updc_10, co_updc_00]
  · simp only [tileD, stepD, Nat.mul_zero, Nat.mul_one, co_updc_11]
/-- The diagonal tile starts the key gradient. -/
theorem tileD_dk (hh : h < 2) : co (tileD b x n s).dk (128 * h) = mmNN (dsc x n h (probD b x n h)) (sl x.q n (128 * h)) := by
  obtain rfl | rfl : h = 0 ∨ h = 1 := by omega
  · simp only [tileD, stepD, Nat.mul_zero, Nat.mul_one, co_updc_10, co_updc_00]
  · simp only [tileD, stepD, Nat.mul_zero, Nat.mul_one, co_updc_11]
/-- The diagonal tile adds its part to its own rows of the query gradient. -/
theorem tileD_dq (hh : h < 2) (hn : n < 16) : sl (tileD b x n s).dq n (128 * h) = addf (sl s.dq n (128 * h)) (mmTN (dsc x n h (probD b x n h)) (co x.k (128 * h))) := by
  obtain rfl | rfl : h = 0 ∨ h = 1 := by omega
  · simp only [tileD, stepD, Nat.mul_zero, Nat.mul_one, sl_upd_10 _ n n _ hn, sl_upd_same _ n 0 _ hn (by decide)]
  · simp only [tileD, stepD, Nat.mul_zero, Nat.mul_one, sl_upd_01 _ n n _ hn, sl_upd_same _ n 128 _ hn (by decide)]
/-- The diagonal tile leaves other rows of the query gradient. -/
theorem tileD_dq_ne (n' : ℕ) (hne : n ≠ n') (hh : h < 2) (hn : n' < 16) : sl (tileD b x n s).dq n' (128 * h) = sl s.dq n' (128 * h) := by
  simp only [tileD, stepD]
  rw [sl_upd_ne _ n _ n' _ _ hne hn (by omega), sl_upd_ne _ n _ n' _ _ hne hn (by omega)]

end Update

/-! ## The sums -/

/-- A sum over all positions, tile by tile. -/
theorem sum_rows (g : Fin 8192 → ℝ) : ∑ i, g i = ∑ t ∈ Finset.range 16, ∑ r : Fin 512, g (row t r) := by
  rw [Finset.sum_range, ← Fintype.sum_prod_type (f := fun p : Fin 16 × Fin 512 => g (row p.1.val p.2))]
  refine ((finProdFinEquiv (m := 16) (n := 512)).sum_comp g).symm.trans (Finset.sum_congr rfl fun p _ => congrArg g (Fin.ext ?_))
  rw [row_val p.1.isLt]
  show p.2.val + 512 * p.1.val = _
  omega

/-- Where the tiles before tile `n` give nothing, the tiles from `n` on give the whole sum. -/
theorem sum_from (g : Fin 8192 → ℝ) (n : ℕ) (hn : n < 16) (h0 : ∀ t r, t < n → g (row t r) = 0) :
    (∑ t ∈ Finset.range (16 - n), ∑ r : Fin 512, g (row (n + t) r)) = ∑ i, g i := by
  rw [sum_rows, show 16 = n + (16 - n) by omega, Finset.sum_range_add, Nat.add_sub_cancel_left]
  rw [Finset.sum_eq_zero (s := Finset.range n) fun t ht => Finset.sum_eq_zero fun r _ => h0 t r (Finset.mem_range.1 ht), zero_add]

/-- A query of an earlier tile does not see a key of a later one. -/
theorem hidden {t n : ℕ} (h : t < n) (hn : n < 16) (r j : Fin 512) : ¬ Cert.Att.al (row t r) (row n j) := by
  unfold Cert.Att.al
  rw [row_val (show t < 16 by omega), row_val hn]
  omega

variable {x : In Ideal} {n h : ℕ} {hh : h < 2} {hd : Fin 8} {Q K V G : T}

/-- The later tiles' part of the value gradient. -/
theorem later_dv (R : Rd x n h hh hd Q K V G) (s : St Ideal) (j : Fin 512) (d : Fin 128) (a : ℝ) (ha : co s.dv (128 * h) (ix2 j d) = ((a : ℝ) : EReal)) (k : ℕ) (hk : n + k < 16) :
    co (later x n s k).dv (128 * h) (ix2 j d)
      = ((a + ∑ t ∈ Finset.range k, ∑ r, Cert.Att.Pr Q K hd (row (n + 1 + t) r) (row n j) * G (row (n + 1 + t) r) hd d : ℝ) : EReal) := by
  induction k with
  | zero => rw [Finset.sum_range_zero, add_zero]; exact ha
  | succ k ih =>
    rw [later_succ, tile_dv _ _ _ _ hh]
    show co (later x n s k).dv (128 * h) (ix2 j d) + mmNN (F := Ideal) (tr (prob x (n + 1 + k) h)) (sl x.d (n + 1 + k) (128 * h)) (ix2 j d) = (_ : EReal)
    rw [ih (by omega), pv_at R (n + 1 + k) _ (prob_at R _ (by omega) (by omega)), ← EReal.coe_add, Finset.sum_range_succ, add_assoc]

/-- The later tiles' part of the key gradient. -/
theorem later_dk (R : Rd x n h hh hd Q K V G) (s : St Ideal) (j : Fin 512) (d : Fin 128) (a : ℝ) (ha : co s.dk (128 * h) (ix2 j d) = ((a : ℝ) : EReal)) (k : ℕ) (hk : n + k < 16) :
    co (later x n s k).dk (128 * h) (ix2 j d)
      = ((a + ∑ t ∈ Finset.range k, ∑ r, Cert.Att.dS Q K V G hd (row (n + 1 + t) r) (row n j) * Q (row (n + 1 + t) r) hd d : ℝ) : EReal) := by
  induction k with
  | zero => rw [Finset.sum_range_zero, add_zero]; exact ha
  | succ k ih =>
    rw [later_succ, tile_dk _ _ _ _ hh]
    show co (later x n s k).dk (128 * h) (ix2 j d) + mmNN (F := Ideal) (dsc x (n + 1 + k) h (prob x (n + 1 + k) h)) (sl x.q (n + 1 + k) (128 * h)) (ix2 j d) = (_ : EReal)
    rw [ih (by omega), pk_at R (n + 1 + k) _ (prob_at R _ (by omega) (by omega)), ← EReal.coe_add, Finset.sum_range_succ, add_assoc]

/-- The later tiles leave the query gradient's rows up to the diagonal tile, and those not reached yet. -/
theorem later_dq_ne (x : In Ideal) (n : ℕ) {h : ℕ} (hh : h < 2) (s : St Ideal) (n' : ℕ) (hn' : n' < 16) (k : ℕ) (hk : n' ≤ n ∨ n + k < n') :
    sl (later x n s k).dq n' (128 * h) = sl s.dq n' (128 * h) := by
  induction k with
  | zero => rfl
  | succ k ih => rw [later_succ, tile_dq_ne _ _ _ _ n' (by omega) hh hn', ih (by omega)]

/-- The later tiles add to the query gradient's rows they reach. -/
theorem later_dq (R : Rd x n h hh hd Q K V G) (s : St Ideal) (n' : ℕ) (hn' : n' < 16) (r : Fin 512) (d : Fin 128) (k : ℕ) (h1 : n < n') (h2 : n' ≤ n + k) :
    sl (later x n s k).dq n' (128 * h) (ix2 r d)
      = (sl s.dq n' (128 * h) (ix2 r d) + ((∑ j, Cert.Att.dS Q K V G hd (row n' r) (row n j) * K (row n j) hd d : ℝ) : EReal) : EReal) := by
  induction k with
  | zero => omega
  | succ k ih =>
    by_cases he : n' = n + 1 + k
    · subst he
      rw [later_succ, tile_dq _ _ _ _ hh hn']
      show sl (later x n s k).dq (n + 1 + k) (128 * h) (ix2 r d) + mmTN (F := Ideal) (dsc x (n + 1 + k) h (prob x (n + 1 + k) h)) (co x.k (128 * h)) (ix2 r d) = (_ : EReal)
      rw [later_dq_ne x n hh s (n + 1 + k) hn' k (by omega), pq_at R (n + 1 + k) _ (prob_at R _ (by omega) (by omega))]
    · rw [later_succ, tile_dq_ne _ _ _ _ n' (by omega) hh hn', ih (by omega)]

/-! ## A grid point -/

/-- What a grid point leaves in the value gradient. -/
theorem finD_dv (R : Rd x n h hh hd Q K V G) (hn : n < 16) (s : FVec Ideal S8192x256 .f32) (j : Fin 512) (d : Fin 128) :
    co (finD x n s).dv (128 * h) (ix2 j d) = ((Cert.Att.dV Q K G (row n j) hd d : ℝ) : EReal) := by
  unfold finD fin
  rw [later_dv R _ j d (∑ r, Cert.Att.Pr Q K hd (row n r) (row n j) * G (row n r) hd d)
    ((congrFun (tileD_dv _ _ _ _ _ hh) _).trans (pv_at R n _ (probD_at R hn) j d)) (15 - n) (by omega)]
  unfold Cert.Att.dV
  rw [← sum_from (fun i => Cert.Att.Pr Q K hd i (row n j) * G i hd d) n hn fun t r ht => by
    show Cert.Att.Pr Q K hd (row t r) (row n j) * _ = 0
    unfold Cert.Att.Pr
    rw [Cert.Att.P_hidden _ _ _ (hidden ht hn r j), zero_mul]]
  rw [show 16 - n = (15 - n) + 1 by omega, Finset.sum_range_succ', Nat.add_zero, add_comm]
  simp only [show ∀ t, n + 1 + t = n + (t + 1) from fun t => by omega, Nat.add_zero]

/-- What a grid point leaves in the key gradient. -/
theorem finD_dk (R : Rd x n h hh hd Q K V G) (hn : n < 16) (s : FVec Ideal S8192x256 .f32) (j : Fin 512) (d : Fin 128) :
    co (finD x n s).dk (128 * h) (ix2 j d) = ((Cert.Att.dK Q K V G (row n j) hd d : ℝ) : EReal) := by
  unfold finD fin
  rw [later_dk R _ j d (∑ r, Cert.Att.dS Q K V G hd (row n r) (row n j) * Q (row n r) hd d)
    ((congrFun (tileD_dk _ _ _ _ _ hh) _).trans (pk_at R n _ (probD_at R hn) j d)) (15 - n) (by omega)]
  unfold Cert.Att.dK
  rw [← sum_from (fun i => Cert.Att.dS Q K V G hd i (row n j) * Q i hd d) n hn fun t r ht => by
    show Cert.Att.dS Q K V G hd (row t r) (row n j) * _ = 0
    rw [Cert.Att.dS_hidden _ _ _ _ _ _ _ (hidden ht hn r j), zero_mul]]
  rw [show 16 - n = (15 - n) + 1 by omega, Finset.sum_range_succ', Nat.add_zero, add_comm]
  simp only [show ∀ t, n + 1 + t = n + (t + 1) from fun t => by omega, Nat.add_zero]

/-- What a grid point adds to the query gradient. -/
theorem finD_dq (R : Rd x n h hh hd Q K V G) (hn : n < 16) (s : FVec Ideal S8192x256 .f32) (n' : ℕ) (hn' : n' < 16) (r : Fin 512) (d : Fin 128) :
    sl (finD x n s).dq n' (128 * h) (ix2 r d)
      = (sl (F := Ideal) (e := .f32) s n' (128 * h) (ix2 r d) + ((∑ j, Cert.Att.dS Q K V G hd (row n' r) (row n j) * K (row n j) hd d : ℝ) : EReal) : EReal) := by
  unfold finD fin
  rcases lt_trichotomy n' n with hc | hc | hc
  · rw [later_dq_ne x n hh _ n' hn' _ (by omega), tileD_dq_ne _ _ _ _ _ n' (by omega) hh hn',
      Finset.sum_eq_zero fun j _ => by rw [Cert.Att.dS_hidden _ _ _ _ _ _ _ (hidden hc hn r j), zero_mul], EReal.coe_zero, add_zero]
  · subst hc
    rw [later_dq_ne x n' hh _ n' hn' _ (by omega), tileD_dq _ _ _ _ _ hh hn']
    show (sl (F := Ideal) (e := .f32) s n' (128 * h) (ix2 r d) : EReal) + mmTN (F := Ideal) (dsc x n' h (probD biasV x n' h)) (co x.k (128 * h)) (ix2 r d) = (_ : EReal)
    rw [pq_at R n' _ (probD_at R hn)]
  · rw [later_dq R _ n' hn' r d _ hc (by omega), tileD_dq_ne _ _ _ _ _ n' (by omega) hh hn']

end Cert.KernelIdeal.Hand

end
-- ==== Proof.V.Blocks.lean ====
module

public import proofs.«01_k».proof.Proof.V.Fold
public import Idealize.ShloMosaic.Lib.Pipeline.ValueKit

/-!
What the kernel reads at a grid point, as parts of the device's arguments: point `t` is for head pair `t / 16` and key
tile `t % 16`.
-/

@[expose] public section

set_option maxRecDepth 16384

noncomputable section

namespace Cert.KernelIdeal.Hand

open Cert.KernelIdeal Cert.KernelIdeal.Gen Cert.KernelIdeal.Pre
open Idealize.ShloMosaic Idealize.ShloMosaic.TcCoe Idealize.ShloMosaic.Tactic
open Cert.Att (T)
open Cert.ReferenceIdeal.Hand (Holds)

variable (m : (ℓ : Loc nD τ sig) → Buf (Elt Ideal) ℓ) (c : Dev nD)

/-- The point's number is below sixty-four. -/
theorem lt64 (t : Fin cfg0.N) : t.val < 64 := lt_of_lt_of_eq t.isLt N_0

/-- The query window's block. -/
theorem at0 : ∀ t : Fin cfg0.N, win0_0.index t = ![0, t.val / 16] := by decide +kernel
/-- The key window's block. -/
theorem at1 : ∀ t : Fin cfg0.N, win0_1.index t = ![t.val % 16, t.val / 16] := by decide +kernel
/-- The value window's block. -/
theorem at2 : ∀ t : Fin cfg0.N, win0_2.index t = ![t.val % 16, t.val / 16] := by decide +kernel
/-- The output gradient window's block. -/
theorem at3 : ∀ t : Fin cfg0.N, win0_3.index t = ![0, t.val / 16] := by decide +kernel
/-- The block of the logarithms' window. -/
theorem at4 : ∀ t : Fin cfg0.N, win0_4.index t = ![t.val / 16, 0, 0] := by decide +kernel
/-- The block of the window of the rows' sums. -/
theorem at5 : ∀ t : Fin cfg0.N, win0_5.index t = ![t.val / 16, 0, 0] := by decide +kernel
/-- The query gradient window's block. -/
theorem at6 : ∀ t : Fin cfg0.N, win0_6.index t = ![0, t.val / 16] := by decide +kernel
/-- The key gradient window's block. -/
theorem at7 : ∀ t : Fin cfg0.N, win0_7.index t = ![t.val % 16, t.val / 16] := by decide +kernel
/-- The value gradient window's block. -/
theorem at8 : ∀ t : Fin cfg0.N, win0_8.index t = ![t.val % 16, t.val / 16] := by decide +kernel

/-- A column of a pair's block, in the array. -/
def wide (t : Fin cfg0.N) (x : Fin 256) : Fin 1024 := ⟨256 * (t.val / 16) + x.val, by have := lt64 t; omega⟩
/-- A head of a pair. -/
def head (t : Fin cfg0.N) (h : Fin 2) : Fin 8 := ⟨2 * (t.val / 16) + h.val, by have := lt64 t; omega⟩
/-- A row of a tile's block, in the array. -/
def deep (t : Fin cfg0.N) (j : Fin 512) : Fin 8192 := row (t.val % 16) j

/-- The query block at an index. -/
theorem q_at (t : Fin cfg0.N) (i : Fin 8192) (x : Fin 256) : (inAt m c t).q (ix2 i x) = aQ m c (ix2 i (wide t x)) := by
  show iblk m c 0 t (ix2 i x) = _
  refine Eq.trans ?_ (congrFun (V_main_arg0 m c) _)
  unfold wide
  blk_ext [iblk, at0 t]
/-- The key block at an index. -/
theorem k_at (t : Fin cfg0.N) (j : Fin 512) (x : Fin 256) : (inAt m c t).k (ix2 j x) = aK m c (ix2 (deep t j) (wide t x)) := by
  show iblk m c 1 t (ix2 j x) = _
  refine Eq.trans ?_ (congrFun (V_main_arg1 m c) _)
  unfold wide deep row
  blk_ext [iblk, at1 t]
/-- The value block at an index. -/
theorem v_at (t : Fin cfg0.N) (j : Fin 512) (x : Fin 256) : (inAt m c t).v (ix2 j x) = aV m c (ix2 (deep t j) (wide t x)) := by
  show iblk m c 2 t (ix2 j x) = _
  refine Eq.trans ?_ (congrFun (V_main_arg2 m c) _)
  unfold wide deep row
  blk_ext [iblk, at2 t]
/-- The output gradient's block at an index. -/
theorem d_at (t : Fin cfg0.N) (i : Fin 8192) (x : Fin 256) : (inAt m c t).d (ix2 i x) = aD m c (ix2 i (wide t x)) := by
  show iblk m c 3 t (ix2 i x) = _
  refine Eq.trans ?_ (congrFun (V_main_arg3 m c) _)
  unfold wide
  blk_ext [iblk, at3 t]
/-- The logarithms' block at an index. -/
theorem l_at (t : Fin cfg0.N) (h : Fin 2) (i : Fin 8192) :
    (inAt m c t).l (ix3 h 0 i) = (V m c main_v42 : FVec Ideal S8x8x8192 .f32) (ix3 (head t h) 0 i) := by
  show iblk m c 4 t (ix3 h 0 i) = _
  unfold head
  blk_ext [iblk, at4 t]
/-- The block of the rows' sums at an index. -/
theorem dl_at (t : Fin cfg0.N) (h : Fin 2) (i : Fin 8192) :
    (inAt m c t).dl (ix3 h 0 i) = (V m c main_v44 : FVec Ideal S8x8x8192 .f32) (ix3 (head t h) 0 i) := by
  show iblk m c 5 t (ix3 h 0 i) = _
  unfold head
  blk_ext [iblk, at5 t]

variable {m c} {Q K V G : T}

/-- An argument at a head's column. -/
theorem holds_at {x : FVec Ideal S8192x1024 .bf16} {X : T} (hx : Holds x X) (t : Fin cfg0.N) (h : Fin 2) (i : Fin 8192) (d : Fin 128) :
    x (ix2 i (wide t (cm h.val d))) = ((X i (head t h) d : ℝ) : EReal) := by
  rw [← hx, Cert.ReferenceIdeal.Hand.heads_at]
  refine congrArg x (congrArg (ix2 i) (Fin.ext ?_))
  show 256 * (t.val / 16) + (128 * h.val + d.val) % 256 = (2 * (t.val / 16) + h.val) * 128 + d.val
  omega

/-- What a grid point reads, over real arguments. -/
theorem rd_at (hq : Holds (aQ m c) Q) (hk : Holds (aK m c) K) (hv : Holds (aV m c) V) (hd : Holds (aD m c) G) (t : Fin cfg0.N) (h : Fin 2) :
    Rd (inAt m c t) (t.val % 16) h.val h.isLt (head t h) Q K V G where
  q i d := (q_at m c t i _).trans (holds_at hq t h i d)
  k j d := (k_at m c t j _).trans (holds_at hk t h _ d)
  v j d := (v_at m c t j _).trans (holds_at hv t h _ d)
  d i d := (d_at m c t i _).trans (holds_at hd t h i d)
  l i := (l_at m c t h i).trans (by rw [V_lse, eight_at, lse_at hq hk])
  dl i := (dl_at m c t h i).trans (by rw [V_delta, eight_at, delta_at hq hk hv hd])

end Cert.KernelIdeal.Hand

end
-- ==== Proof.V.Final.lean ====
module

public import proofs.«01_k».proof.Proof.V.Blocks
public import proofs.«01_k».proof.Proof.KI.Run

/-!
What a run leaves in the three result arrays: the reference's three results, over real arguments.
-/

@[expose] public section

set_option maxRecDepth 16384

noncomputable section

namespace Cert.KernelIdeal.Hand

open Cert.KernelIdeal Cert.KernelIdeal.Gen Cert.KernelIdeal.Pre
open Idealize.ShloMosaic Idealize.ShloMosaic.TcCoe Idealize.ShloMosaic.Tactic Idealize.SL.Sem
open Cert.Att (T)
open Cert.ReferenceIdeal.Hand (Holds)

variable (m : (ℓ : Loc nD τ sig) → Buf (Elt Ideal) ℓ) (ρ : Dev nD → PrngReg) (c : Dev nD)

/-- The cleared query gradient. -/
theorem zeroV_at (i : Fin 8192) (x : Fin 256) : (zeroV (F := Ideal) (ix2 i x) : EReal) = ((0 : ℝ) : EReal) := by
  show Ideal.ofBits .f32 0x00000000#32 = _
  simp [Ideal.ofBits, Ideal.ieee]

/-- Head pair `b`'s point at key tile `n`. -/
def pt (b : Fin 4) (n : ℕ) (hn : n < 16) : Fin cfg0.N := ⟨16 * b.val + n, lt_of_lt_of_eq (by omega) N_0.symm⟩

variable {m c} {Q K V G : T}

/-- What a grid point reads, at a key tile of a head pair. -/
theorem rd_pt (hq : Holds (aQ m c) Q) (hk : Holds (aK m c) K) (hv : Holds (aV m c) V) (hd : Holds (aD m c) G) (b : Fin 4) (n : ℕ) (hn : n < 16) (h : Fin 2) :
    Rd (inN m c (16 * b.val + n)) n h.val h.isLt ⟨2 * b.val + h.val, by omega⟩ Q K V G := by
  have hR := rd_at hq hk hv hd (pt b n hn) h
  rw [← inN_val] at hR
  have e1 : (pt b n hn).val % 16 = n := by show (16 * b.val + n) % 16 = n; omega
  have e2 : head (pt b n hn) h = ⟨2 * b.val + h.val, by omega⟩ := Fin.ext (by show 2 * ((16 * b.val + n) / 16) + h.val = 2 * b.val + h.val; omega)
  rw [e1, e2] at hR
  exact hR

/-- The query gradient after the key tiles up to `n`. -/
theorem dqS_at (hq : Holds (aQ m c) Q) (hk : Holds (aK m c) K) (hv : Holds (aV m c) V) (hd : Holds (aD m c) G) (b : Fin 4) (n : ℕ) (hn : n < 16) (h : Fin 2)
    (n' : ℕ) (hn' : n' < 16) (r : Fin 512) (d : Fin 128) :
    dqS m c (16 * b.val + n) (ix2 (row n' r) (cm h.val d))
      = ((∑ s ∈ Finset.range (n + 1), ∑ j, Cert.Att.dS Q K V G ⟨2 * b.val + h.val, by omega⟩ (row n' r) (row s j) * K (row s j) ⟨2 * b.val + h.val, by omega⟩ d : ℝ) : EReal) := by
  have key : ∀ (s : FVec Ideal S8192x256 .f32) (a : ℝ), dqIn m c (16 * b.val + n) = s → (s (ix2 (row n' r) (cm h.val d)) : EReal) = (a : EReal) →
      (dqS m c (16 * b.val + n) (ix2 (row n' r) (cm h.val d)) : EReal)
        = ((a + ∑ j, Cert.Att.dS Q K V G ⟨2 * b.val + h.val, by omega⟩ (row n' r) (row n j) * K (row n j) ⟨2 * b.val + h.val, by omega⟩ d : ℝ) : EReal) := by
    intro s a hs ha
    have hF := finD_dq (rd_pt hq hk hv hd b n hn h) hn s n' hn' r d
    rw [sl_at, sl_at, ha, ← EReal.coe_add] at hF
    rw [← hF, ← stAt_dq]
    unfold stAt
    rw [hs, show (16 * b.val + n) % 16 = n by omega]
  induction n with
  | zero =>
    rw [key zeroV 0 (by unfold dqIn; rw [if_pos (by omega)]) (zeroV_at _ _), Finset.sum_range_one, zero_add]
  | succ n ih =>
    have ih := ih (by omega) fun s a hs ha => by
      have hF := finD_dq (rd_pt hq hk hv hd b n (by omega) h) (by omega) s n' hn' r d
      rw [sl_at, sl_at, ha, ← EReal.coe_add] at hF
      rw [← hF, ← stAt_dq]
      unfold stAt
      rw [hs, show (16 * b.val + n) % 16 = n by omega]
    rw [key (dqS m c (16 * b.val + n)) _ (by unfold dqIn; rw [if_neg (by omega)]; rfl) ih, Finset.sum_range_succ _ (n + 1)]

/-- The query gradient's rows after a head pair's last key tile. -/
theorem dq_pair (hq : Holds (aQ m c) Q) (hk : Holds (aK m c) K) (hv : Holds (aV m c) V) (hd : Holds (aD m c) G) (b : Fin 4) (h : Fin 2)
    (i : Fin 8192) (d : Fin 128) :
    dqS m c (16 * b.val + 15) (ix2 i (cm h.val d)) = ((Cert.Att.dQ Q K V G i ⟨2 * b.val + h.val, by omega⟩ d : ℝ) : EReal) := by
  have hi : i = row (i.val / 512) ⟨i.val % 512, Nat.mod_lt _ (by decide)⟩ := Fin.ext (by
    rw [row_val (by omega)]
    show i.val = 512 * (i.val / 512) + i.val % 512
    omega)
  rw [hi, dqS_at hq hk hv hd b 15 (by decide) h _ (by omega), ← hi]
  unfold Cert.Att.dQ
  rw [sum_rows]

/-- A column of a block as a head's. -/
theorem cm_of (x : Fin 256) : x = cm (x.val / 128) ⟨x.val % 128, Nat.mod_lt _ (by decide)⟩ :=
  Fin.ext (by show x.val = (128 * (x.val / 128) + x.val % 128) % 256; omega)

/-- The head of a block's column. -/
theorem hd_wide (t : Fin cfg0.N) (x : Fin 256) : Cert.ReferenceIdeal.Hand.hd (wide t x) = head t ⟨x.val / 128, by omega⟩ :=
  Fin.ext (by show (256 * (t.val / 16) + x.val) / 128 = 2 * (t.val / 16) + x.val / 128; omega)
/-- The column of a block's column within its head. -/
theorem cl_wide (t : Fin cfg0.N) (x : Fin 256) : Cert.ReferenceIdeal.Hand.cl (wide t x) = ⟨x.val % 128, Nat.mod_lt _ (by decide)⟩ :=
  Fin.ext (by show (256 * (t.val / 16) + x.val) % 128 = x.val % 128; omega)

/-- The query gradient a head pair's last point writes back, at an index. -/
theorem dq_blk (hq : Holds (aQ m c) Q) (hk : Holds (aK m c) K) (hv : Holds (aV m c) V) (hd : Holds (aD m c) G) (t : Fin cfg0.N) (ht : t.val % 16 = 15)
    (i : Fin 8192) (x : Fin 256) :
    (stAt m c t.val).dq (ix2 i x) = ((Cert.Att.dQ Q K V G i (Cert.ReferenceIdeal.Hand.hd (wide t x)) (Cert.ReferenceIdeal.Hand.cl (wide t x)) : ℝ) : EReal) := by
  have h64 := lt64 t
  have e := dq_pair hq hk hv hd ⟨t.val / 16, by omega⟩ ⟨x.val / 128, by omega⟩ i ⟨x.val % 128, Nat.mod_lt _ (by decide)⟩
  rw [hd_wide, cl_wide, stAt_dq]
  have e2 : 16 * (t.val / 16) + 15 = t.val := by omega
  dsimp only at e
  rw [← cm_of, e2] at e
  exact e

/-- The key gradient a point writes back, at an index. -/
theorem dk_blk (hq : Holds (aQ m c) Q) (hk : Holds (aK m c) K) (hv : Holds (aV m c) V) (hd : Holds (aD m c) G) (t : Fin cfg0.N) (j : Fin 512) (x : Fin 256) :
    (stAt m c t.val).dk (ix2 j x) = ((Cert.Att.dK Q K V G (deep t j) (Cert.ReferenceIdeal.Hand.hd (wide t x)) (Cert.ReferenceIdeal.Hand.cl (wide t x)) : ℝ) : EReal) := by
  have e := finD_dk (rd_at hq hk hv hd t ⟨x.val / 128, by omega⟩) (Nat.mod_lt _ (by decide)) (dqIn m c t.val) j ⟨x.val % 128, Nat.mod_lt _ (by decide)⟩
  dsimp only at e
  rw [co_at, ← cm_of, ← inN_val] at e
  rw [hd_wide, cl_wide]
  exact e

/-- The value gradient a point writes back, at an index. -/
theorem dv_blk (hq : Holds (aQ m c) Q) (hk : Holds (aK m c) K) (hv : Holds (aV m c) V) (hd : Holds (aD m c) G) (t : Fin cfg0.N) (j : Fin 512) (x : Fin 256) :
    (stAt m c t.val).dv (ix2 j x) = ((Cert.Att.dV Q K G (deep t j) (Cert.ReferenceIdeal.Hand.hd (wide t x)) (Cert.ReferenceIdeal.Hand.cl (wide t x)) : ℝ) : EReal) := by
  have e := finD_dv (rd_at hq hk hv hd t ⟨x.val / 128, by omega⟩) (Nat.mod_lt _ (by decide)) (dqIn m c t.val) j ⟨x.val % 128, Nat.mod_lt _ (by decide)⟩
  dsimp only at e
  rw [co_at, ← cm_of, ← inN_val] at e
  rw [hd_wide, cl_wide]
  exact e

/-! ## The result arrays -/

variable (m c)

/-- The reference's first result, on the kernel's arguments. -/
def want0 : FVec Ideal S8192x1024 .f32 :=
  Cert.ReferenceIdeal.Hand.dq (Cert.ReferenceIdeal.Hand.ds (Cert.ReferenceIdeal.Hand.ex (Cert.ReferenceIdeal.Hand.score (aQ m c) (aK m c))) (Cert.ReferenceIdeal.Hand.dpr (aV m c) (aD m c))) (aK m c)
/-- The reference's second result, on the kernel's arguments. -/
def want1 : FVec Ideal S8192x1024 .bf16 :=
  Cert.ReferenceIdeal.Hand.dk (Cert.ReferenceIdeal.Hand.ds (Cert.ReferenceIdeal.Hand.ex (Cert.ReferenceIdeal.Hand.score (aQ m c) (aK m c))) (Cert.ReferenceIdeal.Hand.dpr (aV m c) (aD m c))) (aQ m c)
/-- The reference's third result, on the kernel's arguments. -/
def want2 : FVec Ideal S8192x1024 .bf16 :=
  Cert.ReferenceIdeal.Hand.dv (Cert.ReferenceIdeal.Hand.pr (Cert.ReferenceIdeal.Hand.ex (Cert.ReferenceIdeal.Hand.score (aQ m c) (aK m c)))) (aD m c)

variable {m c}

/-- The query gradient's array after the run. -/
theorem arr6 (hq : Holds (aQ m c) Q) (hk : Holds (aK m c) K) (hv : Holds (aV m c) V) (hd : Holds (aD m c) G) :
    (dats m 0 c).arrAt 6 cfg0.N = want0 m c := by
  refine (dats m 0 c).arrAt_eq_of_covers 6 _ (by decide +kernel) fun t hf y => ?_
  blk_simp
  rw [after6]
  have ht := (flush0_6 t).1 hf
  idx_vars y
  refine (dq_blk hq hk hv hd t ht _ _).trans ((Cert.ReferenceIdeal.Hand.dq_at hq hk hv hd _ _).symm.trans ?_)
  unfold wide
  refine congrArg (want0 m c) ?_
  blk_ext [at6 t]

/-- The key gradient's array after the run. -/
theorem arr7 (hq : Holds (aQ m c) Q) (hk : Holds (aK m c) K) (hv : Holds (aV m c) V) (hd : Holds (aD m c) G) :
    (dats m 0 c).arrAt 7 cfg0.N = want1 m c := by
  refine (dats m 0 c).arrAt_eq_of_covers 7 _ (by decide +kernel) fun t hf y => ?_
  blk_simp
  rw [after7]
  idx_vars y
  refine (dk_blk hq hk hv hd t _ _).trans ((Cert.ReferenceIdeal.Hand.dk_at hq hk hv hd _ _).symm.trans ?_)
  unfold wide deep row
  refine congrArg (want1 m c) ?_
  blk_ext [at7 t]

/-- The value gradient's array after the run. -/
theorem arr8 (hq : Holds (aQ m c) Q) (hk : Holds (aK m c) K) (hv : Holds (aV m c) V) (hd : Holds (aD m c) G) :
    (dats m 0 c).arrAt 8 cfg0.N = want2 m c := by
  refine (dats m 0 c).arrAt_eq_of_covers 8 _ (by decide +kernel) fun t hf y => ?_
  blk_simp
  rw [after8]
  idx_vars y
  refine (dv_blk hq hk hv hd t _ _).trans ((Cert.ReferenceIdeal.Hand.dv_at hq hk hd _ _).symm.trans ?_)
  unfold wide deep row
  refine congrArg (want2 m c) ?_
  blk_ext [at8 t]

/-- Every run over real arguments ends with the reference's results in the three arrays and the arguments as they were. -/
theorem run_value (hr : ∀ c, ∃ Q K V G : T, Holds (aQ m c) Q ∧ Holds (aK m c) K ∧ Holds (aV m c) V ∧ Holds (aD m c) G) :
    θ_run defs (onTc (τ := τ) (main (F := Ideal))) ⟨m, fun _ => 0, ρ⟩ (fun r => ∀ c : Dev nD,
      r.2.mem ((c.tc : Thread nD τ).loc main_v45_0) = want0 m c
      ∧ r.2.mem ((c.tc : Thread nD τ).loc main_v45_1) = want1 m c
      ∧ r.2.mem ((c.tc : Thread nD τ).loc main_v45_2) = want2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  obtain ⟨Q, K, V, G, hq, hk, hv, hd⟩ := hr c
  exact ⟨((h.1 c).1 6).trans (arr6 hq hk hv hd), ((h.1 c).1 7).trans (arr7 hq hk hv hd), ((h.1 c).1 8).trans (arr8 hq hk hv hd), args_kept m r h.1 c⟩

end Cert.KernelIdeal.Hand

end
-- ==== Proof.V.Finite.lean ====
module

public import proofs.«01_k».proof.Pre_finite
public import proofs.«01_k».proof.Proof.V.RefVal
public import Idealize.ShloMosaic.Lib.Affine

/-!
Arguments of finite numbers, over the reals: each element is a real number.
-/

@[expose] public section

noncomputable section

namespace Cert.Pre_finite

open Idealize.ShloMosaic
open Cert.ReferenceIdeal.Hand (Holds heads)
open Cert.Att (T)

variable [Facts]

/-- One element's test. -/
def one (a : EReal) : BitVec 1 := IntOp.andi (Ideal.cmp .olt a (Ideal.ofBits .f32 0x7F800000#32)) (Ideal.cmp .ogt a (Ideal.ofBits .f32 0xFF800000#32))

/-- The word of infinity. -/
theorem ofBits_top : Ideal.ofBits .f32 0x7F800000#32 = ⊤ := by
  simp [Ideal.ofBits, Ideal.ieee]

/-- An element that passes is a real number. -/
theorem real_of_one {a : EReal} (h : one a = 1#1) : ∃ r : ℝ, a = (r : EReal) := by
  unfold one at h
  rw [ofBits_top, Cert.ReferenceIdeal.Hand.ofBits_bot] at h
  have h := IntOp.andi_eq_one.1 h
  induction a using EReal.rec with
  | bot => exact absurd h.2 (by simp [Ideal.cmp])
  | top => exact absurd h.1 (by simp [Ideal.cmp])
  | coe r => exact ⟨r, rfl⟩

/-- The test of four arguments at an index. -/
theorem fn_at (q k v d : FVec Ideal S8192x1024 .bf16) (i : S8192x1024.Idx) :
    fn (F := Ideal) q k v d i = IntOp.andi (IntOp.andi (IntOp.andi (one (q i)) (one (k i))) (one (v i))) (one (d i)) := rfl

/-- Arguments that pass hold real numbers. -/
theorem holds_of {q k v d : FVec Ideal S8192x1024 .bf16} (h : fn (F := Ideal) q k v d = fun _ => 1#1) :
    ∃ Q K V G : T, Holds q Q ∧ Holds k K ∧ Holds v V ∧ Holds d G := by
  have h4 : ∀ i, one (q i) = 1#1 ∧ one (k i) = 1#1 ∧ one (v i) = 1#1 ∧ one (d i) = 1#1 := by
    intro i
    have e := congrFun h i
    rw [fn_at] at e
    have e3 := IntOp.andi_eq_one.1 e
    have e2 := IntOp.andi_eq_one.1 e3.1
    have e1 := IntOp.andi_eq_one.1 e2.1
    exact ⟨e1.1, e1.2, e2.2, e3.2⟩
  have key : ∀ x : FVec Ideal S8192x1024 .bf16, (∀ i, one (x i) = 1#1) → ∃ X : T, Holds x X := by
    intro x hx
    choose r hr using fun i => real_of_one (hx i)
    refine ⟨fun i h d => r (ix2 i ⟨h.val * 128 + d.val, by omega⟩), fun i h d => ?_⟩
    rw [Cert.ReferenceIdeal.Hand.heads_at]
    exact hr _
  obtain ⟨Q, hQ⟩ := key q fun i => (h4 i).1
  obtain ⟨K, hK⟩ := key k fun i => (h4 i).2.1
  obtain ⟨V, hV⟩ := key v fun i => (h4 i).2.2.1
  obtain ⟨G, hG⟩ := key d fun i => (h4 i).2.2.2
  exact ⟨Q, K, V, G, hQ, hK, hV, hG⟩

end Cert.Pre_finite

end
-- ==== Proof.W.Halves.lean ====
module

public import Idealize.ShloMosaic.Lib.Pointwise

/-!
The positions in two halves, as the calls for the gradients of the weights take them.
-/

@[expose] public section

noncomputable section

namespace Cert.Halves

/-- The origin of a matrix. -/
theorem o2 : (![0, 0] : Fin 2 → ℕ) = fun _ => 0 := funext fun a => by fin_cases a <;> rfl

/-- A position of a point's half. -/
def pos (t : ℕ) (r : Fin 4096) : Fin 8192 := ⟨4096 * (t % 2) + r.val, by omega⟩

/-- The sums over the halves of two points, of which the second is the one after the first, are together the sum over all positions. -/
theorem sum_eq (t : ℕ) (ht : t % 2 = 1) (f : Fin 8192 → EReal) :
    ∑ r, f (pos (t - 1) r) + ∑ r, f (pos t r) = ∑ s, f s := by
  refine Eq.trans ?_ (Fin.sum_univ_add (a := 4096) (b := 4096) f).symm
  have h0 : (t - 1) % 2 = 0 := by omega
  congr 1
  · refine Finset.sum_congr rfl fun r _ => congrArg f (Fin.ext ?_)
    show 4096 * ((t - 1) % 2) + r.val = r.val
    omega
  · refine Finset.sum_congr rfl fun r _ => congrArg f (Fin.ext ?_)
    show 4096 * (t % 2) + r.val = 4096 + r.val
    omega

end Cert.Halves

end
-- ==== Proof.W.Up.lean ====
module

public import proofs.«01_k».proof.Proof.Gen.UpIdeal.Value
public import proofs.«01_k».proof.Proof.Gen.UpRefIdeal.Run
public import proofs.«01_k».proof.Proof.W.Halves
public import Idealize.ShloMosaic.Lib.Pipeline.ValueKit

/-!
The gradient of the MLP's first weights. The kernel sums over the positions in two halves, the first kept in scratch;
the reference sums over all of them at once.
-/

@[expose] public section

set_option maxRecDepth 16384

noncomputable section

namespace Cert.UpIdeal.Hand

open Cert.UpIdeal Cert.UpIdeal.Gen
open Idealize.ShloMosaic Idealize.ShloMosaic.TcCoe Idealize.ShloMosaic.Tactic Idealize.SL.Sem
open Cert.Halves (o2 pos)

/-- The origin of a stack of matrices. -/
theorem o3 : (![0, 0, 0] : Fin 3 → ℕ) = fun _ => 0 := funext fun a => by fin_cases a <;> rfl

section
variable {F : FTy → Type} [FloatOps F]

/-- The first half's point leaves its product in the scratch. -/
theorem first_out (c : Dev nD) (i : grid0.Coords) (a2 : Memref sig .tc .vmem S4096x1024 .bf16) (h2 : a2.IsWhole) (a3 : Memref sig .tc .vmem S1x4096x512 .bf16) (h3 : a3.IsWhole)
    (a4 : Memref sig .tc .vmem S1x1024x512 .bf16) (h4 : a4.IsWhole) (a5 : Memref sig .tc .vmem S1024x512 .f32) (h5 : a5.IsWhole) (c0 : cond0_0 i) (c1 : ¬cond0_1 i) (c2 : ¬cond0_2 i)
    (x : Vec F S4096x1024 .bf16) (y : Vec F S1x4096x512 .bf16) :
    sout0_A_0 c i a2 h2 a3 h3 a4 h4 a5 h5 c0 c1 c2 x y = k0_pay2 x y := by
  unfold sout0_A_0
  rw [View.read_writes_eq_canon _ _ _ (scover0_A_0 c i a2 h2 a3 h3 a4 h4 a5 h5 c0 c1 c2 x y)]
  unfold kernelRun0_A
  dsimp only
  rw [View.canon_unit_zero o2]
  simp only [View.readAt_eq_ld, h2.read_unread, h3.read_unread, View.ld_unit_zero (S := S4096x1024) o2, View.ld_unit_zero (S := S1x4096x512) o3]

/-- The second half's point leaves the scratch plus its product in the result's block. -/
theorem second_out (c : Dev nD) (i : grid0.Coords) (a2 : Memref sig .tc .vmem S4096x1024 .bf16) (h2 : a2.IsWhole) (a3 : Memref sig .tc .vmem S1x4096x512 .bf16) (h3 : a3.IsWhole)
    (a4 : Memref sig .tc .vmem S1x1024x512 .bf16) (h4 : a4.IsWhole) (a5 : Memref sig .tc .vmem S1024x512 .f32) (h5 : a5.IsWhole) (c0 : ¬cond0_0 i) (c1 : ¬cond0_1 i) (c2 : cond0_2 i)
    (x : Vec F S4096x1024 .bf16) (y : Vec F S1x4096x512 .bf16) (s : Vec F S1024x512 .f32) :
    out0_B_2 c i a2 h2 a3 h3 a4 h4 a5 h5 c0 c1 c2 x y s = k0_pay4 x y s := by
  unfold out0_B_2
  rw [View.read_writes_eq_canon _ _ _ (cover0_B_2 c i a2 h2 a3 h3 a4 h4 a5 h5 c0 c1 c2 x y s)]
  unfold kernelRun0_B
  dsimp only
  rw [View.canon_unit_zero o3]
  simp only [View.readAt_eq_ld, h2.read_unread, h3.read_unread, h5.read_unread, View.ld_unit_zero (S := S4096x1024) o2, View.ld_unit_zero (S := S1x4096x512) o3, View.ld_unit_zero (S := S1024x512) o2]

end

/-- A half's product at an index. -/
theorem half_at (x : Vec Ideal S4096x1024 .bf16) (y : Vec Ideal S1x4096x512 .bf16) (p : Fin 1024) (q : Fin 512) :
    k0_pay1 x y (ix2 p q) = ∑ r : Fin 4096, x (ix2 r p) * y (ix3 0 r q) := by
  pointwise [k0_pay1]
/-- What the scratch holds, at an index. -/
theorem kept_at (x : Vec Ideal S4096x1024 .bf16) (y : Vec Ideal S1x4096x512 .bf16) (p : Fin 1024) (q : Fin 512) :
    k0_pay2 x y (ix2 p q) = ∑ r : Fin 4096, x (ix2 r p) * y (ix3 0 r q) := by
  unfold k0_pay2
  rw [shapeCast_self]
  exact half_at x y p q
/-- What the second half stores, at an index. -/
theorem both_at (x : Vec Ideal S4096x1024 .bf16) (y : Vec Ideal S1x4096x512 .bf16) (s : Vec Ideal S1024x512 .f32) (p : Fin 1024) (q : Fin 512) :
    k0_pay4 x y s (ix3 0 p q) = s (ix2 p q) + ∑ r : Fin 4096, x (ix2 r p) * y (ix3 0 r q) := by
  pointwise [k0_pay4]
  rw [half_at]

variable (m : (ℓ : Loc nD τ sig) → Buf (Elt Ideal) ℓ) (ρ : Dev nD → PrngReg) (c : Dev nD)

/-- The MLP's input, a row a position. -/
abbrev aM : FVec Ideal S8192x1024 .bf16 := m ((c.tc : Thread nD τ).loc main_arg0)
/-- The gradients of the first product, eight stacked blocks of columns. -/
abbrev aD : FVec Ideal S8x8192x512 .bf16 := m ((c.tc : Thread nD τ).loc main_arg1)

/-- The grid has sixteen points. -/
theorem lt16 (t : Fin cfg0.N) : t.val < 16 := lt_of_lt_of_eq t.isLt N_0
/-- The block of the input's window. -/
theorem at0 : ∀ t : Fin cfg0.N, win0_0.index t = ![t.val % 2, 0] := by decide +kernel
/-- The block of the gradients' window. -/
theorem at1 : ∀ t : Fin cfg0.N, win0_1.index t = ![t.val / 2, t.val % 2, 0] := by decide +kernel
/-- The block of the result's window. -/
theorem at2 : ∀ t : Fin cfg0.N, win0_2.index t = ![t.val / 2, 0, 0] := by decide +kernel

/-- The block of columns of a point. -/
def col (t : Fin cfg0.N) : Fin 8 := ⟨t.val / 2, by have := lt16 t; omega⟩
/-- The input's block at an index. -/
theorem m_at (t : Fin cfg0.N) (r : Fin 4096) (p : Fin 1024) : iblk m c 0 t (ix2 r p) = aM m c (ix2 (pos t.val r) p) := by
  refine Eq.trans ?_ (congrFun (V_main_arg0 m c) _)
  unfold pos
  blk_ext [iblk, at0 t]
/-- The gradients' block at an index. -/
theorem d_at (t : Fin cfg0.N) (r : Fin 4096) (q : Fin 512) : iblk m c 1 t (ix3 0 r q) = aD m c (ix3 (col t) (pos t.val r) q) := by
  refine Eq.trans ?_ (congrFun (V_main_arg1 m c) _)
  unfold pos col
  blk_ext [iblk, at1 t]

/-- What a point of the second half leaves in the result's block: the sum over all the positions. -/
theorem blk_at (t : Fin cfg0.N) (ht : t.val % 2 = 1) (p : Fin 1024) (q : Fin 512) :
    (outsAt0 m c t.val t.isLt).1 (ix3 0 p q) = ∑ s : Fin 8192, aM m c (ix2 s p) * aD m c (ix3 (col t) s q) := by
  have hb : t.val - 1 < cfg0.N := Nat.lt_of_le_of_lt (Nat.sub_le _ _) t.isLt
  have h0 : (t.val - 1) % 2 = 0 := by omega
  rw [outsAt0_B m c t (by omega) ht]
  dsimp only
  rw [second_out, both_at, outsAt0_A m c ⟨t.val - 1, hb⟩ h0 (by show ¬(t.val - 1) % 2 = 1; omega)]
  dsimp only
  rw [first_out, kept_at]
  have hc : col (⟨t.val - 1, hb⟩ : Fin cfg0.N) = col t := Fin.ext (by show (t.val - 1) / 2 = t.val / 2; omega)
  simp only [m_at, d_at, hc]
  exact Cert.Halves.sum_eq t.val ht fun s => aM m c (ix2 s p) * aD m c (ix3 (col t) s q)

end Cert.UpIdeal.Hand

namespace Cert.UpRefIdeal.Hand

open Cert.UpRefIdeal Cert.UpRefIdeal.Gen
open Idealize.ShloMosaic Idealize.ShloMosaic.TcCoe Idealize.ShloMosaic.Tactic Idealize.SL.Sem

/-- The reference's result, of its two arguments. -/
def dw (a : FVec Ideal S8192x1024 .bf16) (d : FVec Ideal S8x8192x512 .bf16) : FVec Ideal S8x1024x512 .bf16 :=
  truncf .bf16 (transpose S8x1024x512 [0, 2, 1] (Host.dotGeneral dot_S8x512x8192_S8192x1024_S8x512x1024_2_0_01_1_n_n none (transpose S8x512x8192 [0, 2, 1] (extf .f32 d bitsLt_bf16_f32) transposes_S8x8192x512_S8x512x8192_0_2_1) (extf .f32 a bitsLt_bf16_f32)) transposes_S8x512x1024_S8x1024x512_0_2_1) bitsLt_bf16_f32

/-- The reference's result at an index. -/
theorem dw_at (a : FVec Ideal S8192x1024 .bf16) (d : FVec Ideal S8x8192x512 .bf16) (j : Fin 8) (p : Fin 1024) (q : Fin 512) :
    dw a d (ix3 j p q) = ∑ s : Fin 8192, a (ix2 s p) * d (ix3 j s q) := by
  pointwise [dw]
  exact Finset.sum_congr rfl fun s _ => mul_comm _ _

end Cert.UpRefIdeal.Hand

namespace Cert.UpIdeal.Hand

open Cert.UpIdeal Cert.UpIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The result's array after the run is the reference's result. -/
theorem arr2 (c : Dev nD) : (dats m 0 c).arrAt 2 cfg0.N = Cert.UpRefIdeal.Hand.dw (aM m c) (aD m c) := by
  refine (dats m 0 c).arrAt_eq_of_covers 2 _ (by decide +kernel) fun t hf y => ?_
  blk_simp
  rw [after0_2]
  have ht := (flush0_2 t).1 hf
  idx_vars y
  obtain rfl : y0 = (0 : Fin 1) := Subsingleton.elim _ _
  refine (blk_at m c t ht _ _).trans ((Cert.UpRefIdeal.Hand.dw_at _ _ _ _ _).symm.trans ?_)
  unfold col
  refine congrArg (Cert.UpRefIdeal.Hand.dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = Cert.UpRefIdeal.Hand.dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.UpIdeal.Hand

end
-- ==== Proof.W.Down.lean ====
module

public import proofs.«01_k».proof.Proof.Gen.DownIdeal.Value
public import proofs.«01_k».proof.Proof.Gen.DownRefIdeal.Run
public import proofs.«01_k».proof.Proof.W.Halves
public import Idealize.ShloMosaic.Lib.Pipeline.ValueKit

/-!
The gradient of the MLP's second weights. The kernel squares the activations and sums over the positions in two halves, the first kept in scratch;
the reference sums over all of them at once.
-/

@[expose] public section

set_option maxRecDepth 16384

noncomputable section

namespace Cert.DownIdeal.Hand

open Cert.DownIdeal Cert.DownIdeal.Gen
open Idealize.ShloMosaic Idealize.ShloMosaic.TcCoe Idealize.ShloMosaic.Tactic Idealize.SL.Sem
open Cert.Halves (o2 pos)

/-- The origin of a stack of matrices. -/
theorem o3 : (![0, 0, 0] : Fin 3 → ℕ) = fun _ => 0 := funext fun a => by fin_cases a <;> rfl

section
variable {F : FTy → Type} [FloatOps F]

/-- The first half's point leaves its product in the scratch. -/
theorem first_out (c : Dev nD) (i : grid0.Coords) (a2 : Memref sig .tc .vmem S1x4096x512 .bf16) (h2 : a2.IsWhole) (a3 : Memref sig .tc .vmem S4096x1024 .bf16) (h3 : a3.IsWhole)
    (a4 : Memref sig .tc .vmem S1x512x1024 .bf16) (h4 : a4.IsWhole) (a5 : Memref sig .tc .vmem S512x1024 .f32) (h5 : a5.IsWhole) (c0 : cond0_0 i) (c1 : ¬cond0_1 i) (c2 : ¬cond0_2 i)
    (x : Vec F S1x4096x512 .bf16) (y : Vec F S4096x1024 .bf16) :
    sout0_A_0 c i a2 h2 a3 h3 a4 h4 a5 h5 c0 c1 c2 x y = k0_pay2 x y := by
  unfold sout0_A_0
  rw [View.read_writes_eq_canon _ _ _ (scover0_A_0 c i a2 h2 a3 h3 a4 h4 a5 h5 c0 c1 c2 x y)]
  unfold kernelRun0_A
  dsimp only
  rw [View.canon_unit_zero o2]
  simp only [View.readAt_eq_ld, h2.read_unread, h3.read_unread, View.ld_unit_zero (S := S1x4096x512) o3, View.ld_unit_zero (S := S4096x1024) o2]

/-- The second half's point leaves the scratch plus its product in the result's block. -/
theorem second_out (c : Dev nD) (i : grid0.Coords) (a2 : Memref sig .tc .vmem S1x4096x512 .bf16) (h2 : a2.IsWhole) (a3 : Memref sig .tc .vmem S4096x1024 .bf16) (h3 : a3.IsWhole)
    (a4 : Memref sig .tc .vmem S1x512x1024 .bf16) (h4 : a4.IsWhole) (a5 : Memref sig .tc .vmem S512x1024 .f32) (h5 : a5.IsWhole) (c0 : ¬cond0_0 i) (c1 : ¬cond0_1 i) (c2 : cond0_2 i)
    (x : Vec F S1x4096x512 .bf16) (y : Vec F S4096x1024 .bf16) (s : Vec F S512x1024 .f32) :
    out0_B_2 c i a2 h2 a3 h3 a4 h4 a5 h5 c0 c1 c2 x y s = k0_pay4 x y s := by
  unfold out0_B_2
  rw [View.read_writes_eq_canon _ _ _ (cover0_B_2 c i a2 h2 a3 h3 a4 h4 a5 h5 c0 c1 c2 x y s)]
  unfold kernelRun0_B
  dsimp only
  rw [View.canon_unit_zero o3]
  simp only [View.readAt_eq_ld, h2.read_unread, h3.read_unread, h5.read_unread, View.ld_unit_zero (S := S1x4096x512) o3, View.ld_unit_zero (S := S4096x1024) o2, View.ld_unit_zero (S := S512x1024) o2]

end

/-- A half's product at an index. -/
theorem half_at (x : Vec Ideal S1x4096x512 .bf16) (y : Vec Ideal S4096x1024 .bf16) (p : Fin 512) (q : Fin 1024) :
    k0_pay1 x y (ix2 p q) = ∑ r : Fin 4096, x (ix3 0 r p) * x (ix3 0 r p) * y (ix2 r q) := by
  pointwise [k0_pay1]
/-- What the scratch holds, at an index. -/
theorem kept_at (x : Vec Ideal S1x4096x512 .bf16) (y : Vec Ideal S4096x1024 .bf16) (p : Fin 512) (q : Fin 1024) :
    k0_pay2 x y (ix2 p q) = ∑ r : Fin 4096, x (ix3 0 r p) * x (ix3 0 r p) * y (ix2 r q) := by
  unfold k0_pay2
  rw [shapeCast_self]
  exact half_at x y p q
/-- What the second half stores, at an index. -/
theorem both_at (x : Vec Ideal S1x4096x512 .bf16) (y : Vec Ideal S4096x1024 .bf16) (s : Vec Ideal S512x1024 .f32) (p : Fin 512) (q : Fin 1024) :
    k0_pay4 x y s (ix3 0 p q) = s (ix2 p q) + ∑ r : Fin 4096, x (ix3 0 r p) * x (ix3 0 r p) * y (ix2 r q) := by
  pointwise [k0_pay4]
  rw [half_at]

variable (m : (ℓ : Loc nD τ sig) → Buf (Elt Ideal) ℓ) (ρ : Dev nD → PrngReg) (c : Dev nD)

/-- The MLP's activations before the square, eight stacked blocks of columns. -/
abbrev aM : FVec Ideal S8x8192x512 .bf16 := m ((c.tc : Thread nD τ).loc main_arg0)
/-- The gradients of the second product, a row a position. -/
abbrev aD : FVec Ideal S8192x1024 .bf16 := m ((c.tc : Thread nD τ).loc main_arg1)

/-- The grid has sixteen points. -/
theorem lt16 (t : Fin cfg0.N) : t.val < 16 := lt_of_lt_of_eq t.isLt N_0
/-- The block of the activations' window. -/
theorem at0 : ∀ t : Fin cfg0.N, win0_0.index t = ![t.val / 2, t.val % 2, 0] := by decide +kernel
/-- The block of the gradients' window. -/
theorem at1 : ∀ t : Fin cfg0.N, win0_1.index t = ![t.val % 2, 0] := by decide +kernel
/-- The block of the result's window. -/
theorem at2 : ∀ t : Fin cfg0.N, win0_2.index t = ![t.val / 2, 0, 0] := by decide +kernel

/-- The block of weights of a point. -/
def col (t : Fin cfg0.N) : Fin 8 := ⟨t.val / 2, by have := lt16 t; omega⟩
/-- The activations' block at an index. -/
theorem m_at (t : Fin cfg0.N) (r : Fin 4096) (p : Fin 512) : iblk m c 0 t (ix3 0 r p) = aM m c (ix3 (col t) (pos t.val r) p) := by
  refine Eq.trans ?_ (congrFun (V_main_arg0 m c) _)
  unfold pos col
  blk_ext [iblk, at0 t]
/-- The gradients' block at an index. -/
theorem d_at (t : Fin cfg0.N) (r : Fin 4096) (q : Fin 1024) : iblk m c 1 t (ix2 r q) = aD m c (ix2 (pos t.val r) q) := by
  refine Eq.trans ?_ (congrFun (V_main_arg1 m c) _)
  unfold pos
  blk_ext [iblk, at1 t]

/-- What a point of the second half leaves in the result's block: the sum over all the positions. -/
theorem blk_at (t : Fin cfg0.N) (ht : t.val % 2 = 1) (p : Fin 512) (q : Fin 1024) :
    (outsAt0 m c t.val t.isLt).1 (ix3 0 p q) = ∑ s : Fin 8192, aM m c (ix3 (col t) s p) * aM m c (ix3 (col t) s p) * aD m c (ix2 s q) := by
  have hb : t.val - 1 < cfg0.N := Nat.lt_of_le_of_lt (Nat.sub_le _ _) t.isLt
  have h0 : (t.val - 1) % 2 = 0 := by omega
  rw [outsAt0_B m c t (by omega) ht]
  dsimp only
  rw [second_out, both_at, outsAt0_A m c ⟨t.val - 1, hb⟩ h0 (by show ¬(t.val - 1) % 2 = 1; omega)]
  dsimp only
  rw [first_out, kept_at]
  have hc : col (⟨t.val - 1, hb⟩ : Fin cfg0.N) = col t := Fin.ext (by show (t.val - 1) / 2 = t.val / 2; omega)
  simp only [m_at, d_at, hc]
  exact Cert.Halves.sum_eq t.val ht fun s => aM m c (ix3 (col t) s p) * aM m c (ix3 (col t) s p) * aD m c (ix2 s q)

end Cert.DownIdeal.Hand

namespace Cert.DownRefIdeal.Hand

open Cert.DownRefIdeal Cert.DownRefIdeal.Gen
open Idealize.ShloMosaic Idealize.ShloMosaic.TcCoe Idealize.ShloMosaic.Tactic Idealize.SL.Sem

/-- The reference's result, of its two arguments. -/
def dw (a : FVec Ideal S8x8192x512 .bf16) (d : FVec Ideal S8192x1024 .bf16) : FVec Ideal S8x512x1024 .bf16 :=
  truncf .bf16 (transpose S8x512x1024 [1, 2, 0] (Host.dotGeneral dot_S8192x1024_S8x8192x512_S1024x8x512_0_1_1_02_n_n none (extf .f32 d bitsLt_bf16_f32) (mulf (extf .f32 a bitsLt_bf16_f32) (extf .f32 a bitsLt_bf16_f32))) transposes_S1024x8x512_S8x512x1024_1_2_0) bitsLt_bf16_f32

/-- The reference's result at an index. -/
theorem dw_at (a : FVec Ideal S8x8192x512 .bf16) (d : FVec Ideal S8192x1024 .bf16) (j : Fin 8) (p : Fin 512) (q : Fin 1024) :
    dw a d (ix3 j p q) = ∑ s : Fin 8192, a (ix3 j s p) * a (ix3 j s p) * d (ix2 s q) := by
  pointwise [dw]
  exact Finset.sum_congr rfl fun s _ => mul_comm _ _

end Cert.DownRefIdeal.Hand

namespace Cert.DownIdeal.Hand

open Cert.DownIdeal Cert.DownIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The result's array after the run is the reference's result. -/
theorem arr2 (c : Dev nD) : (dats m 0 c).arrAt 2 cfg0.N = Cert.DownRefIdeal.Hand.dw (aM m c) (aD m c) := by
  refine (dats m 0 c).arrAt_eq_of_covers 2 _ (by decide +kernel) fun t hf y => ?_
  blk_simp
  rw [after0_2]
  have ht := (flush0_2 t).1 hf
  idx_vars y
  obtain rfl : y0 = (0 : Fin 1) := Subsingleton.elim _ _
  refine (blk_at m c t ht _ _).trans ((Cert.DownRefIdeal.Hand.dw_at _ _ _ _ _).symm.trans ?_)
  unfold col
  refine congrArg (Cert.DownRefIdeal.Hand.dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = Cert.DownRefIdeal.Hand.dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.DownIdeal.Hand

end
-- ==== Proof.W.Mlp.lean ====
module

public import proofs.«01_k».proof.Proof.Gen.MlpIdeal.Value
public import proofs.«01_k».proof.Proof.Gen.MlpRefIdeal.Run
public import proofs.«01_k».proof.Proof.W.Halves
public import Idealize.ShloMosaic.Lib.Pipeline.ValueKit
public import Idealize.ShloMosaic.Lib.TwoAxisContraction

/-!
The MLP's forward call. Both the kernel and the reference are brought to the same rows: a normed row, its eight blocks of activations, the row of
the second product and the sum with the normed row of that.
-/

@[expose] public section

set_option maxRecDepth 16384

noncomputable section

namespace Cert.MlpRefIdeal.Hand

open Cert.MlpRefIdeal Cert.MlpRefIdeal.Gen
open Idealize.ShloMosaic Idealize.ShloMosaic.TcCoe Idealize.ShloMosaic.Tactic Idealize.SL.Sem

/-- A normed row at a column: the row times its reciprocal root mean square, times the weights. -/
def nrm (h w : Fin 1024 → EReal) (q : Fin 1024) : EReal :=
  h q * Ideal.rsqrt (Ideal.div (∑ x, h x * h x) (Ideal.ofBits .f32 0x44800000#32) + Ideal.ofBits .f32 0x358637BD#32) * w q

/-- The reference's normed rows. -/
def norm (h : FVec Ideal S8192x1024 .f32) (w : FVec Ideal S1x1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 w)

/-- The reference's activations. -/
def act (n : FVec Ideal S8192x1024 .f32) (u : FVec Ideal S8x1024x512 .bf16) : FVec Ideal S8x8192x512 .f32 :=
  maximumf (transpose S8x8192x512 [0, 2, 1] (Host.dotGeneral dot_S8x1024x512_S8192x1024_S8x512x8192_1_1_02_0_n_n none (extf .f32 u bitsLt_bf16_f32) n) transposes_S8x512x8192_S8x8192x512_0_2_1) (broadcastInDim S8x8192x512 ![] bcast_S_S8x8192x512 (constant S_ .f32 0x00000000#32))

/-- The reference's second product. -/
def down (a : FVec Ideal S8x8192x512 .f32) (d : FVec Ideal S8x512x1024 .bf16) : FVec Ideal S8192x1024 .f32 :=
  Host.dotGeneral dot_S8x8192x512_S8x512x1024_S8192x1024_02_01_1_2_n_n none (mulf a a) (extf .f32 d bitsLt_bf16_f32)

/-- The reference's normed rows at an index. -/
theorem norm_at (h : FVec Ideal S8192x1024 .f32) (w : FVec Ideal S1x1024 .f32) (p : Fin 8192) (q : Fin 1024) :
    norm h w (ix2 p q) = nrm (fun k => h (ix2 p k)) (fun k => w (ix2 0 k)) q := by
  pointwise [norm]
  rfl

/-- The reference's activations at an index. -/
theorem act_at (n : FVec Ideal S8192x1024 .f32) (u : FVec Ideal S8x1024x512 .bf16) (j : Fin 8) (p : Fin 8192) (q : Fin 512) :
    act n u (ix3 j p q) = max (∑ k : Fin 1024, n (ix2 p k) * u (ix3 j k q)) 0 := by
  pointwise [act]
  exact congrArg (max · 0) (Finset.sum_congr rfl fun k _ => mul_comm _ _)

/-- The reference's second product at an index. -/
theorem down_at (a : FVec Ideal S8x8192x512 .f32) (d : FVec Ideal S8x512x1024 .bf16) (p : Fin 8192) (q : Fin 1024) :
    down a d (ix2 p q) = ∑ j : Fin 8, ∑ r : Fin 512, a (ix3 j p r) * a (ix3 j p r) * d (ix3 j r q) := by
  pointwise [down]

/-- Rows as the reference returns them. -/
def rows (x : FVec Ideal S8192x1024 .f32) : FVec Ideal S8192x1024 .bf16 := truncf .bf16 x bitsLt_bf16_f32
/-- Activations as the reference returns them. -/
def stack (x : FVec Ideal S8x8192x512 .f32) : FVec Ideal S8x8192x512 .bf16 := truncf .bf16 x bitsLt_bf16_f32

end Cert.MlpRefIdeal.Hand

namespace Cert.MlpIdeal.Hand

open Cert.MlpIdeal Cert.MlpIdeal.Gen
open Idealize.ShloMosaic Idealize.ShloMosaic.TcCoe Idealize.ShloMosaic.Tactic Idealize.SL.Sem
open Cert.MlpRefIdeal.Hand (nrm)
open Cert.Halves (o2)

/-- A tile's normed rows at an index. -/
theorem norm_at (x : Vec Ideal S512x1024 .f32) (w : Vec Ideal S1x1024 .f32) (p : Fin 512) (q : Fin 1024) :
    k0_pay4 x w (ix2 p q) = nrm (fun k => x (ix2 p k)) (fun k => w (ix2 0 k)) q := by
  pointwise [k0_pay4]
  rfl
/-- A block of a tile's activations at an index. -/
theorem act_at (v : Vec Ideal S512x1024 .bf16) (u : Vec Ideal S1x1024x512 .bf16) (p q : Fin 512) :
    k0_pay8 v u (ix2 p q) = max (∑ k : Fin 1024, v (ix2 p k) * u (ix3 0 k q)) 0 := by
  pointwise [k0_pay8]
/-- What is stored of a block of activations, at an index. -/
theorem kept_at (v : Vec Ideal S512x1024 .bf16) (u : Vec Ideal S1x1024x512 .bf16) (p q : Fin 512) :
    k0_pay9 v u (ix3 0 p q) = max (∑ k : Fin 1024, v (ix2 p k) * u (ix3 0 k q)) 0 := by
  refine Eq.trans ?_ (act_at v u p q)
  pointwise [k0_pay9]
/-- A running sum plus a block's second product, at an index. -/
theorem down_at (d : Vec Ideal S512x1024 .f32) (a : Vec Ideal S512x512 .f32) (u : Vec Ideal S1x512x1024 .bf16) (p : Fin 512) (q : Fin 1024) :
    k0_pay2 d a u (ix2 p q) = d (ix2 p q) + ∑ r : Fin 512, a (ix2 p r) * a (ix2 p r) * u (ix3 0 r q) := by
  pointwise [k0_pay2]
/-- The running sum's first value. -/
theorem none_at (p : Fin 512) (q : Fin 1024) :
    (broadcast S512x1024 (Scalar.ofBits .f32 0x00000000#32 : Ideal .f32) : FVec Ideal S512x1024 .f32) (ix2 p q) = 0 := by
  pointwise
/-- The sum with the normed second product, at an index. -/
theorem sum_at (x d : Vec Ideal S512x1024 .f32) (a : Vec Ideal S512x512 .f32) (u : Vec Ideal S1x512x1024 .bf16) (w : Vec Ideal S1x1024 .f32) (p : Fin 512) (q : Fin 1024) :
    k0_pay3 x d a u w (ix2 p q) = x (ix2 p q) + nrm (fun k => k0_pay2 d a u (ix2 p k)) (fun k => w (ix2 0 k)) q := by
  pointwise [k0_pay3]
  rfl

/-- A block of the first weights, loaded. -/
theorem up_ld (x : Vec Ideal S8x1024x512 .bf16) (j : Fin 8) (inb : ∀ a, (![j.val, 0, 0] : Fin 3 → ℕ) a + S1x1024x512.size a ≤ S8x1024x512.size a) (k : Fin 1024) (q : Fin 512) :
    View.ld x (Rect.unit (s := S8x1024x512) ![j.val, 0, 0] S1x1024x512.size inb) (ix3 0 k q) = x (ix3 j k q) := by
  refine congrArg x (funext fun a => Fin.ext ?_)
  fin_cases a
  · show j.val + 1 * 0 = j.val; omega
  · show 0 + 1 * k.val = k.val; omega
  · show 0 + 1 * q.val = q.val; omega
/-- A block of the second weights, loaded. -/
theorem down_ld (x : Vec Ideal S8x512x1024 .bf16) (j : Fin 8) (inb : ∀ a, (![j.val, 0, 0] : Fin 3 → ℕ) a + S1x512x1024.size a ≤ S8x512x1024.size a) (k : Fin 512) (q : Fin 1024) :
    View.ld x (Rect.unit (s := S8x512x1024) ![j.val, 0, 0] S1x512x1024.size inb) (ix3 0 k q) = x (ix3 j k q) := by
  refine congrArg x (funext fun a => Fin.ext ?_)
  fin_cases a
  · show j.val + 1 * 0 = j.val; omega
  · show 0 + 1 * k.val = k.val; omega
  · show 0 + 1 * q.val = q.val; omega

section
variable (x0 : Vec Ideal S512x1024 .f32) (x1 : Vec Ideal S1x1024 .f32) (x2 : Vec Ideal S8x1024x512 .bf16) (x3 : Vec Ideal S8x512x1024 .bf16) (x4 : Vec Ideal S1x1024 .f32)

/-- The tile's activations. -/
def bAct (j : Fin 8) (p q : Fin 512) : EReal :=
  max (∑ k : Fin 1024, nrm (fun k => x0 (ix2 p k)) (fun k => x1 (ix2 0 k)) k * x2 (ix3 j k q)) 0
/-- The tile's second product. -/
def bDown (p : Fin 512) (q : Fin 1024) : EReal :=
  ∑ j : Fin 8, ∑ r : Fin 512, bAct x0 x1 x2 j p r * bAct x0 x1 x2 j p r * x3 (ix3 j r q)

/-- The tile's normed rows. -/
abbrev bn : Vec Ideal S512x1024 .bf16 := k0_pay4 (View.ld x0 r0_0) (View.ld x1 r0_1)

/-- The tile's normed rows at an index. -/
theorem bn_at (p : Fin 512) (q : Fin 1024) : bn x0 x1 (ix2 p q) = nrm (fun k => x0 (ix2 p k)) (fun k => x1 (ix2 0 k)) q := by
  rw [bn, View.ld_unit_zero (S := S512x1024) o2, View.ld_unit_zero (S := S1x1024) o2, norm_at]

/-- The normed rows' block. -/
theorem out5_at (p : Fin 512) (q : Fin 1024) : out0_5 x0 x1 x2 x3 x4 (ix2 p q) = nrm (fun k => x0 (ix2 p k)) (fun k => x1 (ix2 0 k)) q := by
  unfold out0_5
  rw [View.canon_unit_zero o2]
  exact bn_at x0 x1 p q

/-- A block of the tile's activations at an index. -/
theorem bact_at (u : Vec Ideal S1x1024x512 .bf16) (j : Fin 8) (hu : ∀ k q, u (ix3 0 k q) = x2 (ix3 j k q)) (p q : Fin 512) :
    k0_pay8 (bn x0 x1) u (ix2 p q) = bAct x0 x1 x2 j p q := by
  rw [act_at]
  unfold bAct
  refine congrArg (max · 0) (Finset.sum_congr rfl fun k _ => ?_)
  rw [bn_at, hu]

/-- A running sum plus the second product of a block of the tile's activations. -/
theorem bdown_at (d : Vec Ideal S512x1024 .f32) (u : Vec Ideal S1x1024x512 .bf16) (w : Vec Ideal S1x512x1024 .bf16) (j : Fin 8) (hu : ∀ k q, u (ix3 0 k q) = x2 (ix3 j k q)) (hw : ∀ k q, w (ix3 0 k q) = x3 (ix3 j k q))
    (p : Fin 512) (q : Fin 1024) :
    k0_pay2 d (k0_pay8 (bn x0 x1) u) w (ix2 p q) = d (ix2 p q) + ∑ r : Fin 512, bAct x0 x1 x2 j p r * bAct x0 x1 x2 j p r * x3 (ix3 j r q) := by
  rw [down_at]
  refine congrArg (d (ix2 p q) + ·) (Finset.sum_congr rfl fun r _ => ?_)
  rw [bact_at x0 x1 x2 u j hu, hw]

/-- The tile's activations as a block. -/
def bActs : Vec Ideal S8x512x512 .bf16 := fun y => bAct x0 x1 x2 (y 0) (y 1) (y 2)

/-- A stored block of activations is the block of the tile's activations at its place. -/
theorem piece_at (i : Fin 8) (inb : ∀ a, (![i.val, 0, 0] : Fin 3 → ℕ) a + S1x512x512.size a ≤ S8x512x512.size a)
    (u : Vec Ideal S1x1024x512 .bf16) (hu : ∀ k q, u (ix3 0 k q) = x2 (ix3 i k q)) (y : S1x512x512.Idx) :
    k0_pay9 (bn x0 x1) u y = bActs x0 x1 x2 ((Rect.unit (s := S8x512x512) ![i.val, 0, 0] S1x512x512.size inb).emb y) := by
  idx_vars y
  obtain rfl : y0 = (0 : Fin 1) := Subsingleton.elim _ _
  have e : (Rect.unit (s := S8x512x512) ![i.val, 0, 0] S1x512x512.size inb).emb (ix3 0 y1 y2) = ix3 i y1 y2 := by
    refine funext fun a => Fin.ext ?_
    fin_cases a
    · show i.val + 1 * 0 = i.val; omega
    · show 0 + 1 * y1.val = y1.val; omega
    · show 0 + 1 * y2.val = y2.val; omega
  rw [e, kept_at, ← act_at, bact_at x0 x1 x2 u i hu]
  rfl

/-- The activations' block at an index. -/
theorem out6_at (j : Fin 8) (p q : Fin 512) : out0_6 x0 x1 x2 x3 x4 (ix3 j p q) = bAct x0 x1 x2 j p q := by
  unfold out0_6
  refine View.canon_apply_of_pieces (bActs x0 x1 x2) _ ?_ _ ?_
  · simp only [List.forall_mem_cons]
    refine ⟨fun y => piece_at x0 x1 x2 7 _ (View.ld x2 r0_23) (up_ld x2 7 _) y, fun y => piece_at x0 x1 x2 6 _ (View.ld x2 r0_20) (up_ld x2 6 _) y, fun y => piece_at x0 x1 x2 5 _ (View.ld x2 r0_17) (up_ld x2 5 _) y, fun y => piece_at x0 x1 x2 4 _ (View.ld x2 r0_14) (up_ld x2 4 _) y, fun y => piece_at x0 x1 x2 3 _ (View.ld x2 r0_11) (up_ld x2 3 _) y, fun y => piece_at x0 x1 x2 2 _ (View.ld x2 r0_8) (up_ld x2 2 _) y, fun y => piece_at x0 x1 x2 1 _ (View.ld x2 r0_5) (up_ld x2 1 _) y, fun y => piece_at x0 x1 x2 0 _ (View.ld x2 r0_2) (up_ld x2 0 _) y, fun _ h => absurd h (List.not_mem_nil)⟩
  · exact cover0_6 _ _ _ _ _ _ _ _ _

/-- The second product's block. -/
theorem out7_eq : out0_7 x0 x1 x2 x3 x4 =
    k0_pay2 (k0_pay2 (k0_pay2 (k0_pay2 (k0_pay2 (k0_pay2 (k0_pay2 (k0_pay2 (broadcast S512x1024 (Scalar.ofBits .f32 0x00000000#32 : Ideal .f32))
      (k0_pay8 (bn x0 x1) (View.ld x2 r0_2)) (View.ld x3 r0_4)) (k0_pay8 (bn x0 x1) (View.ld x2 r0_5)) (View.ld x3 r0_7))
      (k0_pay8 (bn x0 x1) (View.ld x2 r0_8)) (View.ld x3 r0_10)) (k0_pay8 (bn x0 x1) (View.ld x2 r0_11)) (View.ld x3 r0_13))
      (k0_pay8 (bn x0 x1) (View.ld x2 r0_14)) (View.ld x3 r0_16)) (k0_pay8 (bn x0 x1) (View.ld x2 r0_17)) (View.ld x3 r0_19))
      (k0_pay8 (bn x0 x1) (View.ld x2 r0_20)) (View.ld x3 r0_22)) (k0_pay8 (bn x0 x1) (View.ld x2 r0_23)) (View.ld x3 r0_25) := by
  unfold out0_7
  rw [View.canon_unit_zero o2]
  rfl

/-- The second product's block at an index. -/
theorem out7_at (p : Fin 512) (q : Fin 1024) : out0_7 x0 x1 x2 x3 x4 (ix2 p q) = bDown x0 x1 x2 x3 p q := by
  rw [out7_eq,
    bdown_at x0 x1 x2 x3 _ (View.ld x2 r0_23) (View.ld x3 r0_25) 7 (up_ld x2 7 _) (down_ld x3 7 _),
    bdown_at x0 x1 x2 x3 _ (View.ld x2 r0_20) (View.ld x3 r0_22) 6 (up_ld x2 6 _) (down_ld x3 6 _),
    bdown_at x0 x1 x2 x3 _ (View.ld x2 r0_17) (View.ld x3 r0_19) 5 (up_ld x2 5 _) (down_ld x3 5 _),
    bdown_at x0 x1 x2 x3 _ (View.ld x2 r0_14) (View.ld x3 r0_16) 4 (up_ld x2 4 _) (down_ld x3 4 _),
    bdown_at x0 x1 x2 x3 _ (View.ld x2 r0_11) (View.ld x3 r0_13) 3 (up_ld x2 3 _) (down_ld x3 3 _),
    bdown_at x0 x1 x2 x3 _ (View.ld x2 r0_8) (View.ld x3 r0_10) 2 (up_ld x2 2 _) (down_ld x3 2 _),
    bdown_at x0 x1 x2 x3 _ (View.ld x2 r0_5) (View.ld x3 r0_7) 1 (up_ld x2 1 _) (down_ld x3 1 _),
    bdown_at x0 x1 x2 x3 _ (View.ld x2 r0_2) (View.ld x3 r0_4) 0 (up_ld x2 0 _) (down_ld x3 0 _),
    none_at, zero_add]
  unfold bDown
  rw [Fin.sum_univ_eight]

/-- The last result's block at an index. -/
theorem out8_at (p : Fin 512) (q : Fin 1024) :
    out0_8 x0 x1 x2 x3 x4 (ix2 p q) = x0 (ix2 p q) + nrm (fun k => bDown x0 x1 x2 x3 p k) (fun k => x4 (ix2 0 k)) q := by
  have h : ∀ k, k0_pay2 (k0_pay29 x0 x1 x2 x3 x4) (k0_pay30 x0 x1 x2 x3 x4) (View.ld x3 r0_25) (ix2 p k) = bDown x0 x1 x2 x3 p k := by
    intro k
    refine Eq.trans ?_ (out7_at x0 x1 x2 x3 x4 p k)
    unfold out0_7
    rw [View.canon_unit_zero o2]
  unfold out0_8
  rw [View.canon_unit_zero o2, sum_at, View.ld_unit_zero (S := S512x1024) o2, View.ld_unit_zero (S := S1x1024) o2]
  simp only [h]

end

variable (m : (ℓ : Loc nD τ sig) → Buf (Elt Ideal) ℓ) (ρ : Dev nD → PrngReg) (c : Dev nD)

/-- The residual stream, a row a position. -/
abbrev aH : FVec Ideal S8192x1024 .f32 := m ((c.tc : Thread nD τ).loc main_arg0)
/-- The weights of the norm before the MLP. -/
abbrev aPre : FVec Ideal S1x1024 .f32 := m ((c.tc : Thread nD τ).loc main_arg1)
/-- The MLP's first weights, eight stacked blocks. -/
abbrev aUp : FVec Ideal S8x1024x512 .bf16 := m ((c.tc : Thread nD τ).loc main_arg2)
/-- The MLP's second weights, eight stacked blocks. -/
abbrev aDown : FVec Ideal S8x512x1024 .bf16 := m ((c.tc : Thread nD τ).loc main_arg3)
/-- The weights of the norm after the MLP. -/
abbrev aPost : FVec Ideal S1x1024 .f32 := m ((c.tc : Thread nD τ).loc main_arg4)

/-- The block of the residual stream's window. -/
theorem at0 : ∀ t : Fin cfg0.N, win0_0.index t = ![t.val, 0] := by decide +kernel
/-- The block of the first norm's weights. -/
theorem at1 : ∀ t : Fin cfg0.N, win0_1.index t = ![0, 0] := by decide +kernel
/-- The block of the first weights. -/
theorem at2 : ∀ t : Fin cfg0.N, win0_2.index t = ![0, 0, 0] := by decide +kernel
/-- The block of the second weights. -/
theorem at3 : ∀ t : Fin cfg0.N, win0_3.index t = ![0, 0, 0] := by decide +kernel
/-- The block of the second norm's weights. -/
theorem at4 : ∀ t : Fin cfg0.N, win0_4.index t = ![0, 0] := by decide +kernel
/-- The block of the normed rows' window. -/
theorem at5 : ∀ t : Fin cfg0.N, win0_5.index t = ![t.val, 0] := by decide +kernel
/-- The block of the activations' window. -/
theorem at6 : ∀ t : Fin cfg0.N, win0_6.index t = ![0, t.val, 0] := by decide +kernel
/-- The block of the second product's window. -/
theorem at7 : ∀ t : Fin cfg0.N, win0_7.index t = ![t.val, 0] := by decide +kernel
/-- The block of the last result's window. -/
theorem at8 : ∀ t : Fin cfg0.N, win0_8.index t = ![t.val, 0] := by decide +kernel

/-- The grid has sixteen points. -/
theorem lt16 (t : Fin cfg0.N) : t.val < 16 := lt_of_lt_of_eq t.isLt N_0
/-- A position of a point's tile. -/
def pos (t : Fin cfg0.N) (r : Fin 512) : Fin 8192 := ⟨512 * t.val + r.val, by have := lt16 t; omega⟩

/-- The residual stream's block at an index. -/
theorem h_at (t : Fin cfg0.N) (p : Fin 512) (q : Fin 1024) : iblk m c 0 t (ix2 p q) = aH m c (ix2 (pos t p) q) := by
  refine Eq.trans ?_ (congrFun (V_main_arg0 m c) _)
  unfold pos
  blk_ext [iblk, at0 t]
/-- The first norm's weights' block at an index. -/
theorem pre_at (t : Fin cfg0.N) (q : Fin 1024) : iblk m c 1 t (ix2 0 q) = aPre m c (ix2 0 q) := by
  refine Eq.trans ?_ (congrFun (V_main_arg1 m c) _)
  blk_ext [iblk, at1 t]
/-- The first weights' block at an index. -/
theorem up_at (t : Fin cfg0.N) (j : Fin 8) (k : Fin 1024) (q : Fin 512) : iblk m c 2 t (ix3 j k q) = aUp m c (ix3 j k q) := by
  refine Eq.trans ?_ (congrFun (V_main_arg2 m c) _)
  blk_ext [iblk, at2 t]
/-- The second weights' block at an index. -/
theorem dn_at (t : Fin cfg0.N) (j : Fin 8) (r : Fin 512) (q : Fin 1024) : iblk m c 3 t (ix3 j r q) = aDown m c (ix3 j r q) := by
  refine Eq.trans ?_ (congrFun (V_main_arg3 m c) _)
  blk_ext [iblk, at3 t]
/-- The second norm's weights' block at an index. -/
theorem post_at (t : Fin cfg0.N) (q : Fin 1024) : iblk m c 4 t (ix2 0 q) = aPost m c (ix2 0 q) := by
  refine Eq.trans ?_ (congrFun (V_main_arg4 m c) _)
  blk_ext [iblk, at4 t]

/-- The reference's normed rows of the arguments. -/
abbrev rN : FVec Ideal S8192x1024 .f32 := Cert.MlpRefIdeal.Hand.norm (aH m c) (aPre m c)
/-- The reference's activations of the arguments. -/
abbrev rA : FVec Ideal S8x8192x512 .f32 := Cert.MlpRefIdeal.Hand.act (rN m c) (aUp m c)
/-- The reference's second product of the arguments. -/
abbrev rD : FVec Ideal S8192x1024 .f32 := Cert.MlpRefIdeal.Hand.down (rA m c) (aDown m c)
/-- The reference's last result of the arguments. -/
abbrev rO : FVec Ideal S8192x1024 .f32 := addf (aH m c) (Cert.MlpRefIdeal.Hand.norm (rD m c) (aPost m c))

/-- A tile's normed rows are the reference's. -/
theorem n_eq (t : Fin cfg0.N) (p : Fin 512) (q : Fin 1024) :
    nrm (fun k => iblk m c 0 t (ix2 p k)) (fun k => iblk m c 1 t (ix2 0 k)) q = rN m c (ix2 (pos t p) q) := by
  rw [rN, Cert.MlpRefIdeal.Hand.norm_at]
  simp only [h_at, pre_at]
/-- A tile's activations are the reference's. -/
theorem a_eq (t : Fin cfg0.N) (j : Fin 8) (p q : Fin 512) :
    bAct (iblk m c 0 t) (iblk m c 1 t) (iblk m c 2 t) j p q = rA m c (ix3 j (pos t p) q) := by
  rw [rA, Cert.MlpRefIdeal.Hand.act_at]
  unfold bAct
  refine congrArg (max · 0) (Finset.sum_congr rfl fun k _ => ?_)
  rw [n_eq, up_at]
/-- A tile's second product is the reference's. -/
theorem d_eq (t : Fin cfg0.N) (p : Fin 512) (q : Fin 1024) :
    bDown (iblk m c 0 t) (iblk m c 1 t) (iblk m c 2 t) (iblk m c 3 t) p q = rD m c (ix2 (pos t p) q) := by
  rw [rD, Cert.MlpRefIdeal.Hand.down_at]
  unfold bDown
  refine Finset.sum_congr rfl fun j _ => Finset.sum_congr rfl fun r _ => ?_
  rw [a_eq, dn_at]
/-- A tile's last result is the reference's. -/
theorem o_eq (t : Fin cfg0.N) (p : Fin 512) (q : Fin 1024) :
    out0_8 (iblk m c 0 t) (iblk m c 1 t) (iblk m c 2 t) (iblk m c 3 t) (iblk m c 4 t) (ix2 p q) = rO m c (ix2 (pos t p) q) := by
  refine (out8_at _ _ _ _ _ _ _).trans (Eq.trans ?_ (congrArg (aH m c (ix2 (pos t p) q) + ·) (Cert.MlpRefIdeal.Hand.norm_at (rD m c) (aPost m c) (pos t p) q).symm))
  simp only [h_at, post_at, d_eq]

/-- The normed rows' array after the run. -/
theorem arr5 : (dats m 0 c).arrAt 5 cfg0.N = Cert.MlpRefIdeal.Hand.rows (rN m c) := by
  refine (dats m 0 c).arrAt_eq_of_covers 5 _ (by decide +kernel) fun t hf y => ?_
  blk_simp
  rw [after0_5]
  idx_vars y
  refine (out5_at _ _ _ _ _ _ _).trans ((n_eq m c t _ _).trans ?_)
  unfold pos
  refine congrArg (rN m c) ?_
  blk_ext [at5 t]
/-- The activations' array after the run. -/
theorem arr6 : (dats m 0 c).arrAt 6 cfg0.N = Cert.MlpRefIdeal.Hand.stack (rA m c) := by
  refine (dats m 0 c).arrAt_eq_of_covers 6 _ (by decide +kernel) fun t hf y => ?_
  blk_simp
  rw [after0_6]
  idx_vars y
  refine (out6_at _ _ _ _ _ _ _ _).trans ((a_eq m c t _ _ _).trans ?_)
  unfold pos
  refine congrArg (rA m c) ?_
  blk_ext [at6 t]
/-- The second product's array after the run. -/
theorem arr7 : (dats m 0 c).arrAt 7 cfg0.N = rD m c := by
  refine (dats m 0 c).arrAt_eq_of_covers 7 _ (by decide +kernel) fun t hf y => ?_
  blk_simp
  rw [after0_7]
  idx_vars y
  refine (out7_at _ _ _ _ _ _ _).trans ((d_eq m c t _ _).trans ?_)
  unfold pos
  refine congrArg (rD m c) ?_
  blk_ext [at7 t]
/-- The last result's array after the run. -/
theorem arr8 : (dats m 0 c).arrAt 8 cfg0.N = rO m c := by
  refine (dats m 0 c).arrAt_eq_of_covers 8 _ (by decide +kernel) fun t hf y => ?_
  blk_simp
  rw [after0_8]
  idx_vars y
  refine (o_eq m c t _ _).trans ?_
  unfold pos
  refine congrArg (rO m c) ?_
  blk_ext [at8 t]

/-- Every run ends with the reference's four results and the arguments as they were. -/
theorem run_value : θ_run defs (onTc (τ := τ) (main (F := Ideal))) ⟨m, fun _ => 0, ρ⟩ (fun r => ∀ c : Dev nD,
      r.2.mem ((c.tc : Thread nD τ).loc main_v0_0) = Cert.MlpRefIdeal.Hand.rows (rN m c)
      ∧ r.2.mem ((c.tc : Thread nD τ).loc main_v0_1) = Cert.MlpRefIdeal.Hand.stack (rA m c)
      ∧ r.2.mem ((c.tc : Thread nD τ).loc main_v0_2) = rD m c
      ∧ r.2.mem ((c.tc : Thread nD τ).loc main_v0_3) = rO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (arr5 m c), (h c).2.1.trans (arr6 m c), (h c).2.2.1.trans (arr7 m c), (h c).2.2.2.1.trans (arr8 m c), (h c).2.2.2.2⟩)
    (Value.run_blocks m ρ)

end Cert.MlpIdeal.Hand

end
-- ==== Proof.W.Back.lean ====
module

public import proofs.«01_k».proof.Proof.Gen.BackIdeal.Value
public import proofs.«01_k».proof.Proof.Gen.BackRefIdeal.Run
public import proofs.«01_k».proof.Proof.W.Halves
public import Idealize.ShloMosaic.Lib.Pipeline.ValueKit
public import Idealize.ShloMosaic.Lib.TwoAxisContraction

/-!
The MLP's backward call. Both the kernel and the reference are brought to the same rows; the gradients of the norms' weights, which the kernel adds
up over the tiles, to the same sums over the positions.
-/

@[expose] public section

set_option maxRecDepth 16384

noncomputable section

namespace Cert.BackRefIdeal.Hand

open Cert.BackRefIdeal Cert.BackRefIdeal.Gen
open Idealize.ShloMosaic Idealize.ShloMosaic.TcCoe Idealize.ShloMosaic.Tactic Idealize.SL.Sem

/-- The reciprocal root mean square of a row. -/
def rr (x : Fin 1024 → EReal) : EReal :=
  Ideal.rsqrt (Ideal.div (∑ k, x k * x k) (Ideal.ofBits .f32 0x44800000#32) + Ideal.ofBits .f32 0x358637BD#32)
/-- The gradient of a row by the norm, at a column. -/
def nb (x w dy : Fin 1024 → EReal) (q : Fin 1024) : EReal :=
  rr x * (dy q * w q - x q * rr x * Ideal.div (∑ k, dy k * w k * (x k * rr x)) (Ideal.ofBits .f32 0x44800000#32))

/-- The reference's reciprocal root mean squares, a row each. -/
def rinv (x : FVec Ideal S8192x1024 .f32) : FVec Ideal S8192x1024 .f32 :=
  broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))
/-- The reference's rows of mean square one. -/
def unit (x : FVec Ideal S8192x1024 .f32) : FVec Ideal S8192x1024 .f32 := mulf x (rinv x)
/-- The reference's gradient by the norm. -/
def back (x dy : FVec Ideal S8192x1024 .f32) (w : FVec Ideal S1x1024 .f32) : FVec Ideal S8192x1024 .f32 :=
  mulf (rinv x) (subf (mulf dy (broadcastInDim S8192x1024 ![0, 1] bcast_S1x1024_S8192x1024_0_1 w)) (mulf (unit x) (broadcastInDim S8192x1024 ![0, 1] bcast_S8192x1_S8192x1024_0_1 (Host.divf (broadcastInDim S8192x1 ![0] bcast_S8192_S8192x1_0 (Host.reduceAdd (mulf (mulf dy (broadcastInDim S8192x1024 ![0, 1] bcast_S1x1024_S8192x1024_0_1 w)) (unit x)) (constant S_ .f32 0x00000000#32) reducesTo_S8192x1024_S8192_d1 h_S_)) (broadcastInDim S8192x1 ![] bcast_S_S8192x1 (constant S_ .f32 0x44800000#32))))))
/-- The reference's gradient of a norm's weights. -/
def dw (x dy : FVec Ideal S8192x1024 .f32) : FVec Ideal S1x1024 .f32 :=
  shapeCast S1x1024 (Host.reduceAdd (mulf (unit x) dy) (constant S_ .f32 0x00000000#32) reducesTo_S8192x1024_S1024_d0 h_S_) shapeCasts_S1024_S1x1024
/-- The reference's gradients of the activations. -/
def da (dd : FVec Ideal S8192x1024 .f32) (d : FVec Ideal S8x512x1024 .bf16) (a : FVec Ideal S8x8192x512 .bf16) : FVec Ideal S8x8192x512 .f32 :=
  mulf (transpose S8x8192x512 [1, 0, 2] (Host.dotGeneral dot_S8192x1024_S8x512x1024_S8192x8x512_1_2_0_01_n_n none dd (extf .f32 d bitsLt_bf16_f32)) transposes_S8192x8x512_S8x8192x512_1_0_2) (mulf (broadcastInDim S8x8192x512 ![] bcast_S_S8x8192x512 (constant S_ .f32 0x40000000#32)) (extf .f32 a bitsLt_bf16_f32))
/-- The reference's gradients of the first product's input. -/
def dm (g : FVec Ideal S8x8192x512 .f32) (u : FVec Ideal S8x1024x512 .bf16) : FVec Ideal S8192x1024 .f32 :=
  Host.dotGeneral dot_S8x512x8192_S8x1024x512_S8192x1024_01_02_2_1_n_n none (transpose S8x512x8192 [0, 2, 1] g transposes_S8x8192x512_S8x512x8192_0_2_1) (extf .f32 u bitsLt_bf16_f32)

/-- The reference's rows of mean square one, at an index. -/
theorem unit_at (x : FVec Ideal S8192x1024 .f32) (p : Fin 8192) (q : Fin 1024) :
    unit x (ix2 p q) = x (ix2 p q) * rr fun k => x (ix2 p k) := by
  pointwise [unit, rinv]
  rfl
/-- The reference's gradient by the norm, at an index. -/
theorem back_at (x dy : FVec Ideal S8192x1024 .f32) (w : FVec Ideal S1x1024 .f32) (p : Fin 8192) (q : Fin 1024) :
    back x dy w (ix2 p q) = nb (fun k => x (ix2 p k)) (fun k => w (ix2 0 k)) (fun k => dy (ix2 p k)) q := by
  pointwise [back, unit, rinv]
  rfl
/-- The reference's gradient of a norm's weights, at an index. -/
theorem dw_at (x dy : FVec Ideal S8192x1024 .f32) (q : Fin 1024) :
    dw x dy (ix2 0 q) = ∑ s : Fin 8192, unit x (ix2 s q) * dy (ix2 s q) := by
  pointwise [dw]
/-- The reference's gradients of the activations, at an index. -/
theorem da_at (dd : FVec Ideal S8192x1024 .f32) (d : FVec Ideal S8x512x1024 .bf16) (a : FVec Ideal S8x8192x512 .bf16) (j : Fin 8) (p : Fin 8192) (r : Fin 512) :
    da dd d a (ix3 j p r) = (∑ k : Fin 1024, dd (ix2 p k) * d (ix3 j r k)) * (Ideal.ofBits .f32 0x40000000#32 * a (ix3 j p r)) := by
  pointwise [da]
/-- The reference's gradients of the first product's input, at an index. -/
theorem dm_at (g : FVec Ideal S8x8192x512 .f32) (u : FVec Ideal S8x1024x512 .bf16) (p : Fin 8192) (q : Fin 1024) :
    dm g u (ix2 p q) = ∑ j : Fin 8, ∑ r : Fin 512, g (ix3 j p r) * u (ix3 j q r) := by
  pointwise [dm]

/-- Rows as the reference returns them. -/
def rows (x : FVec Ideal S8192x1024 .f32) : FVec Ideal S8192x1024 .bf16 := truncf .bf16 x bitsLt_bf16_f32
/-- Activations' gradients as the reference returns them. -/
def stack (x : FVec Ideal S8x8192x512 .f32) : FVec Ideal S8x8192x512 .bf16 := truncf .bf16 x bitsLt_bf16_f32

end Cert.BackRefIdeal.Hand

namespace Cert.BackIdeal.Hand

open Cert.BackIdeal Cert.BackIdeal.Gen
open Idealize.ShloMosaic Idealize.ShloMosaic.TcCoe Idealize.ShloMosaic.Tactic Idealize.SL.Sem
open Cert.BackRefIdeal.Hand (rr nb)
open Cert.Halves (o2)

/-- A running sum plus a block's product with the first weights. -/
def step (s : FVec Ideal S256x1024 .f32) (g : FVec Ideal S256x512 .bf16) (u : Vec Ideal S1x1024x512 .bf16) : FVec Ideal S256x1024 .f32 :=
  addf s (matmul (φ₂ := .bf16) dot_S256x512_S1024x512_S256x1024_1_1_0_0_n_n none g (shapeCast (α := Ideal .bf16) S1024x512 u shapeCasts_S1x1024x512_S1024x512) (constant S256x1024 .f32 0x00000000#32))
/-- A tile's gradient by the first norm. -/
def nback (x : FVec Ideal S256x1024 .f32) (w : Vec Ideal S1x1024 .f32) (dy : FVec Ideal S256x1024 .f32) : FVec Ideal S256x1024 .f32 :=
  mulf (broadcastTo S256x1024 (k0_pay36 x) broadcasts_S256x1_S256x1024) (subf (mulf dy (broadcastTo S256x1024 w broadcasts_S1x1024_S256x1024))
    (mulf (k0_pay37 x) (broadcastTo S256x1024 (divf (shapeCast S256x1 (multiReduction .add [1] S256 (mulf (mulf dy (broadcastTo S256x1024 w broadcasts_S1x1024_S256x1024)) (k0_pay37 x)) 0x00000000#32 reduces_S256x1024_S256 (.inl rfl) rfl) shapeCasts_S256_S256x1)
      (broadcast S256x1 (Scalar.ofBits .f32 0x44800000#32))) broadcasts_S256x1_S256x1024)))
/-- A tile's part of the gradient of the first norm's weights. -/
def cols (x dy : FVec Ideal S256x1024 .f32) : FVec Ideal S1024 .f32 :=
  multiReduction .add [0] S1024 (mulf dy (k0_pay37 x)) 0x00000000#32 reduces_S256x1024_S1024 (.inl rfl) rfl

/-- A running sum plus a block's product, at an index. -/
theorem step_at (s : FVec Ideal S256x1024 .f32) (g : FVec Ideal S256x512 .bf16) (u : Vec Ideal S1x1024x512 .bf16) (p : Fin 256) (q : Fin 1024) :
    step s g u (ix2 p q) = s (ix2 p q) + ∑ r : Fin 512, g (ix2 p r) * u (ix3 0 q r) := by
  pointwise [step]
/-- A tile's gradient by the first norm, at an index. -/
theorem nback_at (x dy : FVec Ideal S256x1024 .f32) (w : Vec Ideal S1x1024 .f32) (p : Fin 256) (q : Fin 1024) :
    nback x w dy (ix2 p q) = nb (fun k => x (ix2 p k)) (fun k => w (ix2 0 k)) (fun k => dy (ix2 p k)) q := by
  pointwise [nback, k0_pay36, k0_pay37]
  rfl
/-- A tile's part of the gradient of a norm's weights, at a column. -/
def tsum (x dy : FVec Ideal S256x1024 .f32) (q : Fin 1024) : EReal := ∑ r : Fin 256, dy (ix2 r q) * (x (ix2 r q) * rr fun k => x (ix2 r k))
/-- A tile's first result, at an index. -/
theorem first_at (d x dy : FVec Ideal S256x1024 .f32) (w : Vec Ideal S1x1024 .f32) (p : Fin 256) (q : Fin 1024) :
    k0_pay3 d (nback x w dy) (ix2 p q) = d (ix2 p q) + nb (fun k => x (ix2 p k)) (fun k => w (ix2 0 k)) (fun k => dy (ix2 p k)) q :=
  congrArg (d (ix2 p q) + ·) (nback_at x dy w p q)
/-- A tile's part of the gradient of the first norm's weights, at an index. -/
theorem cols_at (x dy : FVec Ideal S256x1024 .f32) (q : Fin 1024) :
    k0_pay1 (cols x dy) (ix2 0 q) = tsum x dy q := by
  pointwise [k0_pay1, cols, k0_pay36, k0_pay37]
  rfl
/-- A running gradient of the first norm's weights, at an index. -/
theorem more_at (x dy : FVec Ideal S256x1024 .f32) (s : Vec Ideal S1x1024 .f32) (q : Fin 1024) :
    k0_pay2 (cols x dy) s (ix2 0 q) = s (ix2 0 q) + tsum x dy q := by
  rw [← cols_at]
  pointwise [k0_pay2]
/-- A tile's part of the gradient of the second norm's weights, at an index. -/
theorem post_at (dy x : Vec Ideal S256x1024 .f32) (q : Fin 1024) :
    k0_pay6 dy x (ix2 0 q) = tsum x dy q := by
  pointwise [k0_pay6, k0_pay5, k0_pay4]
  rfl
/-- A running gradient of the second norm's weights, at an index. -/
theorem posts_at (dy x : Vec Ideal S256x1024 .f32) (s : Vec Ideal S1x1024 .f32) (q : Fin 1024) :
    k0_pay7 dy x s (ix2 0 q) = s (ix2 0 q) + tsum x dy q := by
  rw [← post_at]
  pointwise [k0_pay7]
/-- A tile's gradients of the second product, at an index. -/
theorem dd_at (dy x : Vec Ideal S256x1024 .f32) (w : Vec Ideal S1x1024 .f32) (p : Fin 256) (q : Fin 1024) :
    k0_pay8 dy x w (ix2 p q) = nb (fun k => x (ix2 p k)) (fun k => w (ix2 0 k)) (fun k => dy (ix2 p k)) q := by
  pointwise [k0_pay8, k0_pay5, k0_pay4]
  rfl
/-- A block of a tile's gradients of the activations, at an index. -/
theorem da_at (v : FVec Ideal S256x1024 .bf16) (d : Vec Ideal S1x512x1024 .bf16) (a : Vec Ideal S1x256x512 .bf16) (p : Fin 256) (r : Fin 512) :
    k0_pay10 v d a (ix2 p r) = (∑ k : Fin 1024, v (ix2 p k) * d (ix3 0 r k)) * (Ideal.ofBits .f32 0x40000000#32 * a (ix3 0 p r)) := by
  pointwise [k0_pay10]
/-- What is stored of a block, at an index. -/
theorem kept_at (v : FVec Ideal S256x1024 .bf16) (d : Vec Ideal S1x512x1024 .bf16) (a : Vec Ideal S1x256x512 .bf16) (p : Fin 256) (r : Fin 512) :
    k0_pay11 v d a (ix3 0 p r) = k0_pay10 v d a (ix2 p r) := by
  pointwise [k0_pay11]
/-- The running sum's first value. -/
theorem none_at (p : Fin 256) (q : Fin 1024) : (k0_pay9 : FVec Ideal S256x1024 .f32) (ix2 p q) = 0 := by
  pointwise [k0_pay9]

/-- A block of the activations lies in them. -/
theorem in3 : ∀ (j : Fin 8) (a : Fin 3), (![j.val, 0, 0] : Fin 3 → ℕ) a + S1x256x512.size a ≤ S8x256x512.size a := by decide +kernel
/-- A block of the first weights lies in them. -/
theorem in5 : ∀ (j : Fin 8) (a : Fin 3), (![j.val, 0, 0] : Fin 3 → ℕ) a + S1x1024x512.size a ≤ S8x1024x512.size a := by decide +kernel
/-- A block of the second weights lies in them. -/
theorem in6 : ∀ (j : Fin 8) (a : Fin 3), (![j.val, 0, 0] : Fin 3 → ℕ) a + S1x512x1024.size a ≤ S8x512x1024.size a := by decide +kernel
/-- A block of the activations. -/
def b3 (x : Vec Ideal S8x256x512 .bf16) (j : Fin 8) : Vec Ideal S1x256x512 .bf16 := View.ld x (Rect.unit (s := S8x256x512) ![j.val, 0, 0] S1x256x512.size (in3 j))
/-- A block of the first weights. -/
def b5 (x : Vec Ideal S8x1024x512 .bf16) (j : Fin 8) : Vec Ideal S1x1024x512 .bf16 := View.ld x (Rect.unit (s := S8x1024x512) ![j.val, 0, 0] S1x1024x512.size (in5 j))
/-- A block of the second weights. -/
def b6 (x : Vec Ideal S8x512x1024 .bf16) (j : Fin 8) : Vec Ideal S1x512x1024 .bf16 := View.ld x (Rect.unit (s := S8x512x1024) ![j.val, 0, 0] S1x512x1024.size (in6 j))
/-- A block of the activations, at an index. -/
theorem b3_at (x : Vec Ideal S8x256x512 .bf16) (j : Fin 8) (p : Fin 256) (q : Fin 512) : b3 x j (ix3 0 p q) = x (ix3 j p q) := by
  refine congrArg x (funext fun a => Fin.ext ?_)
  fin_cases a
  · show j.val + 1 * 0 = j.val; omega
  · show 0 + 1 * p.val = p.val; omega
  · show 0 + 1 * q.val = q.val; omega
/-- A block of the first weights, at an index. -/
theorem b5_at (x : Vec Ideal S8x1024x512 .bf16) (j : Fin 8) (p : Fin 1024) (q : Fin 512) : b5 x j (ix3 0 p q) = x (ix3 j p q) := by
  refine congrArg x (funext fun a => Fin.ext ?_)
  fin_cases a
  · show j.val + 1 * 0 = j.val; omega
  · show 0 + 1 * p.val = p.val; omega
  · show 0 + 1 * q.val = q.val; omega
/-- A block of the second weights, at an index. -/
theorem b6_at (x : Vec Ideal S8x512x1024 .bf16) (j : Fin 8) (p : Fin 512) (q : Fin 1024) : b6 x j (ix3 0 p q) = x (ix3 j p q) := by
  refine congrArg x (funext fun a => Fin.ext ?_)
  fin_cases a
  · show j.val + 1 * 0 = j.val; omega
  · show 0 + 1 * p.val = p.val; omega
  · show 0 + 1 * q.val = q.val; omega

section
variable (x0 x1 : Vec Ideal S256x1024 .f32) (x3 : Vec Ideal S8x256x512 .bf16) (x5 : Vec Ideal S8x1024x512 .bf16) (x6 : Vec Ideal S8x512x1024 .bf16) (x7 : Vec Ideal S1x1024 .f32)

/-- A block of the tile's gradients of the activations. -/
def tDa (j : Fin 8) : FVec Ideal S256x512 .bf16 := k0_pay10 (k0_pay8 x0 x1 x7) (b6 x6 j) (b3 x3 j)
/-- The tile's gradients of the first product's input. -/
def tDm : FVec Ideal S256x1024 .f32 :=
  step (step (step (step (step (step (step (step k0_pay9 (tDa x0 x1 x3 x6 x7 0) (b5 x5 0)) (tDa x0 x1 x3 x6 x7 1) (b5 x5 1)) (tDa x0 x1 x3 x6 x7 2) (b5 x5 2)) (tDa x0 x1 x3 x6 x7 3) (b5 x5 3))
    (tDa x0 x1 x3 x6 x7 4) (b5 x5 4)) (tDa x0 x1 x3 x6 x7 5) (b5 x5 5)) (tDa x0 x1 x3 x6 x7 6) (b5 x5 6)) (tDa x0 x1 x3 x6 x7 7) (b5 x5 7)
/-- The tile's gradients of the activations, all blocks. -/
def tDas : Vec Ideal S8x256x512 .bf16 := fun y => tDa x0 x1 x3 x6 x7 (y 0) (ix2 (y 1) (y 2))

/-- The tile's gradients of the first product's input, at an index. -/
theorem tDm_at (p : Fin 256) (q : Fin 1024) : tDm x0 x1 x3 x5 x6 x7 (ix2 p q) = ∑ j : Fin 8, ∑ r : Fin 512, tDa x0 x1 x3 x6 x7 j (ix2 p r) * x5 (ix3 j q r) := by
  unfold tDm
  simp only [step_at, none_at, b5_at, zero_add]
  rw [Fin.sum_univ_eight]
/-- A stored block is the tile's gradients at its place. -/
theorem piece_at (j : Fin 8) (inb : ∀ a, (![j.val, 0, 0] : Fin 3 → ℕ) a + S1x256x512.size a ≤ S8x256x512.size a) (y : S1x256x512.Idx) :
    k0_pay11 (k0_pay8 x0 x1 x7) (b6 x6 j) (b3 x3 j) y = tDas x0 x1 x3 x6 x7 ((Rect.unit (s := S8x256x512) ![j.val, 0, 0] S1x256x512.size inb).emb y) := by
  idx_vars y
  obtain rfl : y0 = (0 : Fin 1) := Subsingleton.elim _ _
  have e : (Rect.unit (s := S8x256x512) ![j.val, 0, 0] S1x256x512.size inb).emb (ix3 0 y1 y2) = ix3 j y1 y2 := by
    refine funext fun a => Fin.ext ?_
    fin_cases a
    · show j.val + 1 * 0 = j.val; omega
    · show 0 + 1 * y1.val = y1.val; omega
    · show 0 + 1 * y2.val = y2.val; omega
  rw [e, kept_at]
  rfl

variable (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S8x256x512 .bf16) (h4 : a4.IsWhole) (a5 : Memref sig .tc .vmem S1x1024 .f32) (h5 : a5.IsWhole) (a6 : Memref sig .tc .vmem S8x1024x512 .bf16) (h6 : a6.IsWhole) (a7 : Memref sig .tc .vmem S8x512x1024 .bf16) (h7 : a7.IsWhole) (a8 : Memref sig .tc .vmem S1x1024 .f32) (h8 : a8.IsWhole) (a9 : Memref sig .tc .vmem S256x1024 .f32) (h9 : a9.IsWhole) (a10 : Memref sig .tc .vmem S8x256x512 .bf16) (h10 : a10.IsWhole) (a11 : Memref sig .tc .vmem S256x1024 .bf16) (h11 : a11.IsWhole) (a12 : Memref sig .tc .vmem S1x1024 .f32) (h12 : a12.IsWhole) (a13 : Memref sig .tc .vmem S1x1024 .f32) (h13 : a13.IsWhole)
  (x2 : Vec Ideal S256x1024 .f32) (x4 : Vec Ideal S1x1024 .f32)

/-- What the first point leaves in the block of the first result. -/
theorem A8 (c0 : cond0_0 i) (c1 : ¬cond0_1 i) (c2 : cond0_2 i) (c3 : ¬cond0_3 i) :
    out0_A_8 c i a1 h1 a2 h2 a3 h3 a4 h4 a5 h5 a6 h6 a7 h7 a8 h8 a9 h9 a10 h10 a11 h11 a12 h12 a13 h13 c0 c1 c2 c3 x0 x1 x2 x3 x4 x5 x6 x7 = k0_pay3 x0 (nback x2 x4 (tDm x0 x1 x3 x5 x6 x7)) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 c0 c1 c2 c3 x0 x1 x2 x3 x4 x5 x6 x7)]
  unfold kernelRun0_A
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
  rfl
/-- What the first point leaves in the block of the gradients of the activations. -/
theorem A9 (c0 : cond0_0 i) (c1 : ¬cond0_1 i) (c2 : cond0_2 i) (c3 : ¬cond0_3 i) :
    out0_A_9 c i a1 h1 a2 h2 a3 h3 a4 h4 a5 h5 a6 h6 a7 h7 a8 h8 a9 h9 a10 h10 a11 h11 a12 h12 a13 h13 c0 c1 c2 c3 x0 x1 x2 x3 x4 x5 x6 x7 = tDas x0 x1 x3 x6 x7 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 c0 c1 c2 c3 x0 x1 x2 x3 x4 x5 x6 x7)]
  funext y
  refine View.canon_apply_of_pieces (tDas x0 x1 x3 x6 x7) _ ?_ y (cover0_A_9 c i a1 h1 a2 h2 a3 h3 a4 h4 a5 h5 a6 h6 a7 h7 a8 h8 a9 h9 a10 h10 a11 h11 a12 h12 a13 h13 c0 c1 c2 c3 x0 x1 x2 x3 x4 x5 x6 x7 y)
  unfold kernelRun0_A
  dsimp only
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
  simp only [List.forall_mem_cons]
  exact ⟨fun y => piece_at x0 x1 x3 x6 x7 7 _ y, fun y => piece_at x0 x1 x3 x6 x7 6 _ y, fun y => piece_at x0 x1 x3 x6 x7 5 _ y, fun y => piece_at x0 x1 x3 x6 x7 4 _ y, fun y => piece_at x0 x1 x3 x6 x7 3 _ y, fun y => piece_at x0 x1 x3 x6 x7 2 _ y, fun y => piece_at x0 x1 x3 x6 x7 1 _ y, fun y => piece_at x0 x1 x3 x6 x7 0 _ y, fun _ h => absurd h List.not_mem_nil⟩
/-- What the first point leaves in the block of the gradients of the second product. -/
theorem A10 (c0 : cond0_0 i) (c1 : ¬cond0_1 i) (c2 : cond0_2 i) (c3 : ¬cond0_3 i) :
    out0_A_10 c i a1 h1 a2 h2 a3 h3 a4 h4 a5 h5 a6 h6 a7 h7 a8 h8 a9 h9 a10 h10 a11 h11 a12 h12 a13 h13 c0 c1 c2 c3 x0 x1 x2 x3 x4 x5 x6 x7 = k0_pay8 x0 x1 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 c0 c1 c2 c3 x0 x1 x2 x3 x4 x5 x6 x7)]
  unfold kernelRun0_A
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
/-- What the first point leaves in the block of the second norm's weights' gradient. -/
theorem A11 (c0 : cond0_0 i) (c1 : ¬cond0_1 i) (c2 : cond0_2 i) (c3 : ¬cond0_3 i) :
    out0_A_11 c i a1 h1 a2 h2 a3 h3 a4 h4 a5 h5 a6 h6 a7 h7 a8 h8 a9 h9 a10 h10 a11 h11 a12 h12 a13 h13 c0 c1 c2 c3 x0 x1 x2 x3 x4 x5 x6 x7 = k0_pay6 x0 x1 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 c0 c1 c2 c3 x0 x1 x2 x3 x4 x5 x6 x7)]
  unfold kernelRun0_A
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
/-- What the first point leaves in the block of the first norm's weights' gradient. -/
theorem A12 (c0 : cond0_0 i) (c1 : ¬cond0_1 i) (c2 : cond0_2 i) (c3 : ¬cond0_3 i) :
    out0_A_12 c i a1 h1 a2 h2 a3 h3 a4 h4 a5 h5 a6 h6 a7 h7 a8 h8 a9 h9 a10 h10 a11 h11 a12 h12 a13 h13 c0 c1 c2 c3 x0 x1 x2 x3 x4 x5 x6 x7 = k0_pay1 (cols x2 (tDm x0 x1 x3 x5 x6 x7)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 c0 c1 c2 c3 x0 x1 x2 x3 x4 x5 x6 x7)]
  unfold kernelRun0_A
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
  rfl
/-- What a later point leaves in the block of the first result. -/
theorem B8 (c0 : ¬cond0_0 i) (c1 : cond0_1 i) (c2 : ¬cond0_2 i) (c3 : cond0_3 i) (xo11 xo12 : Vec Ideal S1x1024 .f32) :
    out0_B_8 c i a1 h1 a2 h2 a3 h3 a4 h4 a5 h5 a6 h6 a7 h7 a8 h8 a9 h9 a10 h10 a11 h11 a12 h12 a13 h13 c0 c1 c2 c3 x0 x1 x2 x3 x4 x5 x6 x7 xo11 xo12 = k0_pay3 x0 (nback x2 x4 (tDm x0 x1 x3 x5 x6 x7)) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 c0 c1 c2 c3 x0 x1 x2 x3 x4 x5 x6 x7 xo11 xo12)]
  unfold kernelRun0_B
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
  rfl
/-- What a later point leaves in the block of the gradients of the activations. -/
theorem B9 (c0 : ¬cond0_0 i) (c1 : cond0_1 i) (c2 : ¬cond0_2 i) (c3 : cond0_3 i) (xo11 xo12 : Vec Ideal S1x1024 .f32) :
    out0_B_9 c i a1 h1 a2 h2 a3 h3 a4 h4 a5 h5 a6 h6 a7 h7 a8 h8 a9 h9 a10 h10 a11 h11 a12 h12 a13 h13 c0 c1 c2 c3 x0 x1 x2 x3 x4 x5 x6 x7 xo11 xo12 = tDas x0 x1 x3 x6 x7 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 c0 c1 c2 c3 x0 x1 x2 x3 x4 x5 x6 x7 xo11 xo12)]
  funext y
  refine View.canon_apply_of_pieces (tDas x0 x1 x3 x6 x7) _ ?_ y (cover0_B_9 c i a1 h1 a2 h2 a3 h3 a4 h4 a5 h5 a6 h6 a7 h7 a8 h8 a9 h9 a10 h10 a11 h11 a12 h12 a13 h13 c0 c1 c2 c3 x0 x1 x2 x3 x4 x5 x6 x7 xo11 xo12 y)
  unfold kernelRun0_B
  dsimp only
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
  simp only [List.forall_mem_cons]
  exact ⟨fun y => piece_at x0 x1 x3 x6 x7 7 _ y, fun y => piece_at x0 x1 x3 x6 x7 6 _ y, fun y => piece_at x0 x1 x3 x6 x7 5 _ y, fun y => piece_at x0 x1 x3 x6 x7 4 _ y, fun y => piece_at x0 x1 x3 x6 x7 3 _ y, fun y => piece_at x0 x1 x3 x6 x7 2 _ y, fun y => piece_at x0 x1 x3 x6 x7 1 _ y, fun y => piece_at x0 x1 x3 x6 x7 0 _ y, fun _ h => absurd h List.not_mem_nil⟩
/-- What a later point leaves in the block of the gradients of the second product. -/
theorem B10 (c0 : ¬cond0_0 i) (c1 : cond0_1 i) (c2 : ¬cond0_2 i) (c3 : cond0_3 i) (xo11 xo12 : Vec Ideal S1x1024 .f32) :
    out0_B_10 c i a1 h1 a2 h2 a3 h3 a4 h4 a5 h5 a6 h6 a7 h7 a8 h8 a9 h9 a10 h10 a11 h11 a12 h12 a13 h13 c0 c1 c2 c3 x0 x1 x2 x3 x4 x5 x6 x7 xo11 xo12 = k0_pay8 x0 x1 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 c0 c1 c2 c3 x0 x1 x2 x3 x4 x5 x6 x7 xo11 xo12)]
  unfold kernelRun0_B
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
/-- What a later point leaves in the block of the second norm's weights' gradient. -/
theorem B11 (c0 : ¬cond0_0 i) (c1 : cond0_1 i) (c2 : ¬cond0_2 i) (c3 : cond0_3 i) (xo11 xo12 : Vec Ideal S1x1024 .f32) :
    out0_B_11 c i a1 h1 a2 h2 a3 h3 a4 h4 a5 h5 a6 h6 a7 h7 a8 h8 a9 h9 a10 h10 a11 h11 a12 h12 a13 h13 c0 c1 c2 c3 x0 x1 x2 x3 x4 x5 x6 x7 xo11 xo12 = k0_pay7 x0 x1 xo11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 c0 c1 c2 c3 x0 x1 x2 x3 x4 x5 x6 x7 xo11 xo12)]
  unfold kernelRun0_B
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
/-- What a later point leaves in the block of the first norm's weights' gradient. -/
theorem B12 (c0 : ¬cond0_0 i) (c1 : cond0_1 i) (c2 : ¬cond0_2 i) (c3 : cond0_3 i) (xo11 xo12 : Vec Ideal S1x1024 .f32) :
    out0_B_12 c i a1 h1 a2 h2 a3 h3 a4 h4 a5 h5 a6 h6 a7 h7 a8 h8 a9 h9 a10 h10 a11 h11 a12 h12 a13 h13 c0 c1 c2 c3 x0 x1 x2 x3 x4 x5 x6 x7 xo11 xo12 = k0_pay2 (cols x2 (tDm x0 x1 x3 x5 x6 x7)) xo12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 c0 c1 c2 c3 x0 x1 x2 x3 x4 x5 x6 x7 xo11 xo12)]
  unfold kernelRun0_B
  dsimp only
  rw [View.canon_unit_zero o2]
  sl_unfold_run_names
  simp only [View.readAt_eq_ld, h1.read_unread, h2.read_unread, h3.read_unread, h4.read_unread, h5.read_unread, h6.read_unread, h7.read_unread, h8.read_unread, h12.read_unread, h13.read_unread, View.ld_unit_zero (S := S256x1024) o2, View.ld_unit_zero (S := S1x1024) o2]
  rfl

end

variable (m : (ℓ : Loc nD τ sig) → Buf (Elt Ideal) ℓ) (ρ : Dev nD → PrngReg) (c : Dev nD)

/-- The gradients of the layer's output. -/
abbrev aDy : FVec Ideal S8192x1024 .f32 := m ((c.tc : Thread nD τ).loc main_arg0)
/-- The second product, as the forward call kept it. -/
abbrev aD : FVec Ideal S8192x1024 .f32 := m ((c.tc : Thread nD τ).loc main_arg1)
/-- The residual stream. -/
abbrev aH : FVec Ideal S8192x1024 .f32 := m ((c.tc : Thread nD τ).loc main_arg2)
/-- The activations, as the forward call kept them. -/
abbrev aA : FVec Ideal S8x8192x512 .bf16 := m ((c.tc : Thread nD τ).loc main_arg3)
/-- The weights of the norm before the MLP. -/
abbrev aPre : FVec Ideal S1x1024 .f32 := m ((c.tc : Thread nD τ).loc main_arg4)
/-- The first weights. -/
abbrev aUp : FVec Ideal S8x1024x512 .bf16 := m ((c.tc : Thread nD τ).loc main_arg5)
/-- The second weights. -/
abbrev aDown : FVec Ideal S8x512x1024 .bf16 := m ((c.tc : Thread nD τ).loc main_arg6)
/-- The weights of the norm after the MLP. -/
abbrev aPost : FVec Ideal S1x1024 .f32 := m ((c.tc : Thread nD τ).loc main_arg7)

/-- The grid has thirty-two points. -/
theorem lt32 (t : Fin cfg0.N) : t.val < 32 := lt_of_lt_of_eq t.isLt N_0
/-- A position of a point's tile. -/
def pos (t : Fin cfg0.N) (r : Fin 256) : Fin 8192 := ⟨256 * t.val + r.val, by have := lt32 t; omega⟩
/-- The block of the output's gradients' window. -/
theorem at0 : ∀ t : Fin cfg0.N, win0_0.index t = ![t.val, 0] := by decide +kernel
/-- The block of the second product's window. -/
theorem at1 : ∀ t : Fin cfg0.N, win0_1.index t = ![t.val, 0] := by decide +kernel
/-- The block of the residual stream's window. -/
theorem at2 : ∀ t : Fin cfg0.N, win0_2.index t = ![t.val, 0] := by decide +kernel
/-- The block of the activations' window. -/
theorem at3 : ∀ t : Fin cfg0.N, win0_3.index t = ![0, t.val, 0] := by decide +kernel
/-- The block of the first norm's weights' window. -/
theorem at4 : ∀ t : Fin cfg0.N, win0_4.index t = ![0, 0] := by decide +kernel
/-- The block of the first weights' window. -/
theorem at5 : ∀ t : Fin cfg0.N, win0_5.index t = ![0, 0, 0] := by decide +kernel
/-- The block of the second weights' window. -/
theorem at6 : ∀ t : Fin cfg0.N, win0_6.index t = ![0, 0, 0] := by decide +kernel
/-- The block of the second norm's weights' window. -/
theorem at7 : ∀ t : Fin cfg0.N, win0_7.index t = ![0, 0] := by decide +kernel
/-- The block of the first result's window. -/
theorem at8 : ∀ t : Fin cfg0.N, win0_8.index t = ![t.val, 0] := by decide +kernel
/-- The block of the activations' gradients' window. -/
theorem at9 : ∀ t : Fin cfg0.N, win0_9.index t = ![0, t.val, 0] := by decide +kernel
/-- The block of the second product's gradients' window. -/
theorem at10 : ∀ t : Fin cfg0.N, win0_10.index t = ![t.val, 0] := by decide +kernel
/-- The block of the second norm's weights' gradient's window. -/
theorem at11 : ∀ t : Fin cfg0.N, win0_11.index t = ![0, 0] := by decide +kernel
/-- The block of the first norm's weights' gradient's window. -/
theorem at12 : ∀ t : Fin cfg0.N, win0_12.index t = ![0, 0] := by decide +kernel
/-- The block of the output's gradients' window, at an index. -/
theorem i0_at (t : Fin cfg0.N) (p : Fin 256) (q : Fin 1024) : iblk m c 0 t (ix2 p q) = aDy m c (ix2 (pos t p) q) := by
  refine Eq.trans ?_ (congrFun (V_main_arg0 m c) _)
  unfold pos
  blk_ext [iblk, at0 t]
/-- The block of the second product's window, at an index. -/
theorem i1_at (t : Fin cfg0.N) (p : Fin 256) (q : Fin 1024) : iblk m c 1 t (ix2 p q) = aD m c (ix2 (pos t p) q) := by
  refine Eq.trans ?_ (congrFun (V_main_arg1 m c) _)
  unfold pos
  blk_ext [iblk, at1 t]
/-- The block of the residual stream's window, at an index. -/
theorem i2_at (t : Fin cfg0.N) (p : Fin 256) (q : Fin 1024) : iblk m c 2 t (ix2 p q) = aH m c (ix2 (pos t p) q) := by
  refine Eq.trans ?_ (congrFun (V_main_arg2 m c) _)
  unfold pos
  blk_ext [iblk, at2 t]
/-- The block of the activations' window, at an index. -/
theorem i3_at (t : Fin cfg0.N) (j : Fin 8) (p : Fin 256) (r : Fin 512) : iblk m c 3 t (ix3 j p r) = aA m c (ix3 j (pos t p) r) := by
  refine Eq.trans ?_ (congrFun (V_main_arg3 m c) _)
  unfold pos
  blk_ext [iblk, at3 t]
/-- The block of the first norm's weights' window, at an index. -/
theorem i4_at (t : Fin cfg0.N) (q : Fin 1024) : iblk m c 4 t (ix2 0 q) = aPre m c (ix2 0 q) := by
  refine Eq.trans ?_ (congrFun (V_main_arg4 m c) _)
  blk_ext [iblk, at4 t]
/-- The block of the first weights' window, at an index. -/
theorem i5_at (t : Fin cfg0.N) (j : Fin 8) (q : Fin 1024) (r : Fin 512) : iblk m c 5 t (ix3 j q r) = aUp m c (ix3 j q r) := by
  refine Eq.trans ?_ (congrFun (V_main_arg5 m c) _)
  blk_ext [iblk, at5 t]
/-- The block of the second weights' window, at an index. -/
theorem i6_at (t : Fin cfg0.N) (j : Fin 8) (r : Fin 512) (q : Fin 1024) : iblk m c 6 t (ix3 j r q) = aDown m c (ix3 j r q) := by
  refine Eq.trans ?_ (congrFun (V_main_arg6 m c) _)
  blk_ext [iblk, at6 t]
/-- The block of the second norm's weights' window, at an index. -/
theorem i7_at (t : Fin cfg0.N) (q : Fin 1024) : iblk m c 7 t (ix2 0 q) = aPost m c (ix2 0 q) := by
  refine Eq.trans ?_ (congrFun (V_main_arg7 m c) _)
  blk_ext [iblk, at7 t]

/-- The reference's gradients of the second product. -/
abbrev rDd : FVec Ideal S8192x1024 .f32 := Cert.BackRefIdeal.Hand.back (aD m c) (aDy m c) (aPost m c)
/-- The reference's gradients of the activations. -/
abbrev rDa : FVec Ideal S8x8192x512 .f32 := Cert.BackRefIdeal.Hand.da (rDd m c) (aDown m c) (aA m c)
/-- The reference's gradients of the first product's input. -/
abbrev rDm : FVec Ideal S8192x1024 .f32 := Cert.BackRefIdeal.Hand.dm (rDa m c) (aUp m c)
/-- The reference's first result. -/
abbrev rO : FVec Ideal S8192x1024 .f32 := addf (aDy m c) (Cert.BackRefIdeal.Hand.back (aH m c) (rDm m c) (aPre m c))
/-- A position's part of the gradient of the second norm's weights. -/
def fPost (q : Fin 1024) (s : Fin 8192) : EReal := aDy m c (ix2 s q) * Cert.BackRefIdeal.Hand.unit (aD m c) (ix2 s q)
/-- A position's part of the gradient of the first norm's weights. -/
def fPre (q : Fin 1024) (s : Fin 8192) : EReal := rDm m c (ix2 s q) * Cert.BackRefIdeal.Hand.unit (aH m c) (ix2 s q)

/-- A tile's gradients of the second product are the reference's. -/
theorem dd_eq (t : Fin cfg0.N) (p : Fin 256) (q : Fin 1024) : k0_pay8 (iblk m c 0 t) (iblk m c 1 t) (iblk m c 7 t) (ix2 p q) = rDd m c (ix2 (pos t p) q) := by
  rw [dd_at, rDd, Cert.BackRefIdeal.Hand.back_at]
  simp only [i0_at, i1_at, i7_at]
/-- A tile's gradients of the activations are the reference's. -/
theorem da_eq (t : Fin cfg0.N) (j : Fin 8) (p : Fin 256) (r : Fin 512) :
    tDa (iblk m c 0 t) (iblk m c 1 t) (iblk m c 3 t) (iblk m c 6 t) (iblk m c 7 t) j (ix2 p r) = rDa m c (ix3 j (pos t p) r) := by
  rw [tDa, da_at, rDa, Cert.BackRefIdeal.Hand.da_at]
  simp only [dd_eq, b6_at, b3_at, i6_at, i3_at]
/-- A tile's gradients of the first product's input are the reference's. -/
theorem dm_eq (t : Fin cfg0.N) (p : Fin 256) (q : Fin 1024) :
    tDm (iblk m c 0 t) (iblk m c 1 t) (iblk m c 3 t) (iblk m c 5 t) (iblk m c 6 t) (iblk m c 7 t) (ix2 p q) = rDm m c (ix2 (pos t p) q) := by
  rw [tDm_at, rDm, Cert.BackRefIdeal.Hand.dm_at]
  simp only [da_eq, i5_at]
/-- A tile's first result is the reference's. -/
theorem o_eq (t : Fin cfg0.N) (p : Fin 256) (q : Fin 1024) :
    k0_pay3 (iblk m c 0 t) (nback (iblk m c 2 t) (iblk m c 4 t) (tDm (iblk m c 0 t) (iblk m c 1 t) (iblk m c 3 t) (iblk m c 5 t) (iblk m c 6 t) (iblk m c 7 t))) (ix2 p q) = rO m c (ix2 (pos t p) q) := by
  refine Eq.trans ?_ (congrArg (aDy m c (ix2 (pos t p) q) + ·) (Cert.BackRefIdeal.Hand.back_at (aH m c) (rDm m c) (aPre m c) (pos t p) q).symm)
  rw [first_at]
  simp only [dm_eq, i0_at, i2_at, i4_at]
/-- A tile's part of the gradient of the second norm's weights. -/
theorem post_eq (t : Fin cfg0.N) (q : Fin 1024) :
    tsum (iblk m c 1 t) (iblk m c 0 t) q = ∑ r : Fin 256, fPost m c q (pos t r) := by
  refine Finset.sum_congr rfl fun r _ => ?_
  rw [fPost, Cert.BackRefIdeal.Hand.unit_at]
  simp only [i0_at, i1_at]
/-- A tile's part of the gradient of the first norm's weights. -/
theorem pre_eq (t : Fin cfg0.N) (q : Fin 1024) :
    tsum (iblk m c 2 t) (tDm (iblk m c 0 t) (iblk m c 1 t) (iblk m c 3 t) (iblk m c 5 t) (iblk m c 6 t) (iblk m c 7 t)) q = ∑ r : Fin 256, fPre m c q (pos t r) := by
  refine Finset.sum_congr rfl fun r _ => ?_
  rw [fPre, Cert.BackRefIdeal.Hand.unit_at]
  simp only [dm_eq, i2_at]

/-- The sum over a tile's positions, by the tile's number. -/
def tile (f : Fin 8192 → EReal) (n : ℕ) : EReal := if h : n < 32 then ∑ r : Fin 256, f ⟨256 * n + r.val, by omega⟩ else 0
/-- The sum over a point's tile. -/
theorem tile_eq (f : Fin 8192 → EReal) (t : Fin cfg0.N) : tile f t.val = ∑ r : Fin 256, f (pos t r) := dif_pos (lt32 t)
/-- The sums over all the tiles are together the sum over all the positions. -/
theorem tiles_eq (f : Fin 8192 → EReal) : ∑ n ∈ Finset.range 32, tile f n = ∑ s, f s := by
  rw [Finset.sum_range]
  refine Eq.trans ?_ (Equiv.sum_comp (finProdFinEquiv (m := 32) (n := 256)) f)
  rw [Fintype.sum_prod_type]
  refine Finset.sum_congr rfl fun n _ => (dif_pos n.isLt).trans (Finset.sum_congr rfl fun r _ => congrArg f (Fin.ext ?_))
  show 256 * n.val + r.val = r.val + 256 * n.val
  omega

/-- What a point leaves in the block of the first result. -/
theorem out8 (t : Fin cfg0.N) : (outsAt0 m c t.val t.isLt).1 = k0_pay3 (iblk m c 0 t) (nback (iblk m c 2 t) (iblk m c 4 t) (tDm (iblk m c 0 t) (iblk m c 1 t) (iblk m c 3 t) (iblk m c 5 t) (iblk m c 6 t) (iblk m c 7 t))) := by
  have ht := lt32 t
  by_cases h : t.val = 0
  · rw [outsAt0_A m c t (by omega) (by omega) (by omega) (by omega)]
    dsimp only
    rw [A8]
  · rw [outsAt0_B m c t (by omega) (by omega) (by omega) (by omega)]
    dsimp only
    rw [B8]
/-- What a point leaves in the block of the gradients of the activations. -/
theorem out9 (t : Fin cfg0.N) : (outsAt0 m c t.val t.isLt).2.1 = tDas (iblk m c 0 t) (iblk m c 1 t) (iblk m c 3 t) (iblk m c 6 t) (iblk m c 7 t) := by
  have ht := lt32 t
  by_cases h : t.val = 0
  · rw [outsAt0_A m c t (by omega) (by omega) (by omega) (by omega)]
    dsimp only
    rw [A9]
  · rw [outsAt0_B m c t (by omega) (by omega) (by omega) (by omega)]
    dsimp only
    rw [B9]
/-- What a point leaves in the block of the gradients of the second product. -/
theorem out10 (t : Fin cfg0.N) : (outsAt0 m c t.val t.isLt).2.2.1 = k0_pay8 (iblk m c 0 t) (iblk m c 1 t) (iblk m c 7 t) := by
  have ht := lt32 t
  by_cases h : t.val = 0
  · rw [outsAt0_A m c t (by omega) (by omega) (by omega) (by omega)]
    dsimp only
    rw [A10]
  · rw [outsAt0_B m c t (by omega) (by omega) (by omega) (by omega)]
    dsimp only
    rw [B10]
/-- The running gradient of the second norm's weights after a point: the sum over the tiles so far. -/
theorem out11 (q : Fin 1024) : ∀ (n : ℕ) (hn : n < cfg0.N), (outsAt0 m c n hn).2.2.2.1 (ix2 0 q) = ∑ i ∈ Finset.range (n + 1), tile (fPost m c q) i := by
  intro n
  induction n with
  | zero =>
    intro hn
    rw [outsAt0_A m c ⟨0, hn⟩ (by rfl) (Nat.not_succ_le_zero 0) (by rfl) (Nat.not_succ_le_zero 0)]
    dsimp only
    rw [A11, post_at, post_eq, ← tile_eq, Finset.sum_range_one]
  | succ n ih =>
    intro hn
    have h32 : n + 1 < 32 := lt_of_lt_of_eq hn N_0
    rw [outsAt0_B m c ⟨n + 1, hn⟩ (by show ¬(n + 1) % 32 = 0; omega) (by show 1 ≤ n + 1; omega) (by show ¬(n + 1) % 32 = 0; omega) (by show 1 ≤ n + 1; omega)]
    dsimp only
    rw [B11, posts_at, post_eq, ← tile_eq, Finset.sum_range_succ _ (n + 1)]
    exact congrArg (· + tile (fPost m c q) (n + 1)) (ih _)
/-- The running gradient of the first norm's weights after a point: the sum over the tiles so far. -/
theorem out12 (q : Fin 1024) : ∀ (n : ℕ) (hn : n < cfg0.N), (outsAt0 m c n hn).2.2.2.2 (ix2 0 q) = ∑ i ∈ Finset.range (n + 1), tile (fPre m c q) i := by
  intro n
  induction n with
  | zero =>
    intro hn
    rw [outsAt0_A m c ⟨0, hn⟩ (by rfl) (Nat.not_succ_le_zero 0) (by rfl) (Nat.not_succ_le_zero 0)]
    dsimp only
    rw [A12, cols_at, pre_eq, ← tile_eq, Finset.sum_range_one]
  | succ n ih =>
    intro hn
    have h32 : n + 1 < 32 := lt_of_lt_of_eq hn N_0
    rw [outsAt0_B m c ⟨n + 1, hn⟩ (by show ¬(n + 1) % 32 = 0; omega) (by show 1 ≤ n + 1; omega) (by show ¬(n + 1) % 32 = 0; omega) (by show 1 ≤ n + 1; omega)]
    dsimp only
    rw [B12, more_at, pre_eq, ← tile_eq, Finset.sum_range_succ _ (n + 1)]
    exact congrArg (· + tile (fPre m c q) (n + 1)) (ih _)
/-- The first result's array after the run. -/
theorem arr8 : (dats m 0 c).arrAt 8 cfg0.N = rO m c := by
  refine (dats m 0 c).arrAt_eq_of_covers 8 _ (by decide +kernel) fun t hf y => ?_
  blk_simp
  rw [after0_8]
  idx_vars y
  refine (congrFun (out8 m c t) _).trans ((o_eq m c t _ _).trans ?_)
  unfold pos
  refine congrArg (rO m c) ?_
  blk_ext [at8 t]
/-- The activations' gradients' array after the run. -/
theorem arr9 : (dats m 0 c).arrAt 9 cfg0.N = Cert.BackRefIdeal.Hand.stack (rDa m c) := by
  refine (dats m 0 c).arrAt_eq_of_covers 9 _ (by decide +kernel) fun t hf y => ?_
  blk_simp
  rw [after0_9]
  idx_vars y
  refine (congrFun (out9 m c t) _).trans ((da_eq m c t _ _ _).trans ?_)
  unfold pos
  refine congrArg (rDa m c) ?_
  blk_ext [at9 t]
/-- The second product's gradients' array after the run. -/
theorem arr10 : (dats m 0 c).arrAt 10 cfg0.N = Cert.BackRefIdeal.Hand.rows (rDd m c) := by
  refine (dats m 0 c).arrAt_eq_of_covers 10 _ (by decide +kernel) fun t hf y => ?_
  blk_simp
  rw [after0_10]
  idx_vars y
  refine (congrFun (out10 m c t) _).trans ((dd_eq m c t _ _).trans ?_)
  unfold pos
  refine congrArg (rDd m c) ?_
  blk_ext [at10 t]
/-- The array of the gradient of the second norm's weights after the run. -/
theorem arr11 : (dats m 0 c).arrAt 11 cfg0.N = Cert.BackRefIdeal.Hand.dw (aD m c) (aDy m c) := by
  refine (dats m 0 c).arrAt_eq_of_covers 11 _ (by decide +kernel) fun t hf y => ?_
  blk_simp
  rw [after0_11]
  have ht : t.val = 31 := by have := (flush0_11 t).1 hf; have := lt32 t; omega
  idx_vars y
  obtain rfl : y0 = (0 : Fin 1) := Subsingleton.elim _ _
  refine (out11 m c _ t.val t.isLt).trans (Eq.trans ?_ (Eq.trans (Cert.BackRefIdeal.Hand.dw_at (aD m c) (aDy m c) y1).symm ?_))
  · rw [ht, tiles_eq]
    exact Finset.sum_congr rfl fun s _ => mul_comm _ _
  · refine congrArg (Cert.BackRefIdeal.Hand.dw (aD m c) (aDy m c)) ?_
    blk_ext [at11 t]
/-- The array of the gradient of the first norm's weights after the run. -/
theorem arr12 : (dats m 0 c).arrAt 12 cfg0.N = Cert.BackRefIdeal.Hand.dw (aH m c) (rDm m c) := by
  refine (dats m 0 c).arrAt_eq_of_covers 12 _ (by decide +kernel) fun t hf y => ?_
  blk_simp
  rw [after0_12]
  have ht : t.val = 31 := by have := (flush0_12 t).1 hf; have := lt32 t; omega
  idx_vars y
  obtain rfl : y0 = (0 : Fin 1) := Subsingleton.elim _ _
  refine (out12 m c _ t.val t.isLt).trans (Eq.trans ?_ (Eq.trans (Cert.BackRefIdeal.Hand.dw_at (aH m c) (rDm m c) y1).symm ?_))
  · rw [ht, tiles_eq]
    exact Finset.sum_congr rfl fun s _ => mul_comm _ _
  · refine congrArg (Cert.BackRefIdeal.Hand.dw (aH m c) (rDm m c)) ?_
    blk_ext [at12 t]

/-- Every run ends with the reference's five results and the arguments as they were. -/
theorem run_value : θ_run defs (onTc (τ := τ) (main (F := Ideal))) ⟨m, fun _ => 0, ρ⟩ (fun r => ∀ c : Dev nD,
      r.2.mem ((c.tc : Thread nD τ).loc main_v0_0) = rO m c
      ∧ r.2.mem ((c.tc : Thread nD τ).loc main_v0_1) = Cert.BackRefIdeal.Hand.stack (rDa m c)
      ∧ r.2.mem ((c.tc : Thread nD τ).loc main_v0_2) = Cert.BackRefIdeal.Hand.rows (rDd m c)
      ∧ r.2.mem ((c.tc : Thread nD τ).loc main_v0_3) = Cert.BackRefIdeal.Hand.dw (aD m c) (aDy m c)
      ∧ r.2.mem ((c.tc : Thread nD τ).loc main_v0_4) = Cert.BackRefIdeal.Hand.dw (aH m c) (rDm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (arr8 m c), (h c).2.1.trans (arr9 m c), (h c).2.2.1.trans (arr10 m c), (h c).2.2.2.1.trans (arr11 m c), (h c).2.2.2.2.1.trans (arr12 m c), (h c).2.2.2.2.2⟩)
    (Value.run_blocks m ρ)

end Cert.BackIdeal.Hand

end
-- ==== Proof.W.In.lean ====
module

public import proofs.«01_k».proof.Proof.Gen.InIdeal.Value
public import proofs.«01_k».proof.Proof.Gen.InRefIdeal.Run
public import proofs.«01_k».proof.Proof.W.Halves
public import Idealize.ShloMosaic.Lib.Pipeline.ValueKit

/-!
The gradient of the input projection's weights. The kernel sums over the positions in two halves, the first kept in the result's block; the reference sums
over all of them at once.
-/

@[expose] public section

set_option maxRecDepth 16384

noncomputable section

namespace Cert.InRefIdeal.Hand

open Cert.InRefIdeal Cert.InRefIdeal.Gen
open Idealize.ShloMosaic Idealize.ShloMosaic.TcCoe Idealize.ShloMosaic.Tactic Idealize.SL.Sem

/-- The reference's result, of its two arguments. -/
def dw (a : FVec Ideal S8192x1024 .bf16) (d : FVec Ideal S8192x2688 .bf16) : FVec Ideal S1024x2688 .f32 :=
  transpose S1024x2688 [1, 0] (Host.dotGeneral dot_S8192x2688_S8192x1024_S2688x1024_0_0_1_1_n_n none (extf .f32 d bitsLt_bf16_f32) (extf .f32 a bitsLt_bf16_f32)) transposes_S2688x1024_S1024x2688_1_0

/-- The reference's result at an index. -/
theorem dw_at (a : FVec Ideal S8192x1024 .bf16) (d : FVec Ideal S8192x2688 .bf16) (p : Fin 1024) (q : Fin 2688) :
    dw a d (ix2 p q) = ∑ s : Fin 8192, a (ix2 s p) * d (ix2 s q) := by
  pointwise [dw]
  exact Finset.sum_congr rfl fun s _ => mul_comm _ _

end Cert.InRefIdeal.Hand

namespace Cert.InIdeal.Hand

open Cert.InIdeal Cert.InIdeal.Gen
open Idealize.ShloMosaic Idealize.ShloMosaic.TcCoe Idealize.ShloMosaic.Tactic Idealize.SL.Sem
open Cert.InRefIdeal.Hand (dw dw_at)
open Cert.Halves (o2 pos)

section
variable (c : Dev nD) (i : grid0.Coords) (a2 : Memref sig .tc .vmem S4096x1024 .bf16) (h2 : a2.IsWhole) (a3 : Memref sig .tc .vmem S4096x896 .bf16) (h3 : a3.IsWhole)
  (a4 : Memref sig .tc .vmem S1024x896 .f32) (h4 : a4.IsWhole) (x : Vec Ideal S4096x1024 .bf16) (y : Vec Ideal S4096x896 .bf16) (s : Vec Ideal S1024x896 .f32)

/-- The first half's point leaves its product in the result's block. -/
theorem first_out (c0 : cond0_0 i) (c1 : ¬cond0_1 i) :
    out0_A_2 c i a2 h2 a3 h3 a4 h4 c0 c1 x y = k0_pay1 x y := by
  unfold out0_A_2
  rw [View.read_writes_eq_canon _ _ _ (cover0_A_2 c i a2 h2 a3 h3 a4 h4 c0 c1 x y)]
  unfold kernelRun0_A
  dsimp only
  rw [View.canon_unit_zero o2]
  simp only [View.readAt_eq_ld, h2.read_unread, h3.read_unread, View.ld_unit_zero (S := S4096x1024) o2, View.ld_unit_zero (S := S4096x896) o2]

/-- The second half's point leaves the block plus its product. -/
theorem second_out (c0 : ¬cond0_0 i) (c1 : cond0_1 i) :
    out0_B_2 c i a2 h2 a3 h3 a4 h4 c0 c1 x y s = k0_pay2 x y s := by
  unfold out0_B_2
  rw [View.read_writes_eq_canon _ _ _ (cover0_B_2 c i a2 h2 a3 h3 a4 h4 c0 c1 x y s)]
  unfold kernelRun0_B
  dsimp only
  rw [View.canon_unit_zero o2]
  simp only [View.readAt_eq_ld, h2.read_unread, h3.read_unread, h4.read_unread, View.ld_unit_zero (S := S4096x1024) o2, View.ld_unit_zero (S := S4096x896) o2, View.ld_unit_zero (S := S1024x896) o2]

/-- A half's product at an index. -/
theorem half_at (p : Fin 1024) (q : Fin 896) :
    k0_pay1 x y (ix2 p q) = ∑ r : Fin 4096, x (ix2 r p) * y (ix2 r q) := by
  pointwise [k0_pay1]
/-- What the second half stores, at an index. -/
theorem both_at (p : Fin 1024) (q : Fin 896) :
    k0_pay2 x y s (ix2 p q) = s (ix2 p q) + ∑ r : Fin 4096, x (ix2 r p) * y (ix2 r q) := by
  pointwise [k0_pay2]
  rw [half_at]

end

variable (m : (ℓ : Loc nD τ sig) → Buf (Elt Ideal) ℓ) (ρ : Dev nD → PrngReg) (c : Dev nD)

/-- The product's left factor, a row a position. -/
abbrev aM : FVec Ideal S8192x1024 .bf16 := m ((c.tc : Thread nD τ).loc main_arg0)
/-- The product's cotangent, a row a position. -/
abbrev aD : FVec Ideal S8192x2688 .bf16 := m ((c.tc : Thread nD τ).loc main_arg1)

/-- The number of the grid's points. -/
theorem ltN (t : Fin cfg0.N) : t.val < 2 * 3 := lt_of_lt_of_eq t.isLt N_0
/-- The block of the left factor's window. -/
theorem at0 : ∀ t : Fin cfg0.N, win0_0.index t = ![t.val % 2, 0] := by decide +kernel
/-- The block of the cotangent's window. -/
theorem at1 : ∀ t : Fin cfg0.N, win0_1.index t = ![t.val % 2, t.val / 2] := by decide +kernel
/-- The block of the result's window. -/
theorem at2 : ∀ t : Fin cfg0.N, win0_2.index t = ![0, t.val / 2] := by decide +kernel

/-- A column of a point's block. -/
def col (t : Fin cfg0.N) (q : Fin 896) : Fin 2688 := ⟨896 * (t.val / 2) + q.val, by have := ltN t; omega⟩
/-- The left factor's block at an index. -/
theorem m_at (t : Fin cfg0.N) (r : Fin 4096) (p : Fin 1024) : iblk m c 0 t (ix2 r p) = aM m c (ix2 (pos t.val r) p) := by
  refine Eq.trans ?_ (congrFun (V_main_arg0 m c) _)
  unfold pos
  blk_ext [iblk, at0 t]
/-- The cotangent's block at an index. -/
theorem d_at (t : Fin cfg0.N) (r : Fin 4096) (q : Fin 896) : iblk m c 1 t (ix2 r q) = aD m c (ix2 (pos t.val r) (col t q)) := by
  refine Eq.trans ?_ (congrFun (V_main_arg1 m c) _)
  unfold pos col
  blk_ext [iblk, at1 t]

/-- What a point of the second half leaves in the result's block: the sum over all the positions. -/
theorem blk_at (t : Fin cfg0.N) (ht : t.val % 2 = 1) (p : Fin 1024) (q : Fin 896) :
    outsAt0 m c t.val t.isLt (ix2 p q) = ∑ s : Fin 8192, aM m c (ix2 s p) * aD m c (ix2 s (col t q)) := by
  have hb : t.val - 1 < cfg0.N := Nat.lt_of_le_of_lt (Nat.sub_le _ _) t.isLt
  have h0 : (t.val - 1) % 2 = 0 := by omega
  have hc : col (⟨t.val - 1, hb⟩ : Fin cfg0.N) q = col t q := Fin.ext (by show 896 * ((t.val - 1) / 2) + q.val = 896 * (t.val / 2) + q.val; omega)
  rw [outsAt0_B m c t (by omega) ht, second_out, both_at, outsAt0_A m c ⟨t.val - 1, hb⟩ h0 (by show ¬(t.val - 1) % 2 = 1; omega), first_out, half_at]
  simp only [m_at, d_at, hc]
  exact Cert.Halves.sum_eq t.val ht fun s => aM m c (ix2 s p) * aD m c (ix2 s (col t q))

/-- The result's array after the run is the reference's result. -/
theorem arr2 : (dats m 0 c).arrAt 2 cfg0.N = dw (aM m c) (aD m c) := by
  refine (dats m 0 c).arrAt_eq_of_covers 2 _ (by decide +kernel) fun t hf y => ?_
  blk_simp
  rw [after0_2]
  idx_vars y
  refine (blk_at m c t ((flush0_2 t).1 hf) _ _).trans ((dw_at _ _ _ _).symm.trans ?_)
  unfold col
  refine congrArg (dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.InIdeal.Hand

end
-- ==== Proof.W.Att.lean ====
module

public import proofs.«01_k».proof.Proof.Gen.AttIdeal.Value
public import proofs.«01_k».proof.Proof.Gen.AttRefIdeal.Run
public import proofs.«01_k».proof.Proof.W.Halves
public import Idealize.ShloMosaic.Lib.Pipeline.ValueKit

/-!
The gradient of the output projection's rows of the attention. The kernel sums over the positions in two halves, the first kept in the result's block; the reference sums
over all of them at once.
-/

@[expose] public section

set_option maxRecDepth 16384

noncomputable section

namespace Cert.AttRefIdeal.Hand

open Cert.AttRefIdeal Cert.AttRefIdeal.Gen
open Idealize.ShloMosaic Idealize.ShloMosaic.TcCoe Idealize.ShloMosaic.Tactic Idealize.SL.Sem

/-- The reference's result, of its two arguments. -/
def dw (a : FVec Ideal S8192x1024 .bf16) (d : FVec Ideal S8192x1024 .bf16) : FVec Ideal S1024x1024 .f32 :=
  transpose S1024x1024 [1, 0] (Host.dotGeneral dot_S8192x1024_S8192x1024_S1024x1024_0_0_1_1_n_n none (extf .f32 d bitsLt_bf16_f32) (extf .f32 a bitsLt_bf16_f32)) transposes_S1024x1024_S1024x1024_1_0

/-- The reference's result at an index. -/
theorem dw_at (a : FVec Ideal S8192x1024 .bf16) (d : FVec Ideal S8192x1024 .bf16) (p : Fin 1024) (q : Fin 1024) :
    dw a d (ix2 p q) = ∑ s : Fin 8192, a (ix2 s p) * d (ix2 s q) := by
  pointwise [dw]
  exact Finset.sum_congr rfl fun s _ => mul_comm _ _

end Cert.AttRefIdeal.Hand

namespace Cert.AttIdeal.Hand

open Cert.AttIdeal Cert.AttIdeal.Gen
open Idealize.ShloMosaic Idealize.ShloMosaic.TcCoe Idealize.ShloMosaic.Tactic Idealize.SL.Sem
open Cert.AttRefIdeal.Hand (dw dw_at)
open Cert.Halves (o2 pos)

section
variable (c : Dev nD) (i : grid0.Coords) (a2 : Memref sig .tc .vmem S4096x1024 .bf16) (h2 : a2.IsWhole) (a3 : Memref sig .tc .vmem S4096x1024 .bf16) (h3 : a3.IsWhole)
  (a4 : Memref sig .tc .vmem S1024x1024 .f32) (h4 : a4.IsWhole) (x : Vec Ideal S4096x1024 .bf16) (y : Vec Ideal S4096x1024 .bf16) (s : Vec Ideal S1024x1024 .f32)

/-- The first half's point leaves its product in the result's block. -/
theorem first_out (c0 : cond0_0 i) (c1 : ¬cond0_1 i) :
    out0_A_2 c i a2 h2 a3 h3 a4 h4 c0 c1 x y = k0_pay1 x y := by
  unfold out0_A_2
  rw [View.read_writes_eq_canon _ _ _ (cover0_A_2 c i a2 h2 a3 h3 a4 h4 c0 c1 x y)]
  unfold kernelRun0_A
  dsimp only
  rw [View.canon_unit_zero o2]
  simp only [View.readAt_eq_ld, h2.read_unread, h3.read_unread, View.ld_unit_zero (S := S4096x1024) o2, View.ld_unit_zero (S := S4096x1024) o2]

/-- The second half's point leaves the block plus its product. -/
theorem second_out (c0 : ¬cond0_0 i) (c1 : cond0_1 i) :
    out0_B_2 c i a2 h2 a3 h3 a4 h4 c0 c1 x y s = k0_pay2 x y s := by
  unfold out0_B_2
  rw [View.read_writes_eq_canon _ _ _ (cover0_B_2 c i a2 h2 a3 h3 a4 h4 c0 c1 x y s)]
  unfold kernelRun0_B
  dsimp only
  rw [View.canon_unit_zero o2]
  simp only [View.readAt_eq_ld, h2.read_unread, h3.read_unread, h4.read_unread, View.ld_unit_zero (S := S4096x1024) o2, View.ld_unit_zero (S := S4096x1024) o2, View.ld_unit_zero (S := S1024x1024) o2]

/-- A half's product at an index. -/
theorem half_at (p : Fin 1024) (q : Fin 1024) :
    k0_pay1 x y (ix2 p q) = ∑ r : Fin 4096, x (ix2 r p) * y (ix2 r q) := by
  pointwise [k0_pay1]
/-- What the second half stores, at an index. -/
theorem both_at (p : Fin 1024) (q : Fin 1024) :
    k0_pay2 x y s (ix2 p q) = s (ix2 p q) + ∑ r : Fin 4096, x (ix2 r p) * y (ix2 r q) := by
  pointwise [k0_pay2]
  rw [half_at]

end

variable (m : (ℓ : Loc nD τ sig) → Buf (Elt Ideal) ℓ) (ρ : Dev nD → PrngReg) (c : Dev nD)

/-- The product's left factor, a row a position. -/
abbrev aM : FVec Ideal S8192x1024 .bf16 := m ((c.tc : Thread nD τ).loc main_arg0)
/-- The product's cotangent, a row a position. -/
abbrev aD : FVec Ideal S8192x1024 .bf16 := m ((c.tc : Thread nD τ).loc main_arg1)

/-- The number of the grid's points. -/
theorem ltN (t : Fin cfg0.N) : t.val < 2 * 1 := lt_of_lt_of_eq t.isLt N_0
/-- The block of the left factor's window. -/
theorem at0 : ∀ t : Fin cfg0.N, win0_0.index t = ![t.val % 2, 0] := by decide +kernel
/-- The block of the cotangent's window. -/
theorem at1 : ∀ t : Fin cfg0.N, win0_1.index t = ![t.val % 2, t.val / 2] := by decide +kernel
/-- The block of the result's window. -/
theorem at2 : ∀ t : Fin cfg0.N, win0_2.index t = ![0, t.val / 2] := by decide +kernel

/-- A column of a point's block. -/
def col (t : Fin cfg0.N) (q : Fin 1024) : Fin 1024 := ⟨1024 * (t.val / 2) + q.val, by have := ltN t; omega⟩
/-- The left factor's block at an index. -/
theorem m_at (t : Fin cfg0.N) (r : Fin 4096) (p : Fin 1024) : iblk m c 0 t (ix2 r p) = aM m c (ix2 (pos t.val r) p) := by
  refine Eq.trans ?_ (congrFun (V_main_arg0 m c) _)
  unfold pos
  blk_ext [iblk, at0 t]
/-- The cotangent's block at an index. -/
theorem d_at (t : Fin cfg0.N) (r : Fin 4096) (q : Fin 1024) : iblk m c 1 t (ix2 r q) = aD m c (ix2 (pos t.val r) (col t q)) := by
  refine Eq.trans ?_ (congrFun (V_main_arg1 m c) _)
  unfold pos col
  blk_ext [iblk, at1 t]

/-- What a point of the second half leaves in the result's block: the sum over all the positions. -/
theorem blk_at (t : Fin cfg0.N) (ht : t.val % 2 = 1) (p : Fin 1024) (q : Fin 1024) :
    outsAt0 m c t.val t.isLt (ix2 p q) = ∑ s : Fin 8192, aM m c (ix2 s p) * aD m c (ix2 s (col t q)) := by
  have hb : t.val - 1 < cfg0.N := Nat.lt_of_le_of_lt (Nat.sub_le _ _) t.isLt
  have h0 : (t.val - 1) % 2 = 0 := by omega
  have hc : col (⟨t.val - 1, hb⟩ : Fin cfg0.N) q = col t q := Fin.ext (by show 1024 * ((t.val - 1) / 2) + q.val = 1024 * (t.val / 2) + q.val; omega)
  rw [outsAt0_B m c t (by omega) ht, second_out, both_at, outsAt0_A m c ⟨t.val - 1, hb⟩ h0 (by show ¬(t.val - 1) % 2 = 1; omega), first_out, half_at]
  simp only [m_at, d_at, hc]
  exact Cert.Halves.sum_eq t.val ht fun s => aM m c (ix2 s p) * aD m c (ix2 s (col t q))

/-- The result's array after the run is the reference's result. -/
theorem arr2 : (dats m 0 c).arrAt 2 cfg0.N = dw (aM m c) (aD m c) := by
  refine (dats m 0 c).arrAt_eq_of_covers 2 _ (by decide +kernel) fun t hf y => ?_
  blk_simp
  rw [after0_2]
  idx_vars y
  refine (blk_at m c t ((flush0_2 t).1 hf) _ _).trans ((dw_at _ _ _ _).symm.trans ?_)
  unfold col
  refine congrArg (dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.AttIdeal.Hand

end
-- ==== Proof.W.Ssd.lean ====
module

public import proofs.«01_k».proof.Proof.Gen.SsdIdeal.Value
public import proofs.«01_k».proof.Proof.Gen.SsdRefIdeal.Run
public import proofs.«01_k».proof.Proof.W.Halves
public import Idealize.ShloMosaic.Lib.Pipeline.ValueKit

/-!
The gradient of the output projection's rows of the scan. The kernel sums over the positions in two halves, the first kept in the result's block; the reference sums
over all of them at once.
-/

@[expose] public section

set_option maxRecDepth 16384

noncomputable section

namespace Cert.SsdRefIdeal.Hand

open Cert.SsdRefIdeal Cert.SsdRefIdeal.Gen
open Idealize.ShloMosaic Idealize.ShloMosaic.TcCoe Idealize.ShloMosaic.Tactic Idealize.SL.Sem

/-- The reference's result, of its two arguments. -/
def dw (a : FVec Ideal S8192x512 .bf16) (d : FVec Ideal S8192x1024 .bf16) : FVec Ideal S512x1024 .f32 :=
  transpose S512x1024 [1, 0] (Host.dotGeneral dot_S8192x1024_S8192x512_S1024x512_0_0_1_1_n_n none (extf .f32 d bitsLt_bf16_f32) (extf .f32 a bitsLt_bf16_f32)) transposes_S1024x512_S512x1024_1_0

/-- The reference's result at an index. -/
theorem dw_at (a : FVec Ideal S8192x512 .bf16) (d : FVec Ideal S8192x1024 .bf16) (p : Fin 512) (q : Fin 1024) :
    dw a d (ix2 p q) = ∑ s : Fin 8192, a (ix2 s p) * d (ix2 s q) := by
  pointwise [dw]
  exact Finset.sum_congr rfl fun s _ => mul_comm _ _

end Cert.SsdRefIdeal.Hand

namespace Cert.SsdIdeal.Hand

open Cert.SsdIdeal Cert.SsdIdeal.Gen
open Idealize.ShloMosaic Idealize.ShloMosaic.TcCoe Idealize.ShloMosaic.Tactic Idealize.SL.Sem
open Cert.SsdRefIdeal.Hand (dw dw_at)
open Cert.Halves (o2 pos)

section
variable (c : Dev nD) (i : grid0.Coords) (a2 : Memref sig .tc .vmem S4096x512 .bf16) (h2 : a2.IsWhole) (a3 : Memref sig .tc .vmem S4096x1024 .bf16) (h3 : a3.IsWhole)
  (a4 : Memref sig .tc .vmem S512x1024 .f32) (h4 : a4.IsWhole) (x : Vec Ideal S4096x512 .bf16) (y : Vec Ideal S4096x1024 .bf16) (s : Vec Ideal S512x1024 .f32)

/-- The first half's point leaves its product in the result's block. -/
theorem first_out (c0 : cond0_0 i) (c1 : ¬cond0_1 i) :
    out0_A_2 c i a2 h2 a3 h3 a4 h4 c0 c1 x y = k0_pay1 x y := by
  unfold out0_A_2
  rw [View.read_writes_eq_canon _ _ _ (cover0_A_2 c i a2 h2 a3 h3 a4 h4 c0 c1 x y)]
  unfold kernelRun0_A
  dsimp only
  rw [View.canon_unit_zero o2]
  simp only [View.readAt_eq_ld, h2.read_unread, h3.read_unread, View.ld_unit_zero (S := S4096x512) o2, View.ld_unit_zero (S := S4096x1024) o2]

/-- The second half's point leaves the block plus its product. -/
theorem second_out (c0 : ¬cond0_0 i) (c1 : cond0_1 i) :
    out0_B_2 c i a2 h2 a3 h3 a4 h4 c0 c1 x y s = k0_pay2 x y s := by
  unfold out0_B_2
  rw [View.read_writes_eq_canon _ _ _ (cover0_B_2 c i a2 h2 a3 h3 a4 h4 c0 c1 x y s)]
  unfold kernelRun0_B
  dsimp only
  rw [View.canon_unit_zero o2]
  simp only [View.readAt_eq_ld, h2.read_unread, h3.read_unread, h4.read_unread, View.ld_unit_zero (S := S4096x512) o2, View.ld_unit_zero (S := S4096x1024) o2, View.ld_unit_zero (S := S512x1024) o2]

/-- A half's product at an index. -/
theorem half_at (p : Fin 512) (q : Fin 1024) :
    k0_pay1 x y (ix2 p q) = ∑ r : Fin 4096, x (ix2 r p) * y (ix2 r q) := by
  pointwise [k0_pay1]
/-- What the second half stores, at an index. -/
theorem both_at (p : Fin 512) (q : Fin 1024) :
    k0_pay2 x y s (ix2 p q) = s (ix2 p q) + ∑ r : Fin 4096, x (ix2 r p) * y (ix2 r q) := by
  pointwise [k0_pay2]
  rw [half_at]

end

variable (m : (ℓ : Loc nD τ sig) → Buf (Elt Ideal) ℓ) (ρ : Dev nD → PrngReg) (c : Dev nD)

/-- The product's left factor, a row a position. -/
abbrev aM : FVec Ideal S8192x512 .bf16 := m ((c.tc : Thread nD τ).loc main_arg0)
/-- The product's cotangent, a row a position. -/
abbrev aD : FVec Ideal S8192x1024 .bf16 := m ((c.tc : Thread nD τ).loc main_arg1)

/-- The number of the grid's points. -/
theorem ltN (t : Fin cfg0.N) : t.val < 2 * 1 := lt_of_lt_of_eq t.isLt N_0
/-- The block of the left factor's window. -/
theorem at0 : ∀ t : Fin cfg0.N, win0_0.index t = ![t.val % 2, 0] := by decide +kernel
/-- The block of the cotangent's window. -/
theorem at1 : ∀ t : Fin cfg0.N, win0_1.index t = ![t.val % 2, t.val / 2] := by decide +kernel
/-- The block of the result's window. -/
theorem at2 : ∀ t : Fin cfg0.N, win0_2.index t = ![0, t.val / 2] := by decide +kernel

/-- A column of a point's block. -/
def col (t : Fin cfg0.N) (q : Fin 1024) : Fin 1024 := ⟨1024 * (t.val / 2) + q.val, by have := ltN t; omega⟩
/-- The left factor's block at an index. -/
theorem m_at (t : Fin cfg0.N) (r : Fin 4096) (p : Fin 512) : iblk m c 0 t (ix2 r p) = aM m c (ix2 (pos t.val r) p) := by
  refine Eq.trans ?_ (congrFun (V_main_arg0 m c) _)
  unfold pos
  blk_ext [iblk, at0 t]
/-- The cotangent's block at an index. -/
theorem d_at (t : Fin cfg0.N) (r : Fin 4096) (q : Fin 1024) : iblk m c 1 t (ix2 r q) = aD m c (ix2 (pos t.val r) (col t q)) := by
  refine Eq.trans ?_ (congrFun (V_main_arg1 m c) _)
  unfold pos col
  blk_ext [iblk, at1 t]

/-- What a point of the second half leaves in the result's block: the sum over all the positions. -/
theorem blk_at (t : Fin cfg0.N) (ht : t.val % 2 = 1) (p : Fin 512) (q : Fin 1024) :
    outsAt0 m c t.val t.isLt (ix2 p q) = ∑ s : Fin 8192, aM m c (ix2 s p) * aD m c (ix2 s (col t q)) := by
  have hb : t.val - 1 < cfg0.N := Nat.lt_of_le_of_lt (Nat.sub_le _ _) t.isLt
  have h0 : (t.val - 1) % 2 = 0 := by omega
  have hc : col (⟨t.val - 1, hb⟩ : Fin cfg0.N) q = col t q := Fin.ext (by show 1024 * ((t.val - 1) / 2) + q.val = 1024 * (t.val / 2) + q.val; omega)
  rw [outsAt0_B m c t (by omega) ht, second_out, both_at, outsAt0_A m c ⟨t.val - 1, hb⟩ h0 (by show ¬(t.val - 1) % 2 = 1; omega), first_out, half_at]
  simp only [m_at, d_at, hc]
  exact Cert.Halves.sum_eq t.val ht fun s => aM m c (ix2 s p) * aD m c (ix2 s (col t q))

/-- The result's array after the run is the reference's result. -/
theorem arr2 : (dats m 0 c).arrAt 2 cfg0.N = dw (aM m c) (aD m c) := by
  refine (dats m 0 c).arrAt_eq_of_covers 2 _ (by decide +kernel) fun t hf y => ?_
  blk_simp
  rw [after0_2]
  idx_vars y
  refine (blk_at m c t ((flush0_2 t).1 hf) _ _).trans ((dw_at _ _ _ _).symm.trans ?_)
  unfold col
  refine congrArg (dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.SsdIdeal.Hand

end
-- ==== Proof.W.Uq.lean ====
module

public import proofs.«01_k».proof.Proof.Gen.UqIdeal.Value
public import proofs.«01_k».proof.Proof.Gen.UqRefIdeal.Run
public import proofs.«01_k».proof.Proof.W.Halves
public import Idealize.ShloMosaic.Lib.Pipeline.ValueKit

/-!
The gradient of the query projection's weights. The kernel sums over the positions in two halves, the first kept in the result's block; the reference sums
over all of them at once.
-/

@[expose] public section

set_option maxRecDepth 16384

noncomputable section

namespace Cert.UqRefIdeal.Hand

open Cert.UqRefIdeal Cert.UqRefIdeal.Gen
open Idealize.ShloMosaic Idealize.ShloMosaic.TcCoe Idealize.ShloMosaic.Tactic Idealize.SL.Sem

/-- The reference's result, of its two arguments. -/
def dw (a : FVec Ideal S8192x768 .bf16) (d : FVec Ideal S8192x1024 .bf16) : FVec Ideal S768x1024 .f32 :=
  transpose S768x1024 [1, 0] (Host.dotGeneral dot_S8192x1024_S8192x768_S1024x768_0_0_1_1_n_n none (extf .f32 d bitsLt_bf16_f32) (extf .f32 a bitsLt_bf16_f32)) transposes_S1024x768_S768x1024_1_0

/-- The reference's result at an index. -/
theorem dw_at (a : FVec Ideal S8192x768 .bf16) (d : FVec Ideal S8192x1024 .bf16) (p : Fin 768) (q : Fin 1024) :
    dw a d (ix2 p q) = ∑ s : Fin 8192, a (ix2 s p) * d (ix2 s q) := by
  pointwise [dw]
  exact Finset.sum_congr rfl fun s _ => mul_comm _ _

end Cert.UqRefIdeal.Hand

namespace Cert.UqIdeal.Hand

open Cert.UqIdeal Cert.UqIdeal.Gen
open Idealize.ShloMosaic Idealize.ShloMosaic.TcCoe Idealize.ShloMosaic.Tactic Idealize.SL.Sem
open Cert.UqRefIdeal.Hand (dw dw_at)
open Cert.Halves (o2 pos)

section
variable (c : Dev nD) (i : grid0.Coords) (a2 : Memref sig .tc .vmem S4096x768 .bf16) (h2 : a2.IsWhole) (a3 : Memref sig .tc .vmem S4096x1024 .bf16) (h3 : a3.IsWhole)
  (a4 : Memref sig .tc .vmem S768x1024 .f32) (h4 : a4.IsWhole) (x : Vec Ideal S4096x768 .bf16) (y : Vec Ideal S4096x1024 .bf16) (s : Vec Ideal S768x1024 .f32)

/-- The first half's point leaves its product in the result's block. -/
theorem first_out (c0 : cond0_0 i) (c1 : ¬cond0_1 i) :
    out0_A_2 c i a2 h2 a3 h3 a4 h4 c0 c1 x y = k0_pay1 x y := by
  unfold out0_A_2
  rw [View.read_writes_eq_canon _ _ _ (cover0_A_2 c i a2 h2 a3 h3 a4 h4 c0 c1 x y)]
  unfold kernelRun0_A
  dsimp only
  rw [View.canon_unit_zero o2]
  simp only [View.readAt_eq_ld, h2.read_unread, h3.read_unread, View.ld_unit_zero (S := S4096x768) o2, View.ld_unit_zero (S := S4096x1024) o2]

/-- The second half's point leaves the block plus its product. -/
theorem second_out (c0 : ¬cond0_0 i) (c1 : cond0_1 i) :
    out0_B_2 c i a2 h2 a3 h3 a4 h4 c0 c1 x y s = k0_pay2 x y s := by
  unfold out0_B_2
  rw [View.read_writes_eq_canon _ _ _ (cover0_B_2 c i a2 h2 a3 h3 a4 h4 c0 c1 x y s)]
  unfold kernelRun0_B
  dsimp only
  rw [View.canon_unit_zero o2]
  simp only [View.readAt_eq_ld, h2.read_unread, h3.read_unread, h4.read_unread, View.ld_unit_zero (S := S4096x768) o2, View.ld_unit_zero (S := S4096x1024) o2, View.ld_unit_zero (S := S768x1024) o2]

/-- A half's product at an index. -/
theorem half_at (p : Fin 768) (q : Fin 1024) :
    k0_pay1 x y (ix2 p q) = ∑ r : Fin 4096, x (ix2 r p) * y (ix2 r q) := by
  pointwise [k0_pay1]
/-- What the second half stores, at an index. -/
theorem both_at (p : Fin 768) (q : Fin 1024) :
    k0_pay2 x y s (ix2 p q) = s (ix2 p q) + ∑ r : Fin 4096, x (ix2 r p) * y (ix2 r q) := by
  pointwise [k0_pay2]
  rw [half_at]

end

variable (m : (ℓ : Loc nD τ sig) → Buf (Elt Ideal) ℓ) (ρ : Dev nD → PrngReg) (c : Dev nD)

/-- The product's left factor, a row a position. -/
abbrev aM : FVec Ideal S8192x768 .bf16 := m ((c.tc : Thread nD τ).loc main_arg0)
/-- The product's cotangent, a row a position. -/
abbrev aD : FVec Ideal S8192x1024 .bf16 := m ((c.tc : Thread nD τ).loc main_arg1)

/-- The number of the grid's points. -/
theorem ltN (t : Fin cfg0.N) : t.val < 2 * 1 := lt_of_lt_of_eq t.isLt N_0
/-- The block of the left factor's window. -/
theorem at0 : ∀ t : Fin cfg0.N, win0_0.index t = ![t.val % 2, 0] := by decide +kernel
/-- The block of the cotangent's window. -/
theorem at1 : ∀ t : Fin cfg0.N, win0_1.index t = ![t.val % 2, t.val / 2] := by decide +kernel
/-- The block of the result's window. -/
theorem at2 : ∀ t : Fin cfg0.N, win0_2.index t = ![0, t.val / 2] := by decide +kernel

/-- A column of a point's block. -/
def col (t : Fin cfg0.N) (q : Fin 1024) : Fin 1024 := ⟨1024 * (t.val / 2) + q.val, by have := ltN t; omega⟩
/-- The left factor's block at an index. -/
theorem m_at (t : Fin cfg0.N) (r : Fin 4096) (p : Fin 768) : iblk m c 0 t (ix2 r p) = aM m c (ix2 (pos t.val r) p) := by
  refine Eq.trans ?_ (congrFun (V_main_arg0 m c) _)
  unfold pos
  blk_ext [iblk, at0 t]
/-- The cotangent's block at an index. -/
theorem d_at (t : Fin cfg0.N) (r : Fin 4096) (q : Fin 1024) : iblk m c 1 t (ix2 r q) = aD m c (ix2 (pos t.val r) (col t q)) := by
  refine Eq.trans ?_ (congrFun (V_main_arg1 m c) _)
  unfold pos col
  blk_ext [iblk, at1 t]

/-- What a point of the second half leaves in the result's block: the sum over all the positions. -/
theorem blk_at (t : Fin cfg0.N) (ht : t.val % 2 = 1) (p : Fin 768) (q : Fin 1024) :
    outsAt0 m c t.val t.isLt (ix2 p q) = ∑ s : Fin 8192, aM m c (ix2 s p) * aD m c (ix2 s (col t q)) := by
  have hb : t.val - 1 < cfg0.N := Nat.lt_of_le_of_lt (Nat.sub_le _ _) t.isLt
  have h0 : (t.val - 1) % 2 = 0 := by omega
  have hc : col (⟨t.val - 1, hb⟩ : Fin cfg0.N) q = col t q := Fin.ext (by show 1024 * ((t.val - 1) / 2) + q.val = 1024 * (t.val / 2) + q.val; omega)
  rw [outsAt0_B m c t (by omega) ht, second_out, both_at, outsAt0_A m c ⟨t.val - 1, hb⟩ h0 (by show ¬(t.val - 1) % 2 = 1; omega), first_out, half_at]
  simp only [m_at, d_at, hc]
  exact Cert.Halves.sum_eq t.val ht fun s => aM m c (ix2 s p) * aD m c (ix2 s (col t q))

/-- The result's array after the run is the reference's result. -/
theorem arr2 : (dats m 0 c).arrAt 2 cfg0.N = dw (aM m c) (aD m c) := by
  refine (dats m 0 c).arrAt_eq_of_covers 2 _ (by decide +kernel) fun t hf y => ?_
  blk_simp
  rw [after0_2]
  idx_vars y
  refine (blk_at m c t ((flush0_2 t).1 hf) _ _).trans ((dw_at _ _ _ _).symm.trans ?_)
  unfold col
  refine congrArg (dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.UqIdeal.Hand

end
-- ==== Proof.W.Kv.lean ====
module

public import proofs.«01_k».proof.Proof.Gen.KvIdeal.Value
public import proofs.«01_k».proof.Proof.Gen.KvRefIdeal.Run
public import proofs.«01_k».proof.Proof.W.Halves
public import Idealize.ShloMosaic.Lib.Pipeline.ValueKit

/-!
The gradient of the key and value projection's weights. The kernel sums over the positions in two halves, the first kept in the result's block; the reference sums
over all of them at once.
-/

@[expose] public section

set_option maxRecDepth 16384

noncomputable section

namespace Cert.KvRefIdeal.Hand

open Cert.KvRefIdeal Cert.KvRefIdeal.Gen
open Idealize.ShloMosaic Idealize.ShloMosaic.TcCoe Idealize.ShloMosaic.Tactic Idealize.SL.Sem

/-- The reference's result, of its two arguments. -/
def dw (a : FVec Ideal S8192x256 .bf16) (d : FVec Ideal S8192x2048 .bf16) : FVec Ideal S256x2048 .f32 :=
  transpose S256x2048 [1, 0] (Host.dotGeneral dot_S8192x2048_S8192x256_S2048x256_0_0_1_1_n_n none (extf .f32 d bitsLt_bf16_f32) (extf .f32 a bitsLt_bf16_f32)) transposes_S2048x256_S256x2048_1_0

/-- The reference's result at an index. -/
theorem dw_at (a : FVec Ideal S8192x256 .bf16) (d : FVec Ideal S8192x2048 .bf16) (p : Fin 256) (q : Fin 2048) :
    dw a d (ix2 p q) = ∑ s : Fin 8192, a (ix2 s p) * d (ix2 s q) := by
  pointwise [dw]
  exact Finset.sum_congr rfl fun s _ => mul_comm _ _

end Cert.KvRefIdeal.Hand

namespace Cert.KvIdeal.Hand

open Cert.KvIdeal Cert.KvIdeal.Gen
open Idealize.ShloMosaic Idealize.ShloMosaic.TcCoe Idealize.ShloMosaic.Tactic Idealize.SL.Sem
open Cert.KvRefIdeal.Hand (dw dw_at)
open Cert.Halves (o2 pos)

section
variable (c : Dev nD) (i : grid0.Coords) (a2 : Memref sig .tc .vmem S4096x256 .bf16) (h2 : a2.IsWhole) (a3 : Memref sig .tc .vmem S4096x1024 .bf16) (h3 : a3.IsWhole)
  (a4 : Memref sig .tc .vmem S256x1024 .f32) (h4 : a4.IsWhole) (x : Vec Ideal S4096x256 .bf16) (y : Vec Ideal S4096x1024 .bf16) (s : Vec Ideal S256x1024 .f32)

/-- The first half's point leaves its product in the result's block. -/
theorem first_out (c0 : cond0_0 i) (c1 : ¬cond0_1 i) :
    out0_A_2 c i a2 h2 a3 h3 a4 h4 c0 c1 x y = k0_pay1 x y := by
  unfold out0_A_2
  rw [View.read_writes_eq_canon _ _ _ (cover0_A_2 c i a2 h2 a3 h3 a4 h4 c0 c1 x y)]
  unfold kernelRun0_A
  dsimp only
  rw [View.canon_unit_zero o2]
  simp only [View.readAt_eq_ld, h2.read_unread, h3.read_unread, View.ld_unit_zero (S := S4096x256) o2, View.ld_unit_zero (S := S4096x1024) o2]

/-- The second half's point leaves the block plus its product. -/
theorem second_out (c0 : ¬cond0_0 i) (c1 : cond0_1 i) :
    out0_B_2 c i a2 h2 a3 h3 a4 h4 c0 c1 x y s = k0_pay2 x y s := by
  unfold out0_B_2
  rw [View.read_writes_eq_canon _ _ _ (cover0_B_2 c i a2 h2 a3 h3 a4 h4 c0 c1 x y s)]
  unfold kernelRun0_B
  dsimp only
  rw [View.canon_unit_zero o2]
  simp only [View.readAt_eq_ld, h2.read_unread, h3.read_unread, h4.read_unread, View.ld_unit_zero (S := S4096x256) o2, View.ld_unit_zero (S := S4096x1024) o2, View.ld_unit_zero (S := S256x1024) o2]

/-- A half's product at an index. -/
theorem half_at (p : Fin 256) (q : Fin 1024) :
    k0_pay1 x y (ix2 p q) = ∑ r : Fin 4096, x (ix2 r p) * y (ix2 r q) := by
  pointwise [k0_pay1]
/-- What the second half stores, at an index. -/
theorem both_at (p : Fin 256) (q : Fin 1024) :
    k0_pay2 x y s (ix2 p q) = s (ix2 p q) + ∑ r : Fin 4096, x (ix2 r p) * y (ix2 r q) := by
  pointwise [k0_pay2]
  rw [half_at]

end

variable (m : (ℓ : Loc nD τ sig) → Buf (Elt Ideal) ℓ) (ρ : Dev nD → PrngReg) (c : Dev nD)

/-- The product's left factor, a row a position. -/
abbrev aM : FVec Ideal S8192x256 .bf16 := m ((c.tc : Thread nD τ).loc main_arg0)
/-- The product's cotangent, a row a position. -/
abbrev aD : FVec Ideal S8192x2048 .bf16 := m ((c.tc : Thread nD τ).loc main_arg1)

/-- The number of the grid's points. -/
theorem ltN (t : Fin cfg0.N) : t.val < 2 * 2 := lt_of_lt_of_eq t.isLt N_0
/-- The block of the left factor's window. -/
theorem at0 : ∀ t : Fin cfg0.N, win0_0.index t = ![t.val % 2, 0] := by decide +kernel
/-- The block of the cotangent's window. -/
theorem at1 : ∀ t : Fin cfg0.N, win0_1.index t = ![t.val % 2, t.val / 2] := by decide +kernel
/-- The block of the result's window. -/
theorem at2 : ∀ t : Fin cfg0.N, win0_2.index t = ![0, t.val / 2] := by decide +kernel

/-- A column of a point's block. -/
def col (t : Fin cfg0.N) (q : Fin 1024) : Fin 2048 := ⟨1024 * (t.val / 2) + q.val, by have := ltN t; omega⟩
/-- The left factor's block at an index. -/
theorem m_at (t : Fin cfg0.N) (r : Fin 4096) (p : Fin 256) : iblk m c 0 t (ix2 r p) = aM m c (ix2 (pos t.val r) p) := by
  refine Eq.trans ?_ (congrFun (V_main_arg0 m c) _)
  unfold pos
  blk_ext [iblk, at0 t]
/-- The cotangent's block at an index. -/
theorem d_at (t : Fin cfg0.N) (r : Fin 4096) (q : Fin 1024) : iblk m c 1 t (ix2 r q) = aD m c (ix2 (pos t.val r) (col t q)) := by
  refine Eq.trans ?_ (congrFun (V_main_arg1 m c) _)
  unfold pos col
  blk_ext [iblk, at1 t]

/-- What a point of the second half leaves in the result's block: the sum over all the positions. -/
theorem blk_at (t : Fin cfg0.N) (ht : t.val % 2 = 1) (p : Fin 256) (q : Fin 1024) :
    outsAt0 m c t.val t.isLt (ix2 p q) = ∑ s : Fin 8192, aM m c (ix2 s p) * aD m c (ix2 s (col t q)) := by
  have hb : t.val - 1 < cfg0.N := Nat.lt_of_le_of_lt (Nat.sub_le _ _) t.isLt
  have h0 : (t.val - 1) % 2 = 0 := by omega
  have hc : col (⟨t.val - 1, hb⟩ : Fin cfg0.N) q = col t q := Fin.ext (by show 1024 * ((t.val - 1) / 2) + q.val = 1024 * (t.val / 2) + q.val; omega)
  rw [outsAt0_B m c t (by omega) ht, second_out, both_at, outsAt0_A m c ⟨t.val - 1, hb⟩ h0 (by show ¬(t.val - 1) % 2 = 1; omega), first_out, half_at]
  simp only [m_at, d_at, hc]
  exact Cert.Halves.sum_eq t.val ht fun s => aM m c (ix2 s p) * aD m c (ix2 s (col t q))

/-- The result's array after the run is the reference's result. -/
theorem arr2 : (dats m 0 c).arrAt 2 cfg0.N = dw (aM m c) (aD m c) := by
  refine (dats m 0 c).arrAt_eq_of_covers 2 _ (by decide +kernel) fun t hf y => ?_
  blk_simp
  rw [after0_2]
  idx_vars y
  refine (blk_at m c t ((flush0_2 t).1 hf) _ _).trans ((dw_at _ _ _ _).symm.trans ?_)
  unfold col
  refine congrArg (dw (aM m c) (aD m c)) ?_
  blk_ext [at2 t]

/-- Every run ends with the reference's result in the result's array and the arguments as they were. -/
theorem run_value : θ_run defs (onTc (τ := τ) (main (F := Ideal))) ⟨m, fun _ => 0, ρ⟩ (fun r => ∀ c : Dev nD,
      r.2.mem ((c.tc : Thread nD τ).loc main_v0) = dw (aM m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (arr2 m c), (h c).2⟩) (Value.run_blocks m ρ)

end Cert.KvIdeal.Hand

end
-- ==== Proof.lean ====
/-
The proof of the certificate's claim. The kernel's run, as printed and over the reals, is Proof/K/ and Proof/KI/: each
grid point in turn, then the sixty-four points together. What the run computes is Proof/V/: the reference's results and
the kernel's, each as the real sums of the attention's backward pass. The calls for the gradients of the MLP's weights are Proof/W/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.K.Run
public import proofs.«01_k».proof.Proof.KI.Run
public import proofs.«01_k».proof.Proof.V.Final
public import proofs.«01_k».proof.Proof.V.Finite
public import proofs.«01_k».proof.Proof.Gen.Up.Frame
public import proofs.«01_k».proof.Proof.W.Up
public import proofs.«01_k».proof.Proof.Gen.Down.Frame
public import proofs.«01_k».proof.Proof.W.Down
public import proofs.«01_k».proof.Proof.Gen.Mlp.Frame
public import proofs.«01_k».proof.Proof.W.Mlp
public import proofs.«01_k».proof.Proof.Gen.Back.Frame
public import proofs.«01_k».proof.Proof.W.Back
public import proofs.«01_k».proof.Proof.Gen.In.Frame
public import proofs.«01_k».proof.Proof.W.In
public import proofs.«01_k».proof.Proof.Gen.Att.Frame
public import proofs.«01_k».proof.Proof.W.Att
public import proofs.«01_k».proof.Proof.Gen.Ssd.Frame
public import proofs.«01_k».proof.Proof.W.Ssd
public import proofs.«01_k».proof.Proof.Gen.Uq.Frame
public import proofs.«01_k».proof.Proof.W.Uq
public import proofs.«01_k».proof.Proof.Gen.Kv.Frame
public import proofs.«01_k».proof.Proof.W.Kv
public import Idealize.ShloMosaic.Adequacy
public import Idealize.ShloMosaic.Init

@[expose] public section

noncomputable section

namespace Cert.Proof

open Idealize.ShloMosaic Idealize.SL.Sem

/-- The kernel as printed runs, keeps its arguments and leaves its semaphores at zero. -/
theorem frame_p : Cert.quiescent_Kernel := fun m ρ _ => Cert.Kernel.Hand.frame m ρ

/-- So does the kernel over the reals. -/
theorem frame_pi : Cert.quiescent_KernelIdeal := fun m ρ _ => Cert.KernelIdeal.Hand.frame m ρ

/-- And so it does when its arguments are finite. -/
theorem frame_pi_finite : Cert.quiescent_KernelIdeal_pre_finite := fun m ρ _ => frame_pi m ρ trivial

/-- The reference runs and keeps its arguments; it has no semaphores. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- And so it does when its arguments are finite. -/
theorem frame_ri_finite : Cert.quiescent_ReferenceIdeal_pre_finite := fun m ρ _ => frame_ri m ρ trivial

/-- The one named constant is the scale over the logarithm of two. -/
theorem preserves : Cert.preserves_Kernel_KernelIdeal :=
  IdealRules.named_const.statement Cert.KernelIdeal.κ "scale_log2" .f32 0x3E16C740#32 (((3424635 / 33554432) * (Real.log 2)⁻¹ : ℝ) : EReal) rfl

/-- On finite arguments the kernel's three results over the reals are the reference's. -/
theorem algebraic : Cert.algebraic_KernelIdeal_ReferenceIdeal_pre_finite := by
  intro m ρ m' ρ' hpre hagree
  refine ⟨Cert.KernelIdeal.Hand.want0 m, Cert.KernelIdeal.Hand.want1 m, Cert.KernelIdeal.Hand.want2 m,
    Cert.KernelIdeal.Hand.run_value ρ fun c => Cert.Pre_finite.holds_of (hpre c), ?_⟩
  refine (θ_run Cert.ReferenceIdeal.defs _ _).mono (fun r h c => ?_) (Cert.ReferenceIdeal.Value.run (F := Ideal) m' ρ')
  obtain ⟨e0, e1, e2, e3⟩ := hagree c
  refine ⟨(h c).1.trans ((Cert.ReferenceIdeal.Hand.res0 m' c).trans ?_), (h c).2.1.trans ((Cert.ReferenceIdeal.Hand.res1 m' c).trans ?_),
    (h c).2.2.1.trans ((Cert.ReferenceIdeal.Hand.res2 m' c).trans ?_), (h c).2.2.2⟩
  · unfold Cert.ReferenceIdeal.Hand.aQ Cert.ReferenceIdeal.Hand.aK Cert.ReferenceIdeal.Hand.aV Cert.ReferenceIdeal.Hand.aD Cert.KernelIdeal.Hand.want0
    rw [e0, e1, e2, e3]
  · unfold Cert.ReferenceIdeal.Hand.aQ Cert.ReferenceIdeal.Hand.aK Cert.ReferenceIdeal.Hand.aV Cert.ReferenceIdeal.Hand.aD Cert.KernelIdeal.Hand.want1
    rw [e0, e1, e2, e3]
  · unfold Cert.ReferenceIdeal.Hand.aQ Cert.ReferenceIdeal.Hand.aK Cert.ReferenceIdeal.Hand.aD Cert.KernelIdeal.Hand.want2
    rw [e0, e1, e3]

/-- The call for the gradient of the first weights runs, keeps its arguments and leaves its semaphores at zero. -/
theorem frame_up : Cert.quiescent_Up := fun m ρ _ => Cert.Up.Gen.frame m ρ

/-- So does it over the reals. -/
theorem frame_up_ideal : Cert.quiescent_UpIdeal := fun m ρ _ => Cert.UpIdeal.Gen.frame m ρ

/-- Its reference runs and keeps its arguments; it has no semaphores. -/
theorem frame_up_ref : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

/-- Over the reals the call's result is the gradient of the first weights, for all arguments. -/
theorem algebraic_up : Cert.algebraic_UpIdeal_UpRefIdeal := by
  intro m ρ m' ρ' _ hagree
  refine ⟨fun c => Cert.UpRefIdeal.Hand.dw (Cert.UpIdeal.Hand.aM m c) (Cert.UpIdeal.Hand.aD m c), Cert.UpIdeal.Hand.run_value m ρ, ?_⟩
  refine (θ_run Cert.UpRefIdeal.defs _ _).mono (fun r h c => ?_) (Cert.UpRefIdeal.Value.run (F := Ideal) m' ρ')
  obtain ⟨e0, e1⟩ := hagree c
  refine ⟨(h c).1.trans ?_, (h c).2⟩
  rw [e0, e1]
  rfl

/-- The call for the gradient of the second weights runs, keeps its arguments and leaves its semaphores at zero. -/
theorem frame_down : Cert.quiescent_Down := fun m ρ _ => Cert.Down.Gen.frame m ρ

/-- So does it over the reals. -/
theorem frame_down_ideal : Cert.quiescent_DownIdeal := fun m ρ _ => Cert.DownIdeal.Gen.frame m ρ

/-- Its reference runs and keeps its arguments; it has no semaphores. -/
theorem frame_down_ref : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

/-- Over the reals the call's result is the gradient of the second weights, for all arguments. -/
theorem algebraic_down : Cert.algebraic_DownIdeal_DownRefIdeal := by
  intro m ρ m' ρ' _ hagree
  refine ⟨fun c => Cert.DownRefIdeal.Hand.dw (Cert.DownIdeal.Hand.aM m c) (Cert.DownIdeal.Hand.aD m c), Cert.DownIdeal.Hand.run_value m ρ, ?_⟩
  refine (θ_run Cert.DownRefIdeal.defs _ _).mono (fun r h c => ?_) (Cert.DownRefIdeal.Value.run (F := Ideal) m' ρ')
  obtain ⟨e0, e1⟩ := hagree c
  refine ⟨(h c).1.trans ?_, (h c).2⟩
  rw [e0, e1]
  rfl

/-- The MLP's forward call runs, keeps its arguments and leaves its semaphores at zero. -/
theorem frame_mlp : Cert.quiescent_Mlp := fun m ρ _ => Cert.Mlp.Gen.frame m ρ

/-- So does it over the reals. -/
theorem frame_mlp_ideal : Cert.quiescent_MlpIdeal := fun m ρ _ => Cert.MlpIdeal.Gen.frame m ρ

/-- Its reference runs and keeps its arguments; it has no semaphores. -/
theorem frame_mlp_ref : Cert.quiescent_MlpRefIdeal := fun m ρ _ =>
  (θ_run Cert.MlpRefIdeal.defs _ _).mono (fun r h => ⟨fun c => (h c).2.2.2.2,
      Idealize.ShloMosaic.sem_eq_zero_of_no_sems (by decide) r.2⟩)
    (Cert.MlpRefIdeal.Value.run (F := Ideal) m ρ)

/-- Over the reals the call's four results are the reference's, for all arguments: the normed rows, the activations, the
    second product and the sum of the residual stream with the normed second product. -/
theorem algebraic_mlp : Cert.algebraic_MlpIdeal_MlpRefIdeal := by
  intro m ρ m' ρ' _ hagree
  refine ⟨_, _, _, _, Cert.MlpIdeal.Hand.run_value m ρ, ?_⟩
  refine (θ_run Cert.MlpRefIdeal.defs _ _).mono (fun r h c => ?_) (Cert.MlpRefIdeal.Value.run (F := Ideal) m' ρ')
  obtain ⟨e0, e1, e2, e3, e4⟩ := hagree c
  refine ⟨(h c).1.trans ?_, (h c).2.1.trans ?_, (h c).2.2.1.trans ?_, (h c).2.2.2.1.trans ?_, (h c).2.2.2.2⟩
  · rw [e0, e1]
    rfl
  · rw [e0, e1, e2]
    rfl
  · rw [e0, e1, e2, e3]
    rfl
  · unfold Cert.MlpRefIdeal.Value.res_main_v33
    rw [e0, e1, e2, e3, e4]
    rfl

/-- The call for the gradient of the input projection's weights runs, keeps its arguments and leaves its semaphores at zero. -/
theorem frame_in : Cert.quiescent_In := fun m ρ _ => Cert.In.Gen.frame m ρ

/-- So does it over the reals. -/
theorem frame_in_ideal : Cert.quiescent_InIdeal := fun m ρ _ => Cert.InIdeal.Gen.frame m ρ

/-- Its reference runs and keeps its arguments; it has no semaphores. -/
theorem frame_in_ref : Cert.quiescent_InRefIdeal := fun m ρ _ =>
  (θ_run Cert.InRefIdeal.defs _ _).mono (fun r h => ⟨fun c => (h c).2,
      Idealize.ShloMosaic.sem_eq_zero_of_no_sems (by decide) r.2⟩)
    (Cert.InRefIdeal.Value.run (F := Ideal) m ρ)

/-- Over the reals the call's result is the gradient of the input projection's weights, for all arguments. -/
theorem algebraic_in : Cert.algebraic_InIdeal_InRefIdeal := by
  intro m ρ m' ρ' _ hagree
  refine ⟨fun c => Cert.InRefIdeal.Hand.dw (Cert.InIdeal.Hand.aM m c) (Cert.InIdeal.Hand.aD m c), Cert.InIdeal.Hand.run_value m ρ, ?_⟩
  refine (θ_run Cert.InRefIdeal.defs _ _).mono (fun r h c => ?_) (Cert.InRefIdeal.Value.run (F := Ideal) m' ρ')
  obtain ⟨e0, e1⟩ := hagree c
  refine ⟨(h c).1.trans ?_, (h c).2⟩
  rw [e0, e1]
  rfl

/-- The call for the gradient of the output projection's rows of the attention runs, keeps its arguments and leaves its semaphores at zero. -/
theorem frame_att : Cert.quiescent_Att := fun m ρ _ => Cert.Att.Gen.frame m ρ

/-- So does it over the reals. -/
theorem frame_att_ideal : Cert.quiescent_AttIdeal := fun m ρ _ => Cert.AttIdeal.Gen.frame m ρ

/-- Its reference runs and keeps its arguments; it has no semaphores. -/
theorem frame_att_ref : Cert.quiescent_AttRefIdeal := fun m ρ _ =>
  (θ_run Cert.AttRefIdeal.defs _ _).mono (fun r h => ⟨fun c => (h c).2,
      Idealize.ShloMosaic.sem_eq_zero_of_no_sems (by decide) r.2⟩)
    (Cert.AttRefIdeal.Value.run (F := Ideal) m ρ)

/-- Over the reals the call's result is the gradient of the output projection's rows of the attention, for all arguments. -/
theorem algebraic_att : Cert.algebraic_AttIdeal_AttRefIdeal := by
  intro m ρ m' ρ' _ hagree
  refine ⟨fun c => Cert.AttRefIdeal.Hand.dw (Cert.AttIdeal.Hand.aM m c) (Cert.AttIdeal.Hand.aD m c), Cert.AttIdeal.Hand.run_value m ρ, ?_⟩
  refine (θ_run Cert.AttRefIdeal.defs _ _).mono (fun r h c => ?_) (Cert.AttRefIdeal.Value.run (F := Ideal) m' ρ')
  obtain ⟨e0, e1⟩ := hagree c
  refine ⟨(h c).1.trans ?_, (h c).2⟩
  rw [e0, e1]
  rfl

/-- The call for the gradient of the output projection's rows of the scan runs, keeps its arguments and leaves its semaphores at zero. -/
theorem frame_ssd : Cert.quiescent_Ssd := fun m ρ _ => Cert.Ssd.Gen.frame m ρ

/-- So does it over the reals. -/
theorem frame_ssd_ideal : Cert.quiescent_SsdIdeal := fun m ρ _ => Cert.SsdIdeal.Gen.frame m ρ

/-- Its reference runs and keeps its arguments; it has no semaphores. -/
theorem frame_ssd_ref : Cert.quiescent_SsdRefIdeal := fun m ρ _ =>
  (θ_run Cert.SsdRefIdeal.defs _ _).mono (fun r h => ⟨fun c => (h c).2,
      Idealize.ShloMosaic.sem_eq_zero_of_no_sems (by decide) r.2⟩)
    (Cert.SsdRefIdeal.Value.run (F := Ideal) m ρ)

/-- Over the reals the call's result is the gradient of the output projection's rows of the scan, for all arguments. -/
theorem algebraic_ssd : Cert.algebraic_SsdIdeal_SsdRefIdeal := by
  intro m ρ m' ρ' _ hagree
  refine ⟨fun c => Cert.SsdRefIdeal.Hand.dw (Cert.SsdIdeal.Hand.aM m c) (Cert.SsdIdeal.Hand.aD m c), Cert.SsdIdeal.Hand.run_value m ρ, ?_⟩
  refine (θ_run Cert.SsdRefIdeal.defs _ _).mono (fun r h c => ?_) (Cert.SsdRefIdeal.Value.run (F := Ideal) m' ρ')
  obtain ⟨e0, e1⟩ := hagree c
  refine ⟨(h c).1.trans ?_, (h c).2⟩
  rw [e0, e1]
  rfl

/-- The call for the gradient of the query projection's weights runs, keeps its arguments and leaves its semaphores at zero. -/
theorem frame_uq : Cert.quiescent_Uq := fun m ρ _ => Cert.Uq.Gen.frame m ρ

/-- So does it over the reals. -/
theorem frame_uq_ideal : Cert.quiescent_UqIdeal := fun m ρ _ => Cert.UqIdeal.Gen.frame m ρ

/-- Its reference runs and keeps its arguments; it has no semaphores. -/
theorem frame_uq_ref : Cert.quiescent_UqRefIdeal := fun m ρ _ =>
  (θ_run Cert.UqRefIdeal.defs _ _).mono (fun r h => ⟨fun c => (h c).2,
      Idealize.ShloMosaic.sem_eq_zero_of_no_sems (by decide) r.2⟩)
    (Cert.UqRefIdeal.Value.run (F := Ideal) m ρ)

/-- Over the reals the call's result is the gradient of the query projection's weights, for all arguments. -/
theorem algebraic_uq : Cert.algebraic_UqIdeal_UqRefIdeal := by
  intro m ρ m' ρ' _ hagree
  refine ⟨fun c => Cert.UqRefIdeal.Hand.dw (Cert.UqIdeal.Hand.aM m c) (Cert.UqIdeal.Hand.aD m c), Cert.UqIdeal.Hand.run_value m ρ, ?_⟩
  refine (θ_run Cert.UqRefIdeal.defs _ _).mono (fun r h c => ?_) (Cert.UqRefIdeal.Value.run (F := Ideal) m' ρ')
  obtain ⟨e0, e1⟩ := hagree c
  refine ⟨(h c).1.trans ?_, (h c).2⟩
  rw [e0, e1]
  rfl

/-- The call for the gradient of the key and value projection's weights runs, keeps its arguments and leaves its semaphores at zero. -/
theorem frame_kv : Cert.quiescent_Kv := fun m ρ _ => Cert.Kv.Gen.frame m ρ

/-- So does it over the reals. -/
theorem frame_kv_ideal : Cert.quiescent_KvIdeal := fun m ρ _ => Cert.KvIdeal.Gen.frame m ρ

/-- Its reference runs and keeps its arguments; it has no semaphores. -/
theorem frame_kv_ref : Cert.quiescent_KvRefIdeal := fun m ρ _ =>
  (θ_run Cert.KvRefIdeal.defs _ _).mono (fun r h => ⟨fun c => (h c).2,
      Idealize.ShloMosaic.sem_eq_zero_of_no_sems (by decide) r.2⟩)
    (Cert.KvRefIdeal.Value.run (F := Ideal) m ρ)

/-- Over the reals the call's result is the gradient of the key and value projection's weights, for all arguments. -/
theorem algebraic_kv : Cert.algebraic_KvIdeal_KvRefIdeal := by
  intro m ρ m' ρ' _ hagree
  refine ⟨fun c => Cert.KvRefIdeal.Hand.dw (Cert.KvIdeal.Hand.aM m c) (Cert.KvIdeal.Hand.aD m c), Cert.KvIdeal.Hand.run_value m ρ, ?_⟩
  refine (θ_run Cert.KvRefIdeal.defs _ _).mono (fun r h c => ?_) (Cert.KvRefIdeal.Value.run (F := Ideal) m' ρ')
  obtain ⟨e0, e1⟩ := hagree c
  refine ⟨(h c).1.trans ?_, (h c).2⟩
  rw [e0, e1]
  rfl

/-- The MLP's backward call runs, keeps its arguments and leaves its semaphores at zero. -/
theorem frame_back : Cert.quiescent_Back := fun m ρ _ => Cert.Back.Gen.frame m ρ

/-- So does it over the reals. -/
theorem frame_back_ideal : Cert.quiescent_BackIdeal := fun m ρ _ => Cert.BackIdeal.Gen.frame m ρ

/-- Its reference runs and keeps its arguments; it has no semaphores. -/
theorem frame_back_ref : Cert.quiescent_BackRefIdeal := fun m ρ _ =>
  (θ_run Cert.BackRefIdeal.defs _ _).mono (fun r h => ⟨fun c => (h c).2.2.2.2.2,
      Idealize.ShloMosaic.sem_eq_zero_of_no_sems (by decide) r.2⟩)
    (Cert.BackRefIdeal.Value.run (F := Ideal) m ρ)

/-- Over the reals the call's five results are the gradients of the MLP's input, of its activations, of its second product and of its two norms'
weights, for all arguments. -/
theorem algebraic_back : Cert.algebraic_BackIdeal_BackRefIdeal := by
  intro m ρ m' ρ' _ hagree
  refine ⟨_, _, _, _, _, Cert.BackIdeal.Hand.run_value m ρ, ?_⟩
  refine (θ_run Cert.BackRefIdeal.defs _ _).mono (fun r h c => ?_) (Cert.BackRefIdeal.Value.run (F := Ideal) m' ρ')
  obtain ⟨e0, e1, e2, e3, e4, e5, e6, e7⟩ := hagree c
  refine ⟨(h c).1.trans ?_, (h c).2.1.trans ?_, (h c).2.2.1.trans ?_, (h c).2.2.2.1.trans ?_, (h c).2.2.2.2.1.trans ?_, (h c).2.2.2.2.2⟩
  · unfold Cert.BackRefIdeal.Value.res_main_v89
    rw [e0, e1, e2, e3, e4, e5, e6, e7]
    rfl
  · rw [e0, e1, e3, e6, e7]
    rfl
  · rw [e0, e1, e7]
    rfl
  · rw [e0, e1]
    rfl
  · rw [e0, e1, e2, e3, e5, e6, e7]
    rfl

/-- The certificate's claim. -/
theorem claim : Cert.Claim :=
  ⟨Cert.Kernel.Gen.facts, Cert.KernelIdeal.Gen.facts, Cert.ReferenceIdeal.Gen.facts, Cert.Up.Gen.facts, Cert.UpIdeal.Gen.facts, Cert.UpRefIdeal.Gen.facts, Cert.Down.Gen.facts, Cert.DownIdeal.Gen.facts, Cert.DownRefIdeal.Gen.facts, Cert.Mlp.Gen.facts, Cert.MlpIdeal.Gen.facts, Cert.MlpRefIdeal.Gen.facts, Cert.In.Gen.facts, Cert.InIdeal.Gen.facts, Cert.InRefIdeal.Gen.facts, Cert.Att.Gen.facts, Cert.AttIdeal.Gen.facts, Cert.AttRefIdeal.Gen.facts, Cert.Ssd.Gen.facts, Cert.SsdIdeal.Gen.facts, Cert.SsdRefIdeal.Gen.facts, Cert.Uq.Gen.facts, Cert.UqIdeal.Gen.facts, Cert.UqRefIdeal.Gen.facts, Cert.Kv.Gen.facts, Cert.KvIdeal.Gen.facts, Cert.KvRefIdeal.Gen.facts, Cert.Back.Gen.facts, Cert.BackIdeal.Gen.facts, Cert.BackRefIdeal.Gen.facts, Cert.Pre_finite.Gen.facts,
    frame_p, frame_pi, frame_pi_finite, frame_ri, frame_ri_finite, frame_up, frame_up_ideal, frame_up_ref, frame_down, frame_down_ideal, frame_down_ref, frame_mlp, frame_mlp_ideal, frame_mlp_ref, frame_in, frame_in_ideal, frame_in_ref, frame_att, frame_att_ideal, frame_att_ref, frame_ssd, frame_ssd_ideal, frame_ssd_ref, frame_uq, frame_uq_ideal, frame_uq_ref, frame_kv, frame_kv_ideal, frame_kv_ref, frame_back, frame_back_ideal, frame_back_ref, preserves, algebraic, trivial, algebraic_up, trivial, algebraic_down, trivial, algebraic_mlp, trivial, algebraic_in, trivial, algebraic_att, trivial, algebraic_ssd, trivial, algebraic_uq, trivial, algebraic_kv, trivial, algebraic_back⟩

end Cert.Proof

end
